-- ==== Defs.lean ====
def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_finite_scores [hPre_finite_scores : Cert.Pre_finite_scores.Facts] (m : (ℓ : Loc Cert.WinIdeal.nD Cert.WinIdeal.τ Cert.WinIdeal.sig) → Buf (Elt Ideal) ℓ) : Prop :=
  ∀ c : Dev Cert.WinIdeal.nD,
    (Cert.Pre_finite_scores.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2))) = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_finite_scores [hPre_finite_scores : Cert.Pre_finite_scores.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_finite_scores.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpIdeal_finite_biases [hPre_finite_biases : Cert.Pre_finite_biases.Facts] (m : (ℓ : Loc Cert.CmpIdeal.nD Cert.CmpIdeal.τ Cert.CmpIdeal.sig) → Buf (Elt Ideal) ℓ) : Prop :=
  ∀ c : Dev Cert.CmpIdeal.nD,
    (Cert.Pre_finite_biases.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3))) = (fun _ => 1#1)

def Pre_CmpRefIdeal (m : (ℓ : Loc Cert.CmpRefIdeal.nD Cert.CmpRefIdeal.τ Cert.CmpRefIdeal.sig) → Buf (Elt Ideal) ℓ) : Prop :=
  True

def Pre_CmpRefIdeal_finite_biases [hPre_finite_biases : Cert.Pre_finite_biases.Facts] (m : (ℓ : Loc Cert.CmpRefIdeal.nD Cert.CmpRefIdeal.τ Cert.CmpRefIdeal.sig) → Buf (Elt Ideal) ℓ) : Prop :=
  ∀ c : Dev Cert.CmpRefIdeal.nD,
    (Cert.Pre_finite_biases.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3))) = (fun _ => 1#1)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinIdeal_pre_finite_scores [hWinIdeal : Cert.WinIdeal.Facts] [hPre_finite_scores : Cert.Pre_finite_scores.Facts] : Prop :=
  ∀ (m : (ℓ : Loc Cert.WinIdeal.nD Cert.WinIdeal.τ Cert.WinIdeal.sig) → Buf (Elt Ideal) ℓ) (g : Dev Cert.WinIdeal.nD → PrngReg), Pre_WinIdeal_finite_scores m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_WinRefIdeal_pre_finite_scores [hWinRefIdeal : Cert.WinRefIdeal.Facts] [hPre_finite_scores : Cert.Pre_finite_scores.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_finite_scores m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3)
      ∧ r.2.mem ((c.tc : Thread Cert.Query.nD Cert.Query.τ).loc Cert.Query.main_arg4) = m ((c.tc : Thread Cert.Query.nD Cert.Query.τ).loc Cert.Query.main_arg4))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
      ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3)
      ∧ r.2.mem ((c.tc : Thread Cert.QueryRefIdeal.nD Cert.QueryRefIdeal.τ).loc Cert.QueryRefIdeal.main_arg4) = m ((c.tc : Thread Cert.QueryRefIdeal.nD Cert.QueryRefIdeal.τ).loc Cert.QueryRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ r.2.sem = fun _ => 0)

def quiescent_CmpIdeal_pre_finite_biases [hCmpIdeal : Cert.CmpIdeal.Facts] [hPre_finite_biases : Cert.Pre_finite_biases.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal_finite_biases m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3))
      ∧ r.2.sem = fun _ => 0)

def quiescent_CmpRefIdeal_pre_finite_biases [hCmpRefIdeal : Cert.CmpRefIdeal.Facts] [hPre_finite_biases : Cert.Pre_finite_biases.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal_finite_biases m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3))
      ∧ r.2.sem = fun _ => 0)

def preserves_Win_WinIdeal : Prop :=
  IdealRules.named_const.Statement Cert.WinIdeal.κ "mask" .f32 0xF149F2CA#32 ⊥

def algebraic_WinIdeal_WinRefIdeal_pre_finite_scores [hWinIdeal : Cert.WinIdeal.Facts] [hWinRefIdeal : Cert.WinRefIdeal.Facts] [hPre_finite_scores : Cert.Pre_finite_scores.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal_finite_scores m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)) →
    ∃ (v0 : (c : Dev Cert.WinIdeal.nD) → Buf (Elt Ideal) ((c.tc : Thread Cert.WinIdeal.nD Cert.WinIdeal.τ).loc Cert.WinIdeal.main_v116)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v116) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v66) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v2_0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2_0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v19) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)
      ∧ m' ((c.tc : Thread Cert.QueryRefIdeal.nD Cert.QueryRefIdeal.τ).loc Cert.QueryRefIdeal.main_arg4) = m ((c.tc : Thread Cert.QueryIdeal.nD Cert.QueryIdeal.τ).loc Cert.QueryIdeal.main_arg4)) →
    ∃ (v0 : (c : Dev Cert.QueryIdeal.nD) → Buf (Elt Ideal) ((c.tc : Thread Cert.QueryIdeal.nD Cert.QueryIdeal.τ).loc Cert.QueryIdeal.main_v2_0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v2_0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
          ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v19) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3)
          ∧ r.2.mem ((c.tc : Thread Cert.QueryRefIdeal.nD Cert.QueryRefIdeal.τ).loc Cert.QueryRefIdeal.main_arg4) = m' ((c.tc : Thread Cert.QueryRefIdeal.nD Cert.QueryRefIdeal.τ).loc Cert.QueryRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v11)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v11) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v40) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v17) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_Cmp_CmpIdeal : Prop :=
  IdealRules.named_const.Statement Cert.CmpIdeal.κ "mask" .f32 0xF149F2CA#32 ⊥
  ∧ IdealRules.named_const.Statement Cert.CmpIdeal.κ "half" .f32 0xF0C9F2CA#32 ⊥

def algebraic_CmpIdeal_CmpRefIdeal_pre_finite_biases [hCmpIdeal : Cert.CmpIdeal.Facts] [hCmpRefIdeal : Cert.CmpRefIdeal.Facts] [hPre_finite_biases : Cert.Pre_finite_biases.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal_finite_biases m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)) →
    ∃ (v0 : (c : Dev Cert.CmpIdeal.nD) → Buf (Elt Ideal) ((c.tc : Thread Cert.CmpIdeal.nD Cert.CmpIdeal.τ).loc Cert.CmpIdeal.main_v105_0)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v105_0) = v0 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v69) = v0 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3))

def Claim : Prop :=
  ∃ (hWin : Cert.Win.Facts) (hWinIdeal : Cert.WinIdeal.Facts) (hWinRefIdeal : Cert.WinRefIdeal.Facts) (hProj : Cert.Proj.Facts) (hProjIdeal : Cert.ProjIdeal.Facts) (hProjRefIdeal : Cert.ProjRefIdeal.Facts) (hQuery : Cert.Query.Facts) (hQueryIdeal : Cert.QueryIdeal.Facts) (hQueryRefIdeal : Cert.QueryRefIdeal.Facts) (hMix : Cert.Mix.Facts) (hMixIdeal : Cert.MixIdeal.Facts) (hMixRefIdeal : Cert.MixRefIdeal.Facts) (hFinal : Cert.Final.Facts) (hFinalIdeal : Cert.FinalIdeal.Facts) (hFinalRefIdeal : Cert.FinalRefIdeal.Facts) (hCmp : Cert.Cmp.Facts) (hCmpIdeal : Cert.CmpIdeal.Facts) (hCmpRefIdeal : Cert.CmpRefIdeal.Facts) (hPre_finite_scores : Cert.Pre_finite_scores.Facts) (hPre_finite_biases : Cert.Pre_finite_biases.Facts),
    quiescent_Win (hWin := hWin)
    ∧ quiescent_WinIdeal (hWinIdeal := hWinIdeal)
    ∧ quiescent_WinIdeal_pre_finite_scores (hWinIdeal := hWinIdeal) (hPre_finite_scores := hPre_finite_scores)
    ∧ quiescent_WinRefIdeal (hWinRefIdeal := hWinRefIdeal)
    ∧ quiescent_WinRefIdeal_pre_finite_scores (hWinRefIdeal := hWinRefIdeal) (hPre_finite_scores := hPre_finite_scores)
    ∧ quiescent_Proj (hProj := hProj)
    ∧ quiescent_ProjIdeal (hProjIdeal := hProjIdeal)
    ∧ quiescent_ProjRefIdeal (hProjRefIdeal := hProjRefIdeal)
    ∧ quiescent_Query (hQuery := hQuery)
    ∧ quiescent_QueryIdeal (hQueryIdeal := hQueryIdeal)
    ∧ quiescent_QueryRefIdeal (hQueryRefIdeal := hQueryRefIdeal)
    ∧ quiescent_Mix (hMix := hMix)
    ∧ quiescent_MixIdeal (hMixIdeal := hMixIdeal)
    ∧ quiescent_MixRefIdeal (hMixRefIdeal := hMixRefIdeal)
    ∧ quiescent_Final (hFinal := hFinal)
    ∧ quiescent_FinalIdeal (hFinalIdeal := hFinalIdeal)
    ∧ quiescent_FinalRefIdeal (hFinalRefIdeal := hFinalRefIdeal)
    ∧ quiescent_Cmp (hCmp := hCmp)
    ∧ quiescent_CmpIdeal (hCmpIdeal := hCmpIdeal)
    ∧ quiescent_CmpIdeal_pre_finite_biases (hCmpIdeal := hCmpIdeal) (hPre_finite_biases := hPre_finite_biases)
    ∧ quiescent_CmpRefIdeal (hCmpRefIdeal := hCmpRefIdeal)
    ∧ quiescent_CmpRefIdeal_pre_finite_biases (hCmpRefIdeal := hCmpRefIdeal) (hPre_finite_biases := hPre_finite_biases)
    ∧ preserves_Win_WinIdeal
    ∧ algebraic_WinIdeal_WinRefIdeal_pre_finite_scores (hWinIdeal := hWinIdeal) (hWinRefIdeal := hWinRefIdeal) (hPre_finite_scores := hPre_finite_scores)
    ∧ preserves_Proj_ProjIdeal
    ∧ algebraic_ProjIdeal_ProjRefIdeal (hProjIdeal := hProjIdeal) (hProjRefIdeal := hProjRefIdeal)
    ∧ preserves_Query_QueryIdeal
    ∧ algebraic_QueryIdeal_QueryRefIdeal (hQueryIdeal := hQueryIdeal) (hQueryRefIdeal := hQueryRefIdeal)
    ∧ preserves_Mix_MixIdeal
    ∧ algebraic_MixIdeal_MixRefIdeal (hMixIdeal := hMixIdeal) (hMixRefIdeal := hMixRefIdeal)
    ∧ preserves_Final_FinalIdeal
    ∧ algebraic_FinalIdeal_FinalRefIdeal (hFinalIdeal := hFinalIdeal) (hFinalRefIdeal := hFinalRefIdeal)
    ∧ preserves_Cmp_CmpIdeal
    ∧ algebraic_CmpIdeal_CmpRefIdeal_pre_finite_biases (hCmpIdeal := hCmpIdeal) (hCmpRefIdeal := hCmpRefIdeal) (hPre_finite_biases := hPre_finite_biases)
-- ==== Pre_finite_biases.lean ====
abbrev S2x16384x1024 : Shape := ⟨3, ![2, 16384, 1024]⟩
abbrev S2x2x2x1152x64 : Shape := ⟨5, ![2, 2, 2, 1152, 64]⟩
abbrev S32x16 : Shape := ⟨2, ![32, 16]⟩
abbrev S1152x256 : Shape := ⟨2, ![1152, 256]⟩
abbrev S_ : Shape := ⟨0, ![]⟩

class Facts : Prop where
  bcast_S_S32x16 : S_.BroadcastsInDim S32x16 (![] : Fin 0 → Fin S32x16.rank)
  reducesTo_S32x16_S_d0_1 : S32x16.ReducesTo [0, 1] S_
  h_S_ : 0 < S_.numel

variable [Facts]

def fn {F : FTy → Type} [FloatOps F] (main_arg0 : FVec F S2x16384x1024 .f32) (main_arg1 : FVec F S2x2x2x1152x64 .f32) (main_arg2 : FVec F S32x16 .f32) (main_arg3 : FVec F S1152x256 .f32) : IVec S_ 1 :=
  let main_v0 : FVec F S32x16 .f32 := Host.absf main_arg2
  let main_cst : FVec F S_ .f32 := constant S_ .f32 0x7F800000#32
  let main_v1 : FVec F S32x16 .f32 := broadcastInDim S32x16 ![] bcast_S_S32x16 main_cst
  let main_v2 : IVec S32x16 1 := cmpf .olt main_v0 main_v1
  let main_c : IVec S_ 1 := constantI S_ 1 1#1
  let main_v3 : IVec S_ 1 := (fun x v => Host.reduce IntOp.andi x v reducesTo_S32x16_S_d0_1 h_S_) main_v2 main_c
  main_v3
-- ==== Pre_finite_scores.lean ====
abbrev S2x16384x1024 : Shape := ⟨3, ![2, 16384, 1024]⟩
abbrev S2x16384x768 : Shape := ⟨3, ![2, 16384, 768]⟩
abbrev S32x16 : Shape := ⟨2, ![32, 16]⟩
abbrev S_ : Shape := ⟨0, ![]⟩
abbrev S2x16384x128 : Shape := ⟨3, ![2, 16384, 128]⟩

class Facts : Prop where
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  slices_S2x16384x768_S2x16384x128_0_0_512 : S2x16384x768.Slices ![0, 0, 512] S2x16384x128
  bcast_S_S2x16384x128 : S_.BroadcastsInDim S2x16384x128 (![] : Fin 0 → Fin S2x16384x128.rank)
  reducesTo_S2x16384x128_S_d0_1_2 : S2x16384x128.ReducesTo [0, 1, 2] S_
  bcast_S_S32x16 : S_.BroadcastsInDim S32x16 (![] : Fin 0 → Fin S32x16.rank)
  reducesTo_S32x16_S_d0_1 : S32x16.ReducesTo [0, 1] S_

variable [Facts]

def fn {F : FTy → Type} [FloatOps F] (main_arg0 : FVec F S2x16384x1024 .f32) (main_arg1 : FVec F S2x16384x768 .f32) (main_arg2 : FVec F S32x16 .f32) : IVec S_ 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_c : IVec S_ 1 := constantI S_ 1 1#1
  let main_v3 : IVec S_ 1 := (fun x v => Host.reduce IntOp.andi x v reducesTo_S2x16384x1024_S_d0_1_2 h_S_) main_v2 main_c
  let main_v4 : FVec F S2x16384x128 .f32 := (extractStridedSlice S2x16384x128 ![0, 0, 512] · slices_S2x16384x768_S2x16384x128_0_0_512) main_arg1
  let main_v5 : FVec F S2x16384x128 .f32 := Host.absf main_v4
  let main_cst_0 : FVec F S_ .f32 := constant S_ .f32 0x7F800000#32
  let main_v6 : FVec F S2x16384x128 .f32 := broadcastInDim S2x16384x128 ![] bcast_S_S2x16384x128 main_cst_0
  let main_v7 : IVec S2x16384x128 1 := cmpf .olt main_v5 main_v6
  let main_c_1 : IVec S_ 1 := constantI S_ 1 1#1
  let main_v8 : IVec S_ 1 := (fun x v => Host.reduce IntOp.andi x v reducesTo_S2x16384x128_S_d0_1_2 h_S_) main_v7 main_c_1
  let main_v9 : IVec S_ 1 := andi main_v3 main_v8
  let main_v10 : FVec F S32x16 .f32 := Host.absf main_arg2
  let main_cst_2 : FVec F S_ .f32 := constant S_ .f32 0x7F800000#32
  let main_v11 : FVec F S32x16 .f32 := broadcastInDim S32x16 ![] bcast_S_S32x16 main_cst_2
  let main_v12 : IVec S32x16 1 := cmpf .olt main_v10 main_v11
  let main_c_3 : IVec S_ 1 := constantI S_ 1 1#1
  let main_v13 : IVec S_ 1 := (fun x v => Host.reduce IntOp.andi x v reducesTo_S32x16_S_d0_1 h_S_) main_v12 main_c_3
  let main_v14 : IVec S_ 1 := andi main_v9 main_v13
  main_v14
-- ==== Win.lean ====
abbrev S2x16384x1024 : Shape := ⟨3, ![2, 16384, 1024]⟩
abbrev S2x16384x768 : Shape := ⟨3, ![2, 16384, 768]⟩
abbrev S32x16 : Shape := ⟨2, ![32, 16]⟩
abbrev S15 : Shape := ⟨1, ![15]⟩
abbrev S128 : Shape := ⟨1, ![128]⟩
abbrev S128x1 : Shape := ⟨2, ![128, 1]⟩
abbrev S640 : Shape := ⟨1, ![640]⟩
abbrev S1x640 : Shape := ⟨2, ![1, 640]⟩
abbrev S128x640 : Shape := ⟨2, ![128, 640]⟩
abbrev S_ : Shape := ⟨0, ![]⟩
abbrev S1x128 : Shape := ⟨2, ![1, 128]⟩
abbrev S128x128 : Shape := ⟨2, ![128, 128]⟩
abbrev S128x2560 : Shape := ⟨2, ![128, 2560]⟩
abbrev S128x256 : Shape := ⟨2, ![128, 256]⟩
abbrev S128x2816 : Shape := ⟨2, ![128, 2816]⟩
abbrev S128x2816x1 : Shape := ⟨3, ![128, 2816, 1]⟩
abbrev S1x1x15 : Shape := ⟨3, ![1, 1, 15]⟩
abbrev S128x2816x15 : Shape := ⟨3, ![128, 2816, 15]⟩
abbrev S16x128x2816 : Shape := ⟨3, ![16, 128, 2816]⟩
abbrev S1x128x2816 : Shape := ⟨3, ![1, 128, 2816]⟩
abbrev S1x1 : Shape := ⟨2, ![1, 1]⟩
abbrev S16x128x640 : Shape := ⟨3, ![16, 128, 640]⟩
abbrev S2x8x128x640 : Shape := ⟨4, ![2, 8, 128, 640]⟩
abbrev S16x128x128 : Shape := ⟨3, ![16, 128, 128]⟩
abbrev S2x8x128x128 : Shape := ⟨4, ![2, 8, 128, 128]⟩
abbrev S16x128x2048 : Shape := ⟨3, ![16, 128, 2048]⟩
abbrev S2x8x128x16x128 : Shape := ⟨5, ![2, 8, 128, 16, 128]⟩
abbrev S2x16x128x8x128 : Shape := ⟨5, ![2, 16, 128, 8, 128]⟩
abbrev S2x16x128x1024 : Shape := ⟨4, ![2, 16, 128, 1024]⟩
abbrev S1x16 : Shape := ⟨2, ![1, 16]⟩
abbrev S16 : Shape := ⟨1, ![16]⟩
abbrev S2x8x1 : Shape := ⟨3, ![2, 8, 1]⟩
abbrev S2x8x128 : Shape := ⟨3, ![2, 8, 128]⟩
abbrev S2x1024x1 : Shape := ⟨3, ![2, 1024, 1]⟩
abbrev S2x1x1024 : Shape := ⟨3, ![2, 1, 1024]⟩
abbrev S2x64x1024 : Shape := ⟨3, ![2, 64, 1024]⟩
abbrev S2x61x1024 : Shape := ⟨3, ![2, 61, 1024]⟩
abbrev S2x128x1024 : Shape := ⟨3, ![2, 128, 1024]⟩
abbrev S2x128x128x2x8x64 : Shape := ⟨6, ![2, 128, 128, 2, 8, 64]⟩
abbrev S2x2x8x128x128x64 : Shape := ⟨6, ![2, 2, 8, 128, 128, 64]⟩
abbrev S2x2x8x16384x64 : Shape := ⟨5, ![2, 2, 8, 16384, 64]⟩
abbrev S2x16384x6x2x64 : Shape := ⟨5, ![2, 16384, 6, 2, 64]⟩
abbrev S2x16384x1x2x64 : Shape := ⟨5, ![2, 16384, 1, 2, 64]⟩
abbrev S2x16384x2x64 : Shape := ⟨4, ![2, 16384, 2, 64]⟩
abbrev S2x2x16384x64 : Shape := ⟨4, ![2, 2, 16384, 64]⟩
abbrev S2x2x16896x64 : Shape := ⟨4, ![2, 2, 16896, 64]⟩
abbrev S1x1x8x128x64 : Shape := ⟨5, ![1, 1, 8, 128, 64]⟩
abbrev S1x1x16896x64 : Shape := ⟨4, ![1, 1, 16896, 64]⟩
abbrev S1x8x128x640 : Shape := ⟨4, ![1, 8, 128, 640]⟩
abbrev S8x128x64 : Shape := ⟨3, ![8, 128, 64]⟩
abbrev S1024x64 : Shape := ⟨2, ![1024, 64]⟩
abbrev S1x1x640x64 : Shape := ⟨4, ![1, 1, 640, 64]⟩
abbrev S640x64 : Shape := ⟨2, ![640, 64]⟩
abbrev S1024x640 : Shape := ⟨2, ![1024, 640]⟩
abbrev S8x128x640 : Shape := ⟨3, ![8, 128, 640]⟩
abbrev S1024 : Shape := ⟨1, ![1024]⟩
abbrev S1024x1 : Shape := ⟨2, ![1024, 1]⟩

abbrev nBuf : Space → Nat
  | .hbm => 157
  | .vmem => 13
  | .smem => 1
  | _ => 0

abbrev hbmTy0_0 (i : Nat) : BufTy := match i % 128 with
  | 0 => ⟨S2x16384x1024, .f32⟩
  | 1 => ⟨S2x16384x768, .f32⟩
  | 2 => ⟨S32x16, .f32⟩
  | 3 => ⟨S15, .i32⟩
  | 4 => ⟨S128, .i32⟩
  | 5 => ⟨S128x1, .i32⟩
  | 6 => ⟨S640, .i32⟩
  | 7 => ⟨S1x640, .i32⟩
  | 8 => ⟨S128x640, .i32⟩
  | 9 => ⟨S128x640, .i32⟩
  | 10 => ⟨S128x640, .i32⟩
  | 11 => ⟨S_, .i32⟩
  | 12 => ⟨S128x640, .i32⟩
  | 13 => ⟨S128x640, .i32⟩
  | 14 => ⟨S_, .i32⟩
  | 15 => ⟨S128x1, .i32⟩
  | 16 => ⟨S128x1, .i32⟩
  | 17 => ⟨S128, .i32⟩
  | 18 => ⟨S1x128, .i32⟩
  | 19 => ⟨S_, .i32⟩
  | 20 => ⟨S1x128, .i32⟩
  | 21 => ⟨S1x128, .i32⟩
  | 22 => ⟨S128x128, .i32⟩
  | 23 => ⟨S128x128, .i32⟩
  | 24 => ⟨S128x128, .i32⟩
  | 25 => ⟨S128, .i32⟩
  | 26 => ⟨S1x128, .i32⟩
  | 27 => ⟨S128x128, .i32⟩
  | 28 => ⟨S128x128, .i32⟩
  | 29 => ⟨S128x128, .i32⟩
  | 30 => ⟨S_, .i32⟩
  | 31 => ⟨S128x640, .i32⟩
  | 32 => ⟨S128x640, .i1⟩
  | 33 => ⟨S_, .i32⟩
  | 34 => ⟨S_, .i32⟩
  | 35 => ⟨S128x640, .i32⟩
  | 36 => ⟨S128x640, .i32⟩
  | 37 => ⟨S_, .i32⟩
  | 38 => ⟨S128x128, .i32⟩
  | 39 => ⟨S128x128, .i32⟩
  | 40 => ⟨S_, .i32⟩
  | 41 => ⟨S128x128, .i32⟩
  | 42 => ⟨S128x128, .i32⟩
  | 43 => ⟨S_, .i32⟩
  | 44 => ⟨S128x128, .i32⟩
  | 45 => ⟨S128x128, .i32⟩
  | 46 => ⟨S_, .i32⟩
  | 47 => ⟨S128x128, .i32⟩
  | 48 => ⟨S128x128, .i32⟩
  | 49 => ⟨S_, .i32⟩
  | 50 => ⟨S128x128, .i32⟩
  | 51 => ⟨S128x128, .i32⟩
  | 52 => ⟨S_, .i32⟩
  | 53 => ⟨S128x128, .i32⟩
  | 54 => ⟨S128x128, .i32⟩
  | 55 => ⟨S_, .i32⟩
  | 56 => ⟨S128x128, .i32⟩
  | 57 => ⟨S128x128, .i32⟩
  | 58 => ⟨S_, .i32⟩
  | 59 => ⟨S128x128, .i32⟩
  | 60 => ⟨S128x128, .i32⟩
  | 61 => ⟨S_, .i32⟩
  | 62 => ⟨S128x128, .i32⟩
  | 63 => ⟨S128x128, .i32⟩
  | 64 => ⟨S_, .i32⟩
  | 65 => ⟨S128x128, .i32⟩
  | 66 => ⟨S128x128, .i32⟩
  | 67 => ⟨S_, .i32⟩
  | 68 => ⟨S128x128, .i32⟩
  | 69 => ⟨S128x128, .i32⟩
  | 70 => ⟨S_, .i32⟩
  | 71 => ⟨S128x128, .i32⟩
  | 72 => ⟨S128x128, .i32⟩
  | 73 => ⟨S_, .i32⟩
  | 74 => ⟨S128x128, .i32⟩
  | 75 => ⟨S128x128, .i32⟩
  | 76 => ⟨S_, .i32⟩
  | 77 => ⟨S128x128, .i32⟩
  | 78 => ⟨S128x128, .i32⟩
  | 79 => ⟨S_, .i32⟩
  | 80 => ⟨S128x128, .i32⟩
  | 81 => ⟨S_, .i32⟩
  | 82 => ⟨S128x128, .i32⟩
  | 83 => ⟨S128x2560, .i32⟩
  | 84 => ⟨S128x256, .i32⟩
  | 85 => ⟨S128x2816, .i32⟩
  | 86 => ⟨S_, .i32⟩
  | 87 => ⟨S128x2816, .i32⟩
  | 88 => ⟨S128x2816, .i1⟩
  | 89 => ⟨S128x2816x1, .i32⟩
  | 90 => ⟨S1x1x15, .i32⟩
  | 91 => ⟨S128x2816x15, .i32⟩
  | 92 => ⟨S128x2816x15, .i32⟩
  | 93 => ⟨S128x2816x15, .i1⟩
  | 94 => ⟨S_, .i32⟩
  | 95 => ⟨S128x2816, .i32⟩
  | 96 => ⟨S128x2816, .i32⟩
  | 97 => ⟨S128x2816x15, .i32⟩
  | 98 => ⟨S_, .i32⟩
  | 99 => ⟨S128x2816, .i32⟩
  | 100 => ⟨S128x2816, .i32⟩
  | 101 => ⟨S_, .i32⟩
  | 102 => ⟨S_, .i32⟩
  | 103 => ⟨S128x2816, .i32⟩
  | 104 => ⟨S128x2816, .i32⟩
  | 105 => ⟨S16x128x2816, .f32⟩
  | 106 => ⟨S16x128x640, .f32⟩
  | 107 => ⟨S2x8x128x640, .f32⟩
  | 108 => ⟨S16x128x128, .f32⟩
  | 109 => ⟨S2x8x128x128, .f32⟩
  | 110 => ⟨S16x128x2048, .f32⟩
  | 111 => ⟨S2x8x128x16x128, .f32⟩
  | 112 => ⟨S2x16x128x8x128, .f32⟩
  | 113 => ⟨S2x16x128x1024, .f32⟩
  | 114 => ⟨S1x16, .f32⟩
  | 115 => ⟨S16, .f32⟩
  | 116 => ⟨S2x8x1, .f32⟩
  | 117 => ⟨S2x8x128, .f32⟩
  | 118 => ⟨S2x1024x1, .f32⟩
  | 119 => ⟨S2x1x1024, .f32⟩
  | 120 => ⟨S2x1x1024, .bf16⟩
  | 121 => ⟨S2x1x1024, .f32⟩
  | 122 => ⟨S2x1x1024, .f32⟩
  | 123 => ⟨S2x1x1024, .bf16⟩
  | 124 => ⟨S2x1x1024, .f32⟩
  | 125 => ⟨S2x1x1024, .f32⟩
  | 126 => ⟨S2x1x1024, .bf16⟩
  | 127 => ⟨S2x1x1024, .f32⟩
  | _ => ⟨S2x16384x1024, .f32⟩

abbrev hbmTy0_1 (i : Nat) : BufTy := match i % 128 with
  | 0 => ⟨S2x1x1024, .f32⟩
  | 1 => ⟨S_, .bf16⟩
  | 2 => ⟨S2x64x1024, .bf16⟩
  | 3 => ⟨S_, .bf16⟩
  | 4 => ⟨S2x61x1024, .bf16⟩
  | 5 => ⟨S2x128x1024, .bf16⟩
  | 6 => ⟨S_, .f32⟩
  | 7 => ⟨S2x16384x1024, .f32⟩
  | 8 => ⟨S2x16384x1024, .f32⟩
  | 9 => ⟨S2x16384x1024, .bf16⟩
  | 10 => ⟨S2x128x128x2x8x64, .bf16⟩
  | 11 => ⟨S2x2x8x128x128x64, .bf16⟩
  | 12 => ⟨S2x2x8x16384x64, .bf16⟩
  | 13 => ⟨S2x16384x6x2x64, .f32⟩
  | 14 => ⟨S2x16384x1x2x64, .f32⟩
  | 15 => ⟨S2x16384x2x64, .f32⟩
  | 16 => ⟨S2x2x16384x64, .f32⟩
  | 17 => ⟨S2x2x16384x64, .bf16⟩
  | 18 => ⟨S_, .i32⟩
  | 19 => ⟨S_, .bf16⟩
  | 20 => ⟨S2x2x16896x64, .bf16⟩
  | 21 => ⟨S2x16384x1x2x64, .f32⟩
  | 22 => ⟨S2x16384x2x64, .f32⟩
  | 23 => ⟨S2x2x16384x64, .f32⟩
  | 24 => ⟨S2x2x16384x64, .bf16⟩
  | 25 => ⟨S_, .i32⟩
  | 26 => ⟨S_, .bf16⟩
  | 27 => ⟨S2x2x16896x64, .bf16⟩
  | 28 => ⟨S2x2x8x16384x64, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | .local _ .vmem, ⟨0, _⟩ => ⟨S128x2816, .i32⟩
  | .local _ .vmem, ⟨1, _⟩ => ⟨S1x128x2816, .f32⟩
  | .local _ .vmem, ⟨2, _⟩ => ⟨S1x128x2816, .f32⟩
  | .local _ .vmem, ⟨3, _⟩ => ⟨S1x1x8x128x64, .bf16⟩
  | .local _ .vmem, ⟨4, _⟩ => ⟨S1x1x8x128x64, .bf16⟩
  | .local _ .vmem, ⟨5, _⟩ => ⟨S1x1x16896x64, .bf16⟩
  | .local _ .vmem, ⟨6, _⟩ => ⟨S1x1x16896x64, .bf16⟩
  | .local _ .vmem, ⟨7, _⟩ => ⟨S1x1x16896x64, .bf16⟩
  | .local _ .vmem, ⟨8, _⟩ => ⟨S1x1x16896x64, .bf16⟩
  | .local _ .vmem, ⟨9, _⟩ => ⟨S1x8x128x640, .f32⟩
  | .local _ .vmem, ⟨10, _⟩ => ⟨S1x8x128x640, .f32⟩
  | .local _ .vmem, ⟨11, _⟩ => ⟨S1x1x8x128x64, .f32⟩
  | .local _ .vmem, ⟨12, _⟩ => ⟨S1x1x8x128x64, .f32⟩
  | .local _ .smem, ⟨0, _⟩ => ⟨S32x16, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_call0_v0 : Ref sig .tc := ⟨.hbm, 34, rfl⟩
abbrev main_call0_v1 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_v35 : Ref sig .tc := ⟨.hbm, 51, rfl⟩
abbrev main_c_10 : Ref sig .tc := ⟨.hbm, 52, rfl⟩
abbrev main_v36 : Ref sig .tc := ⟨.hbm, 53, rfl⟩
abbrev main_v37 : Ref sig .tc := ⟨.hbm, 54, rfl⟩
abbrev main_c_11 : Ref sig .tc := ⟨.hbm, 55, rfl⟩
abbrev main_v38 : Ref sig .tc := ⟨.hbm, 56, rfl⟩
abbrev main_v39 : Ref sig .tc := ⟨.hbm, 57, rfl⟩
abbrev main_c_12 : Ref sig .tc := ⟨.hbm, 58, rfl⟩
abbrev main_v40 : Ref sig .tc := ⟨.hbm, 59, rfl⟩
abbrev main_v41 : Ref sig .tc := ⟨.hbm, 60, rfl⟩
abbrev main_c_13 : Ref sig .tc := ⟨.hbm, 61, rfl⟩
abbrev main_v42 : Ref sig .tc := ⟨.hbm, 62, rfl⟩
abbrev main_v43 : Ref sig .tc := ⟨.hbm, 63, rfl⟩
abbrev main_c_14 : Ref sig .tc := ⟨.hbm, 64, rfl⟩
abbrev main_v44 : Ref sig .tc := ⟨.hbm, 65, rfl⟩
abbrev main_v45 : Ref sig .tc := ⟨.hbm, 66, rfl⟩
abbrev main_c_15 : Ref sig .tc := ⟨.hbm, 67, rfl⟩
abbrev main_v46 : Ref sig .tc := ⟨.hbm, 68, rfl⟩
abbrev main_v47 : Ref sig .tc := ⟨.hbm, 69, rfl⟩
abbrev main_c_16 : Ref sig .tc := ⟨.hbm, 70, rfl⟩
abbrev main_v48 : Ref sig .tc := ⟨.hbm, 71, rfl⟩
abbrev main_v49 : Ref sig .tc := ⟨.hbm, 72, rfl⟩
abbrev main_c_17 : Ref sig .tc := ⟨.hbm, 73, rfl⟩
abbrev main_v50 : Ref sig .tc := ⟨.hbm, 74, rfl⟩
abbrev main_v51 : Ref sig .tc := ⟨.hbm, 75, rfl⟩
abbrev main_c_18 : Ref sig .tc := ⟨.hbm, 76, rfl⟩
abbrev main_v52 : Ref sig .tc := ⟨.hbm, 77, rfl⟩
abbrev main_v53 : Ref sig .tc := ⟨.hbm, 78, rfl⟩
abbrev main_c_19 : Ref sig .tc := ⟨.hbm, 79, rfl⟩
abbrev main_v54 : Ref sig .tc := ⟨.hbm, 80, rfl⟩
abbrev main_c_20 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_21 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_22 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_23 : Ref sig .tc := ⟨.hbm, 98, rfl⟩
abbrev main_v69 : Ref sig .tc := ⟨.hbm, 99, rfl⟩
abbrev main_v70 : Ref sig .tc := ⟨.hbm, 100, rfl⟩
abbrev main_c_24 : Ref sig .tc := ⟨.hbm, 101, rfl⟩
abbrev main_call1_v0 : Ref sig .tc := ⟨.hbm, 102, rfl⟩
abbrev main_call1_v1 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst : Ref sig .tc := ⟨.hbm, 129, rfl⟩
abbrev main_v96 : Ref sig .tc := ⟨.hbm, 130, rfl⟩
abbrev main_cst_25 : Ref sig .tc := ⟨.hbm, 131, rfl⟩
abbrev main_v97 : Ref sig .tc := ⟨.hbm, 132, rfl⟩
abbrev main_v98 : Ref sig .tc := ⟨.hbm, 133, rfl⟩
abbrev main_cst_26 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_c_27 : Ref sig .tc := ⟨.hbm, 146, rfl⟩
abbrev main_call2_v0 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_c_28 : Ref sig .tc := ⟨.hbm, 153, rfl⟩
abbrev main_call3_v0 : Ref sig .tc := ⟨.hbm, 154, rfl⟩
abbrev main_v115 : Ref sig .tc := ⟨.hbm, 155, rfl⟩
abbrev main_v116 : Ref sig .tc := ⟨.hbm, 156, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_1 : Index := 0#32
  let arg0 : BitVec 32 := BitVec.ofNat 32 (i 0).val
  let v5 : Index := Scalar.indexCast arg0
  ![0, v5.toNat]
def k0_off2 (i : grid0.Coords) : Fin 2 → Nat :=
  let c1 : Index := 1#32
  let arg0 : BitVec 32 := BitVec.ofNat 32 (i 0).val
  let v11 : Index := Scalar.indexCast arg0
  ![1, v11.toNat]
def k0_off3 (i : grid0.Coords) : Fin 2 → Nat :=
  let c2 : Index := 2#32
  let arg0 : BitVec 32 := BitVec.ofNat 32 (i 0).val
  let v17 : Index := Scalar.indexCast arg0
  ![2, v17.toNat]
def k0_off4 (i : grid0.Coords) : Fin 2 → Nat :=
  let c3 : Index := 3#32
  let arg0 : BitVec 32 := BitVec.ofNat 32 (i 0).val
  let v23 : Index := Scalar.indexCast arg0
  ![3, v23.toNat]
def k0_off5 (i : grid0.Coords) : Fin 2 → Nat :=
  let c4 : Index := 4#32
  let arg0 : BitVec 32 := BitVec.ofNat 32 (i 0).val
  let v29 : Index := Scalar.indexCast arg0
  ![4, v29.toNat]
def k0_off6 (i : grid0.Coords) : Fin 2 → Nat :=
  let c5 : Index := 5#32
  let arg0 : BitVec 32 := BitVec.ofNat 32 (i 0).val
  let v35 : Index := Scalar.indexCast arg0
  ![5, v35.toNat]
def k0_off7 (i : grid0.Coords) : Fin 2 → Nat :=
  let c6 : Index := 6#32
  let arg0 : BitVec 32 := BitVec.ofNat 32 (i 0).val
  let v41 : Index := Scalar.indexCast arg0
  ![6, v41.toNat]
def k0_off8 (i : grid0.Coords) : Fin 2 → Nat :=
  let c7 : Index := 7#32
  let arg0 : BitVec 32 := BitVec.ofNat 32 (i 0).val
  let v47 : Index := Scalar.indexCast arg0
  ![7, v47.toNat]
def k0_off9 (i : grid0.Coords) : Fin 2 → Nat :=
  let c8 : Index := 8#32
  let arg0 : BitVec 32 := BitVec.ofNat 32 (i 0).val
  let v53 : Index := Scalar.indexCast arg0
  ![8, v53.toNat]
def k0_off10 (i : grid0.Coords) : Fin 2 → Nat :=
  let c9 : Index := 9#32
  let arg0 : BitVec 32 := BitVec.ofNat 32 (i 0).val
  let v59 : Index := Scalar.indexCast arg0
  ![9, v59.toNat]
def k0_off11 (i : grid0.Coords) : Fin 2 → Nat :=
  let c10 : Index := 10#32
  let arg0 : BitVec 32 := BitVec.ofNat 32 (i 0).val
  let v65 : Index := Scalar.indexCast arg0
  ![10, v65.toNat]
def k0_off12 (i : grid0.Coords) : Fin 2 → Nat :=
  let c11 : Index := 11#32
  let arg0 : BitVec 32 := BitVec.ofNat 32 (i 0).val
  let v71 : Index := Scalar.indexCast arg0
  ![11, v71.toNat]
def k0_off13 (i : grid0.Coords) : Fin 2 → Nat :=
  let c12 : Index := 12#32
  let arg0 : BitVec 32 := BitVec.ofNat 32 (i 0).val
  let v77 : Index := Scalar.indexCast arg0
  ![12, v77.toNat]
def k0_off14 (i : grid0.Coords) : Fin 2 → Nat :=
  let c13 : Index := 13#32
  let arg0 : BitVec 32 := BitVec.ofNat 32 (i 0).val
  let v83 : Index := Scalar.indexCast arg0
  ![13, v83.toNat]
def k0_off15 (i : grid0.Coords) : Fin 2 → Nat :=
  let c14 : Index := 14#32
  let arg0 : BitVec 32 := BitVec.ofNat 32 (i 0).val
  let v89 : Index := Scalar.indexCast arg0
  ![14, v89.toNat]
def k0_off16 (i : grid0.Coords) : Fin 2 → Nat :=
  let c15 : Index := 15#32
  let arg0 : BitVec 32 := BitVec.ofNat 32 (i 0).val
  let v95 : Index := Scalar.indexCast arg0
  ![15, v95.toNat]
def k0_off17 (i : grid0.Coords) : Fin 2 → Nat :=
  let c16 : Index := 16#32
  let arg0 : BitVec 32 := BitVec.ofNat 32 (i 0).val
  let v101 : Index := Scalar.indexCast arg0
  ![16, v101.toNat]
def k0_off18 (i : grid0.Coords) : Fin 2 → Nat :=
  let c17 : Index := 17#32
  let arg0 : BitVec 32 := BitVec.ofNat 32 (i 0).val
  let v107 : Index := Scalar.indexCast arg0
  ![17, v107.toNat]
def k0_off19 (i : grid0.Coords) : Fin 2 → Nat :=
  let c18 : Index := 18#32
  let arg0 : BitVec 32 := BitVec.ofNat 32 (i 0).val
  let v113 : Index := Scalar.indexCast arg0
  ![18, v113.toNat]
def k0_off20 (i : grid0.Coords) : Fin 2 → Nat :=
  let c19 : Index := 19#32
  let arg0 : BitVec 32 := BitVec.ofNat 32 (i 0).val
  let v119 : Index := Scalar.indexCast arg0
  ![19, v119.toNat]
def k0_off21 (i : grid0.Coords) : Fin 2 → Nat :=
  let c20 : Index := 20#32
  let arg0 : BitVec 32 := BitVec.ofNat 32 (i 0).val
  let v125 : Index := Scalar.indexCast arg0
  ![20, v125.toNat]
def k0_off22 (i : grid0.Coords) : Fin 2 → Nat :=
  let c21 : Index := 21#32
  let arg0 : BitVec 32 := BitVec.ofNat 32 (i 0).val
  let v131 : Index := Scalar.indexCast arg0
  ![21, v131.toNat]
def k0_off23 (i : grid0.Coords) : Fin 2 → Nat :=
  let c22 : Index := 22#32
  let arg0 : BitVec 32 := BitVec.ofNat 32 (i 0).val
  let v137 : Index := Scalar.indexCast arg0
  ![22, v137.toNat]
def k0_off24 (i : grid0.Coords) : Fin 2 → Nat :=
  let c23 : Index := 23#32
  let arg0 : BitVec 32 := BitVec.ofNat 32 (i 0).val
  let v143 : Index := Scalar.indexCast arg0
  ![23, v143.toNat]
def k0_off25 (i : grid0.Coords) : Fin 2 → Nat :=
  let c24 : Index := 24#32
  let arg0 : BitVec 32 := BitVec.ofNat 32 (i 0).val
  let v149 : Index := Scalar.indexCast arg0
  ![24, v149.toNat]
def k0_off26 (i : grid0.Coords) : Fin 2 → Nat :=
  let c25 : Index := 25#32
  let arg0 : BitVec 32 := BitVec.ofNat 32 (i 0).val
  let v155 : Index := Scalar.indexCast arg0
  ![25, v155.toNat]
def k0_off27 (i : grid0.Coords) : Fin 2 → Nat :=
  let c26 : Index := 26#32
  let arg0 : BitVec 32 := BitVec.ofNat 32 (i 0).val
  let v161 : Index := Scalar.indexCast arg0
  ![26, v161.toNat]
def k0_off28 (i : grid0.Coords) : Fin 2 → Nat :=
  let c27 : Index := 27#32
  let arg0 : BitVec 32 := BitVec.ofNat 32 (i 0).val
  let v167 : Index := Scalar.indexCast arg0
  ![27, v167.toNat]
def k0_off29 (i : grid0.Coords) : Fin 2 → Nat :=
  let c28 : Index := 28#32
  let arg0 : BitVec 32 := BitVec.ofNat 32 (i 0).val
  let v173 : Index := Scalar.indexCast arg0
  ![28, v173.toNat]
def k0_off30 (i : grid0.Coords) : Fin 2 → Nat :=
  let c29 : Index := 29#32
  let arg0 : BitVec 32 := BitVec.ofNat 32 (i 0).val
  let v179 : Index := Scalar.indexCast arg0
  ![29, v179.toNat]
def k0_off31 (i : grid0.Coords) : Fin 2 → Nat :=
  let c30 : Index := 30#32
  let arg0 : BitVec 32 := BitVec.ofNat 32 (i 0).val
  let v185 : Index := Scalar.indexCast arg0
  ![30, v185.toNat]
def k0_off32 (i : grid0.Coords) : Fin 2 → Nat :=
  let c31 : Index := 31#32
  let arg0 : BitVec 32 := BitVec.ofNat 32 (i 0).val
  let v191 : Index := Scalar.indexCast arg0
  ![31, v191.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2816 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 2, 128], ![false, false, false]⟩

def k1_mult1 (i : grid1.Coords) : BitVec 32 :=
  let arg2 : BitVec 32 := BitVec.ofNat 32 (i 2).val
  let c128_i32 : BitVec 32 := 128#32
  let v3 : BitVec 32 := Scalar.muli arg2 c128_i32
  v3
def k1_off1 (i : grid1.Coords) : Fin 4 → Nat :=
  let c0_4 : Index := 0#32
  let c0_5 : Index := 0#32
  let arg2 : BitVec 32 := BitVec.ofNat 32 (i 2).val
  let c128_i32 : BitVec 32 := 128#32
  let v3 : BitVec 32 := Scalar.muli arg2 c128_i32
  let v4 : BitVec 32 := v3
  let v5 : Index := Scalar.indexCast v4
  let c0_6 : Index := 0#32
  ![0, 0, v5.toNat, 0]
def cc1_transform_0 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_4 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

abbrev stage1_0 : Fin 2 → Memref sig .tc .vmem S1x1x8x128x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x16896x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x16896x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x8x128x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1x8x128x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]
-- ==== WinIdeal.lean ====
variable {F : FTy → Type} [FloatOps F] [Named F]
def κ : String → Option EReal := fun
  | "mask" => some ⊥
  | _ => none
-- ==== WinRefIdeal.lean ====
abbrev S2x16384x1024 : Shape := ⟨3, ![2, 16384, 1024]⟩
abbrev S2x16384x768 : Shape := ⟨3, ![2, 16384, 768]⟩
abbrev S32x16 : Shape := ⟨2, ![32, 16]⟩
abbrev S2x16384x2x8x64 : Shape := ⟨5, ![2, 16384, 2, 8, 64]⟩
abbrev S2x16384x6x2x64 : Shape := ⟨5, ![2, 16384, 6, 2, 64]⟩
abbrev S2x16384x1x2x64 : Shape := ⟨5, ![2, 16384, 1, 2, 64]⟩
abbrev S2x16384x2x64 : Shape := ⟨4, ![2, 16384, 2, 64]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩
abbrev S32x2x8 : Shape := ⟨3, ![32, 2, 8]⟩
abbrev S16384x16384x1 : Shape := ⟨3, ![16384, 16384, 1]⟩
abbrev S16384x16384x2x8 : Shape := ⟨4, ![16384, 16384, 2, 8]⟩
abbrev S2x8x16384x16384 : Shape := ⟨4, ![2, 8, 16384, 16384]⟩
abbrev S2x2x16384x16384x8 : Shape := ⟨5, ![2, 2, 16384, 16384, 8]⟩
abbrev S2x2x8x16384x16384 : Shape := ⟨5, ![2, 2, 8, 16384, 16384]⟩
abbrev S1x2x8x16384x16384 : Shape := ⟨5, ![1, 2, 8, 16384, 16384]⟩
abbrev S2x2x8x16384 : Shape := ⟨4, ![2, 2, 8, 16384]⟩
abbrev S2x2x8x16384x1 : Shape := ⟨5, ![2, 2, 8, 16384, 1]⟩
abbrev S2x2x8x16384x64 : Shape := ⟨5, ![2, 2, 8, 16384, 64]⟩

abbrev nBuf : Space → Nat
  | .hbm => 94
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x768, .f32⟩
  | .hbm, ⟨2, _⟩ => ⟨S32x16, .f32⟩
  | .hbm, ⟨3, _⟩ => ⟨S2x16384x2x8x64, .f32⟩
  | .hbm, ⟨4, _⟩ => ⟨S2x16384x6x2x64, .f32⟩
  | .hbm, ⟨5, _⟩ => ⟨S2x16384x1x2x64, .f32⟩
  | .hbm, ⟨6, _⟩ => ⟨S2x16384x2x64, .f32⟩
  | .hbm, ⟨7, _⟩ => ⟨S2x16384x1x2x64, .f32⟩
  | .hbm, ⟨8, _⟩ => ⟨S2x16384x2x64, .f32⟩
  | .hbm, ⟨9, _⟩ => ⟨S16384, .i32⟩
  | .hbm, ⟨10, _⟩ => ⟨S16384x1, .i32⟩
  | .hbm, ⟨11, _⟩ => ⟨S1x16384, .i32⟩
  | .hbm, ⟨12, _⟩ => ⟨S16384x16384, .i32⟩
  | .hbm, ⟨13, _⟩ => ⟨S16384x16384, .i32⟩
  | .hbm, ⟨14, _⟩ => ⟨S16384x16384, .i32⟩
  | .hbm, ⟨15, _⟩ => ⟨S_, .i32⟩
  | .hbm, ⟨16, _⟩ => ⟨S16384x16384, .i32⟩
  | .hbm, ⟨17, _⟩ => ⟨S16384x16384, .i1⟩
  | .hbm, ⟨18, _⟩ => ⟨S_, .i32⟩
  | .hbm, ⟨19, _⟩ => ⟨S16384x16384, .i32⟩
  | .hbm, ⟨20, _⟩ => ⟨S16384x16384, .i1⟩
  | .hbm, ⟨21, _⟩ => ⟨S16384x16384, .i1⟩
  | .hbm, ⟨22, _⟩ => ⟨S32x2x8, .f32⟩
  | .hbm, ⟨23, _⟩ => ⟨S_, .i32⟩
  | .hbm, ⟨24, _⟩ => ⟨S16384x16384, .i32⟩
  | .hbm, ⟨25, _⟩ => ⟨S16384x16384, .i32⟩
  | .hbm, ⟨26, _⟩ => ⟨S_, .i32⟩
  | .hbm, ⟨27, _⟩ => ⟨S16384x16384, .i32⟩
  | .hbm, ⟨28, _⟩ => ⟨S16384x16384, .i32⟩
  | .hbm, ⟨29, _⟩ => ⟨S16384x16384, .f32⟩
  | .hbm, ⟨30, _⟩ => ⟨S_, .f32⟩
  | .hbm, ⟨31, _⟩ => ⟨S16384x16384, .f32⟩
  | .hbm, ⟨32, _⟩ => ⟨S16384x16384, .f32⟩
  | .hbm, ⟨33, _⟩ => ⟨S16384x16384, .f32⟩
  | .hbm, ⟨34, _⟩ => ⟨S_, .f32⟩
  | .hbm, ⟨35, _⟩ => ⟨S16384x16384, .f32⟩
  | .hbm, ⟨36, _⟩ => ⟨S16384x16384, .f32⟩
  | .hbm, ⟨37, _⟩ => ⟨S_, .f32⟩
  | .hbm, ⟨38, _⟩ => ⟨S16384x16384, .f32⟩
  | .hbm, ⟨39, _⟩ => ⟨S16384x16384, .f32⟩
  | .hbm, ⟨40, _⟩ => ⟨S16384x16384, .i32⟩
  | .hbm, ⟨41, _⟩ => ⟨S_, .i32⟩
  | .hbm, ⟨42, _⟩ => ⟨S16384x16384, .i32⟩
  | .hbm, ⟨43, _⟩ => ⟨S16384x16384, .i32⟩
  | .hbm, ⟨44, _⟩ => ⟨S_, .i32⟩
  | .hbm, ⟨45, _⟩ => ⟨S16384x16384, .i32⟩
  | .hbm, ⟨46, _⟩ => ⟨S16384x16384, .i1⟩
  | .hbm, ⟨47, _⟩ => ⟨S_, .i32⟩
  | .hbm, ⟨48, _⟩ => ⟨S16384x16384, .i32⟩
  | .hbm, ⟨49, _⟩ => ⟨S16384x16384, .i32⟩
  | .hbm, ⟨50, _⟩ => ⟨S16384x16384, .i32⟩
  | .hbm, ⟨51, _⟩ => ⟨S_, .i32⟩
  | .hbm, ⟨52, _⟩ => ⟨S16384x16384, .i32⟩
  | .hbm, ⟨53, _⟩ => ⟨S16384x16384, .i1⟩
  | .hbm, ⟨54, _⟩ => ⟨S_, .i32⟩
  | .hbm, ⟨55, _⟩ => ⟨S16384x16384, .i32⟩
  | .hbm, ⟨56, _⟩ => ⟨S16384x16384, .i32⟩
  | .hbm, ⟨57, _⟩ => ⟨S16384x16384, .i32⟩
  | .hbm, ⟨58, _⟩ => ⟨S16384x16384x1, .i32⟩
  | .hbm, ⟨59, _⟩ => ⟨S16384x16384x2x8, .f32⟩
  | .hbm, ⟨60, _⟩ => ⟨S2x8x16384x16384, .f32⟩
  | .hbm, ⟨61, _⟩ => ⟨S2x2x16384x16384x8, .f32⟩
  | .hbm, ⟨62, _⟩ => ⟨S2x2x8x16384x16384, .f32⟩
  | .hbm, ⟨63, _⟩ => ⟨S_, .f32⟩
  | .hbm, ⟨64, _⟩ => ⟨S2x2x8x16384x16384, .f32⟩
  | .hbm, ⟨65, _⟩ => ⟨S2x2x8x16384x16384, .f32⟩
  | .hbm, ⟨66, _⟩ => ⟨S1x2x8x16384x16384, .f32⟩
  | .hbm, ⟨67, _⟩ => ⟨S2x2x8x16384x16384, .f32⟩
  | .hbm, ⟨68, _⟩ => ⟨S2x2x8x16384x16384, .f32⟩
  | .hbm, ⟨69, _⟩ => ⟨S_, .f32⟩
  | .hbm, ⟨70, _⟩ => ⟨S_, .f32⟩
  | .hbm, ⟨71, _⟩ => ⟨S2x2x8x16384x16384, .i1⟩
  | .hbm, ⟨72, _⟩ => ⟨S2x2x8x16384x16384, .f32⟩
  | .hbm, ⟨73, _⟩ => ⟨S2x2x8x16384x16384, .f32⟩
  | .hbm, ⟨74, _⟩ => ⟨S_, .f32⟩
  | .hbm, ⟨75, _⟩ => ⟨S2x2x8x16384, .f32⟩
  | .hbm, ⟨76, _⟩ => ⟨S_, .f32⟩
  | .hbm, ⟨77, _⟩ => ⟨S2x2x8x16384, .f32⟩
  | .hbm, ⟨78, _⟩ => ⟨S2x2x8x16384, .f32⟩
  | .hbm, ⟨79, _⟩ => ⟨S2x2x8x16384x1, .f32⟩
  | .hbm, ⟨80, _⟩ => ⟨S2x2x8x16384x16384, .f32⟩
  | .hbm, ⟨81, _⟩ => ⟨S2x2x8x16384x16384, .f32⟩
  | .hbm, ⟨82, _⟩ => ⟨S2x2x8x16384x16384, .f32⟩
  | .hbm, ⟨83, _⟩ => ⟨S_, .f32⟩
  | .hbm, ⟨84, _⟩ => ⟨S2x2x8x16384, .f32⟩
  | .hbm, ⟨85, _⟩ => ⟨S2x2x8x16384x1, .f32⟩
  | .hbm, ⟨86, _⟩ => ⟨S2x2x8x16384x16384, .f32⟩
  | .hbm, ⟨87, _⟩ => ⟨S2x2x8x16384x16384, .f32⟩
  | .hbm, ⟨88, _⟩ => ⟨S_, .f32⟩
  | .hbm, ⟨89, _⟩ => ⟨S_, .f32⟩
  | .hbm, ⟨90, _⟩ => ⟨S2x2x8x16384x16384, .i1⟩
  | .hbm, ⟨91, _⟩ => ⟨S2x2x8x16384x16384, .f32⟩
  | .hbm, ⟨92, _⟩ => ⟨S2x2x8x16384x16384, .f32⟩
  | .hbm, ⟨93, _⟩ => ⟨S2x2x8x16384x64, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_c_6 : Ref sig .tc := ⟨.hbm, 44, rfl⟩
abbrev main_v33 : Ref sig .tc := ⟨.hbm, 45, rfl⟩
abbrev main_v34 : Ref sig .tc := ⟨.hbm, 46, rfl⟩
abbrev main_c_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_8 : Ref sig .tc := ⟨.hbm, 51, rfl⟩
abbrev main_v38 : Ref sig .tc := ⟨.hbm, 52, rfl⟩
abbrev main_v39 : Ref sig .tc := ⟨.hbm, 53, rfl⟩
abbrev main_c_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_14 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]
-- ==== Proj.lean ====
abbrev S2x16384x2048 : Shape := ⟨3, ![2, 16384, 2048]⟩
abbrev S2048 : Shape := ⟨1, ![2048]⟩
abbrev S2x1x2048 : Shape := ⟨3, ![2, 1, 2048]⟩
abbrev S2048x4608 : Shape := ⟨2, ![2048, 4608]⟩
abbrev S1x2048 : Shape := ⟨2, ![1, 2048]⟩
abbrev S2x16384x4608 : Shape := ⟨3, ![2, 16384, 4608]⟩
abbrev S1x1024x2048 : Shape := ⟨3, ![1, 1024, 2048]⟩
abbrev S1x1x2048 : Shape := ⟨3, ![1, 1, 2048]⟩
abbrev S2048x512 : Shape := ⟨2, ![2048, 512]⟩
abbrev S1x1024x512 : Shape := ⟨3, ![1, 1024, 512]⟩
abbrev S1024x2048 : Shape := ⟨2, ![1024, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 9
  | .vmem => 14
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2048x4608, .f32⟩
  | .hbm, ⟨5, _⟩ => ⟨S2048x4608, .bf16⟩
  | .hbm, ⟨6, _⟩ => ⟨S1x2048, .f32⟩
  | .hbm, ⟨7, _⟩ => ⟨S2x16384x4608, .f32⟩
  | .hbm, ⟨8, _⟩ => ⟨S2x16384x2048, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x1024x512, .f32⟩
  | .local _ .vmem, ⟨10, _⟩ => ⟨S1x1024x512, .f32⟩
  | .local _ .vmem, ⟨11, _⟩ => ⟨S1x1024x2048, .bf16⟩
  | .local _ .vmem, ⟨12, _⟩ => ⟨S1x1024x2048, .bf16⟩
  | .local _ .vmem, ⟨13, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 16, 9], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ProjIdeal.lean ====
abbrev S2x16384x2048 : Shape := ⟨3, ![2, 16384, 2048]⟩
abbrev S2048 : Shape := ⟨1, ![2048]⟩
abbrev S2x1x2048 : Shape := ⟨3, ![2, 1, 2048]⟩
abbrev S2048x4608 : Shape := ⟨2, ![2048, 4608]⟩
abbrev S1x2048 : Shape := ⟨2, ![1, 2048]⟩
abbrev S2x16384x4608 : Shape := ⟨3, ![2, 16384, 4608]⟩
abbrev S1x1024x2048 : Shape := ⟨3, ![1, 1024, 2048]⟩
abbrev S1x1x2048 : Shape := ⟨3, ![1, 1, 2048]⟩
abbrev S2048x512 : Shape := ⟨2, ![2048, 512]⟩
abbrev S1x1024x512 : Shape := ⟨3, ![1, 1024, 512]⟩
abbrev S1024x2048 : Shape := ⟨2, ![1024, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 9
  | .vmem => 14
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2048x4608, .f32⟩
  | .hbm, ⟨5, _⟩ => ⟨S2048x4608, .bf16⟩
  | .hbm, ⟨6, _⟩ => ⟨S1x2048, .f32⟩
  | .hbm, ⟨7, _⟩ => ⟨S2x16384x4608, .f32⟩
  | .hbm, ⟨8, _⟩ => ⟨S2x16384x2048, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x1024x512, .f32⟩
  | .local _ .vmem, ⟨10, _⟩ => ⟨S1x1024x512, .f32⟩
  | .local _ .vmem, ⟨11, _⟩ => ⟨S1x1024x2048, .bf16⟩
  | .local _ .vmem, ⟨12, _⟩ => ⟨S1x1024x2048, .bf16⟩
  | .local _ .vmem, ⟨13, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 16, 9], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ProjRefIdeal.lean ====
abbrev S2x16384x2048 : Shape := ⟨3, ![2, 16384, 2048]⟩
abbrev S2048 : Shape := ⟨1, ![2048]⟩
abbrev S2x1x2048 : Shape := ⟨3, ![2, 1, 2048]⟩
abbrev S2048x4608 : Shape := ⟨2, ![2048, 4608]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x4608 : Shape := ⟨3, ![2, 16384, 4608]⟩

abbrev nBuf : Space → Nat
  | .hbm => 29
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2048x4608, .f32⟩
  | .hbm, ⟨5, _⟩ => ⟨S2x16384x2048, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S1x1x2048, .f32⟩
  | .hbm, ⟨19, _⟩ => ⟨S2x16384x2048, .f32⟩
  | .hbm, ⟨20, _⟩ => ⟨S2x16384x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x16384x2048, .f32⟩
  | .hbm, ⟨25, _⟩ => ⟨S2x16384x2048, .f32⟩
  | .hbm, ⟨26, _⟩ => ⟨S2x16384x2048, .f32⟩
  | .hbm, ⟨27, _⟩ => ⟨S2x16384x2048, .f32⟩
  | .hbm, ⟨28, _⟩ => ⟨S2x16384x4608, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Query.lean ====
abbrev S2x16384x2048 : Shape := ⟨3, ![2, 16384, 2048]⟩
abbrev S2048 : Shape := ⟨1, ![2048]⟩
abbrev S2x1x2048 : Shape := ⟨3, ![2, 1, 2048]⟩
abbrev S2048x2048 : Shape := ⟨2, ![2048, 2048]⟩
abbrev S1x2048 : Shape := ⟨2, ![1, 2048]⟩
abbrev S1x1024x2048 : Shape := ⟨3, ![1, 1024, 2048]⟩
abbrev S1x1x2048 : Shape := ⟨3, ![1, 1, 2048]⟩
abbrev S2048x512 : Shape := ⟨2, ![2048, 512]⟩
abbrev S1x1024x512 : Shape := ⟨3, ![1, 1024, 512]⟩
abbrev S1024x2048 : Shape := ⟨2, ![1024, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 9
  | .vmem => 14
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S2x16384x2048, .f32⟩
  | .hbm, ⟨8, _⟩ => ⟨S2x16384x2048, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x1024x512, .f32⟩
  | .local _ .vmem, ⟨10, _⟩ => ⟨S1x1024x512, .f32⟩
  | .local _ .vmem, ⟨11, _⟩ => ⟨S1x1024x2048, .bf16⟩
  | .local _ .vmem, ⟨12, _⟩ => ⟨S1x1024x2048, .bf16⟩
  | .local _ .vmem, ⟨13, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 16, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== QueryRefIdeal.lean ====
abbrev S2x16384x2048 : Shape := ⟨3, ![2, 16384, 2048]⟩
abbrev S2048 : Shape := ⟨1, ![2048]⟩
abbrev S2x1x2048 : Shape := ⟨3, ![2, 1, 2048]⟩
abbrev S2048x2048 : Shape := ⟨2, ![2048, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2048x2048, .f32⟩
  | .hbm, ⟨5, _⟩ => ⟨S2x16384x2048, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S1x1x2048, .f32⟩
  | .hbm, ⟨19, _⟩ => ⟨S2x16384x2048, .f32⟩
  | .hbm, ⟨20, _⟩ => ⟨S2x16384x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x16384x2048, .f32⟩
  | .hbm, ⟨25, _⟩ => ⟨S2x16384x2048, .f32⟩
  | .hbm, ⟨26, _⟩ => ⟨S2x16384x2048, .f32⟩
  | .hbm, ⟨27, _⟩ => ⟨S2x16384x2048, .f32⟩
  | .hbm, ⟨28, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Mix.lean ====
abbrev S2x16384x1024 : Shape := ⟨3, ![2, 16384, 1024]⟩
abbrev S2x16384x4608 : Shape := ⟨3, ![2, 16384, 4608]⟩
abbrev S1024 : Shape := ⟨1, ![1024]⟩
abbrev S2048x2048 : Shape := ⟨2, ![2048, 2048]⟩
abbrev S2x16384x2048 : Shape := ⟨3, ![2, 16384, 2048]⟩
abbrev S2x1x2048 : Shape := ⟨3, ![2, 1, 2048]⟩
abbrev S3x3x128x16x64 : Shape := ⟨5, ![3, 3, 128, 16, 64]⟩
abbrev S_ : Shape := ⟨0, ![]⟩
abbrev S3x384x1024 : Shape := ⟨3, ![3, 384, 1024]⟩
abbrev S1x1024 : Shape := ⟨2, ![1, 1024]⟩
abbrev S1x512x1024 : Shape := ⟨3, ![1, 512, 1024]⟩
abbrev S1x512x128 : Shape := ⟨3, ![1, 512, 128]⟩
abbrev S1x512x2048 : Shape := ⟨3, ![1, 512, 2048]⟩
abbrev S1x1x2048 : Shape := ⟨3, ![1, 1, 2048]⟩
abbrev S512x128 : Shape := ⟨2, ![512, 128]⟩
abbrev S512x384 : Shape := ⟨2, ![512, 384]⟩
abbrev S1x384x1024 : Shape := ⟨3, ![1, 384, 1024]⟩
abbrev S384x1024 : Shape := ⟨2, ![384, 1024]⟩
abbrev S512x1024 : Shape := ⟨2, ![512, 1024]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩
abbrev S1x2048 : Shape := ⟨2, ![1, 2048]⟩

abbrev nBuf : Space → Nat
  | .hbm => 22
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x4608, .f32⟩
  | .hbm, ⟨4, _⟩ => ⟨S1024, .f32⟩
  | .hbm, ⟨5, _⟩ => ⟨S2x16384x1024, .f32⟩
  | .hbm, ⟨6, _⟩ => ⟨S2048x2048, .f32⟩
  | .hbm, ⟨7, _⟩ => ⟨S2x16384x2048, .f32⟩
  | .hbm, ⟨8, _⟩ => ⟨S2x1x2048, .f32⟩
  | .hbm, ⟨9, _⟩ => ⟨S2048x2048, .bf16⟩
  | .hbm, ⟨10, _⟩ => ⟨S3x3x128x16x64, .i32⟩
  | .hbm, ⟨11, _⟩ => ⟨S3x3x128x16x64, .i32⟩
  | .hbm, ⟨12, _⟩ => ⟨S_, .i32⟩
  | .hbm, ⟨13, _⟩ => ⟨S3x3x128x16x64, .i32⟩
  | .hbm, ⟨14, _⟩ => ⟨S3x3x128x16x64, .i32⟩
  | .hbm, ⟨15, _⟩ => ⟨S3x3x128x16x64, .i32⟩
  | .hbm, ⟨16, _⟩ => ⟨S3x3x128x16x64, .i32⟩
  | .hbm, ⟨17, _⟩ => ⟨S3x3x128x16x64, .i1⟩
  | .hbm, ⟨18, _⟩ => ⟨S3x3x128x16x64, .bf16⟩
  | .hbm, ⟨19, _⟩ => ⟨S3x384x1024, .bf16⟩
  | .hbm, ⟨20, _⟩ => ⟨S1x1024, .f32⟩
  | .hbm, ⟨21, _⟩ => ⟨S2x16384x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x128, .f32⟩
  | .local _ .vmem, ⟨7, _⟩ => ⟨S1x512x128, .f32⟩
  | .local _ .vmem, ⟨8, _⟩ => ⟨S3x384x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S2048x2048, .bf16⟩
  | .local _ .vmem, ⟨13, _⟩ => ⟨S1x512x2048, .f32⟩
  | .local _ .vmem, ⟨14, _⟩ => ⟨S1x512x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x512x2048, .f32⟩
  | .local _ .vmem, ⟨18, _⟩ => ⟨S1x512x2048, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c22_i32 : BitVec 32 := 22#32
  let c0_i32 : BitVec 32 := 0#32
  ![arg0.toNat, arg1.toNat, c22_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixRefIdeal.lean ====
abbrev S2x16384x1024 : Shape := ⟨3, ![2, 16384, 1024]⟩
abbrev S2x16384x4608 : Shape := ⟨3, ![2, 16384, 4608]⟩
abbrev S1024 : Shape := ⟨1, ![1024]⟩
abbrev S2048x2048 : Shape := ⟨2, ![2048, 2048]⟩
abbrev S2x16384x2048 : Shape := ⟨3, ![2, 16384, 2048]⟩
abbrev S2x1x2048 : Shape := ⟨3, ![2, 1, 2048]⟩
abbrev S2x16384x48 : Shape := ⟨3, ![2, 16384, 48]⟩
abbrev S_ : Shape := ⟨0, ![]⟩
abbrev S2x16384x2x8x3 : Shape := ⟨5, ![2, 16384, 2, 8, 3]⟩
abbrev S2x16384x2x8x1 : Shape := ⟨5, ![2, 16384, 2, 8, 1]⟩
abbrev S2x16384x2x8x64 : Shape := ⟨5, ![2, 16384, 2, 8, 64]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x4608, .f32⟩
  | .hbm, ⟨4, _⟩ => ⟨S1024, .f32⟩
  | .hbm, ⟨5, _⟩ => ⟨S2x16384x1024, .f32⟩
  | .hbm, ⟨6, _⟩ => ⟨S2048x2048, .f32⟩
  | .hbm, ⟨7, _⟩ => ⟨S2x16384x2048, .f32⟩
  | .hbm, ⟨8, _⟩ => ⟨S2x1x2048, .f32⟩
  | .hbm, ⟨9, _⟩ => ⟨S2x16384x48, .f32⟩
  | .hbm, ⟨10, _⟩ => ⟨S2x16384x48, .f32⟩
  | .hbm, ⟨11, _⟩ => ⟨S2x16384x48, .f32⟩
  | .hbm, ⟨12, _⟩ => ⟨S_, .f32⟩
  | .hbm, ⟨13, _⟩ => ⟨S2x16384x48, .f32⟩
  | .hbm, ⟨14, _⟩ => ⟨S2x16384x48, .f32⟩
  | .hbm, ⟨15, _⟩ => ⟨S_, .f32⟩
  | .hbm, ⟨16, _⟩ => ⟨S2x16384x48, .f32⟩
  | .hbm, ⟨17, _⟩ => ⟨S2x16384x48, .f32⟩
  | .hbm, ⟨18, _⟩ => ⟨S2x16384x2x8x3, .f32⟩
  | .hbm, ⟨19, _⟩ => ⟨S2x16384x2x8x1, .f32⟩
  | .hbm, ⟨20, _⟩ => ⟨S2x16384x2x8x64, .f32⟩
  | .hbm, ⟨21, _⟩ => ⟨S2x16384x2x8x64, .f32⟩
  | .hbm, ⟨22, _⟩ => ⟨S2x16384x2x8x64, .f32⟩
  | .hbm, ⟨23, _⟩ => ⟨S2x16384x2x8x1, .f32⟩
  | .hbm, ⟨24, _⟩ => ⟨S2x16384x2x8x64, .f32⟩
  | .hbm, ⟨25, _⟩ => ⟨S2x16384x2x8x64, .f32⟩
  | .hbm, ⟨26, _⟩ => ⟨S2x16384x2x8x64, .f32⟩
  | .hbm, ⟨27, _⟩ => ⟨S2x16384x2x8x64, .f32⟩
  | .hbm, ⟨28, _⟩ => ⟨S2x16384x2x8x1, .f32⟩
  | .hbm, ⟨29, _⟩ => ⟨S2x16384x2x8x64, .f32⟩
  | .hbm, ⟨30, _⟩ => ⟨S2x16384x2x8x64, .f32⟩
  | .hbm, ⟨31, _⟩ => ⟨S2x16384x2x8x64, .f32⟩
  | .hbm, ⟨32, _⟩ => ⟨S2x16384x2x8x64, .f32⟩
  | .hbm, ⟨33, _⟩ => ⟨S2x16384x1024, .f32⟩
  | .hbm, ⟨34, _⟩ => ⟨S2x16384x1024, .f32⟩
  | .hbm, ⟨35, _⟩ => ⟨S_, .f32⟩
  | .hbm, ⟨36, _⟩ => ⟨S2x16384, .f32⟩
  | .hbm, ⟨37, _⟩ => ⟨S2x16384x1, .f32⟩
  | .hbm, ⟨38, _⟩ => ⟨S_, .f32⟩
  | .hbm, ⟨39, _⟩ => ⟨S2x16384x1, .f32⟩
  | .hbm, ⟨40, _⟩ => ⟨S2x16384x1, .f32⟩
  | .hbm, ⟨41, _⟩ => ⟨S_, .f32⟩
  | .hbm, ⟨42, _⟩ => ⟨S2x16384x1, .f32⟩
  | .hbm, ⟨43, _⟩ => ⟨S2x16384x1, .f32⟩
  | .hbm, ⟨44, _⟩ => ⟨S2x16384x1, .f32⟩
  | .hbm, ⟨45, _⟩ => ⟨S2x16384x1024, .f32⟩
  | .hbm, ⟨46, _⟩ => ⟨S2x16384x1024, .f32⟩
  | .hbm, ⟨47, _⟩ => ⟨S1x1x1024, .f32⟩
  | .hbm, ⟨48, _⟩ => ⟨S2x16384x1024, .f32⟩
  | .hbm, ⟨49, _⟩ => ⟨S2x16384x1024, .f32⟩
  | .hbm, ⟨50, _⟩ => ⟨S2x16384x2048, .f32⟩
  | .hbm, ⟨51, _⟩ => ⟨S2x16384x2048, .f32⟩
  | .hbm, ⟨52, _⟩ => ⟨S2x16384x2048, .f32⟩
  | .hbm, ⟨53, _⟩ => ⟨S2x16384x2048, .f32⟩
  | .hbm, ⟨54, _⟩ => ⟨S2x16384x2048, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Final.lean ====
abbrev S2x16384x2048 : Shape := ⟨3, ![2, 16384, 2048]⟩
abbrev S2048x32768 : Shape := ⟨2, ![2048, 32768]⟩
abbrev S2x1x2048 : Shape := ⟨3, ![2, 1, 2048]⟩
abbrev S2048 : Shape := ⟨1, ![2048]⟩
abbrev S1x2048 : Shape := ⟨2, ![1, 2048]⟩
abbrev S1x512x2048 : Shape := ⟨3, ![1, 512, 2048]⟩
abbrev S2048x512 : Shape := ⟨2, ![2048, 512]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S2x16384x2048, .f32⟩
  | .hbm, ⟨1, _⟩ => ⟨S2048x32768, .f32⟩
  | .hbm, ⟨2, _⟩ => ⟨S2x1x2048, .f32⟩
  | .hbm, ⟨3, _⟩ => ⟨S2048, .f32⟩
  | .hbm, ⟨4, _⟩ => ⟨S1x2048, .f32⟩
  | .hbm, ⟨5, _⟩ => ⟨S2x16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S2048x512, .f32⟩
  | .local _ .vmem, ⟨3, _⟩ => ⟨S2048x512, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x512x2048, .f32⟩
  | .local _ .vmem, ⟨8, _⟩ => ⟨S1x512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FinalRefIdeal.lean ====
abbrev S2x16384x2048 : Shape := ⟨3, ![2, 16384, 2048]⟩
abbrev S2048x32768 : Shape := ⟨2, ![2048, 32768]⟩
abbrev S2x1x2048 : Shape := ⟨3, ![2, 1, 2048]⟩
abbrev S2048 : Shape := ⟨1, ![2048]⟩
abbrev S32768x2048 : Shape := ⟨2, ![32768, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x32768, .f32⟩
  | .hbm, ⟨2, _⟩ => ⟨S2x1x2048, .f32⟩
  | .hbm, ⟨3, _⟩ => ⟨S2048, .f32⟩
  | .hbm, ⟨4, _⟩ => ⟨S32768x2048, .f32⟩
  | .hbm, ⟨5, _⟩ => ⟨S2x16384x2048, .f32⟩
  | .hbm, ⟨6, _⟩ => ⟨S2x16384x2048, .f32⟩
  | .hbm, ⟨7, _⟩ => ⟨S2x16384x2048, .f32⟩
  | .hbm, ⟨8, _⟩ => ⟨S2x16384x2048, .f32⟩
  | .hbm, ⟨9, _⟩ => ⟨S2x16384x2048, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x2048, .f32⟩
  | .hbm, ⟨21, _⟩ => ⟨S2x16384x2048, .f32⟩
  | .hbm, ⟨22, _⟩ => ⟨S1x1x2048, .f32⟩
  | .hbm, ⟨23, _⟩ => ⟨S2x16384x2048, .f32⟩
  | .hbm, ⟨24, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Cmp.lean ====
abbrev S2x16384x1024 : Shape := ⟨3, ![2, 16384, 1024]⟩
abbrev S2x2x2x1152x64 : Shape := ⟨5, ![2, 2, 2, 1152, 64]⟩
abbrev S32x16 : Shape := ⟨2, ![32, 16]⟩
abbrev S1152x256 : Shape := ⟨2, ![1152, 256]⟩
abbrev S15 : Shape := ⟨1, ![15]⟩
abbrev S128 : Shape := ⟨1, ![128]⟩
abbrev S128x1 : Shape := ⟨2, ![128, 1]⟩
abbrev S640 : Shape := ⟨1, ![640]⟩
abbrev S1x640 : Shape := ⟨2, ![1, 640]⟩
abbrev S128x640 : Shape := ⟨2, ![128, 640]⟩
abbrev S_ : Shape := ⟨0, ![]⟩
abbrev S1x128 : Shape := ⟨2, ![1, 128]⟩
abbrev S128x128 : Shape := ⟨2, ![128, 128]⟩
abbrev S128x2560 : Shape := ⟨2, ![128, 2560]⟩
abbrev S128x256 : Shape := ⟨2, ![128, 256]⟩
abbrev S128x2816 : Shape := ⟨2, ![128, 2816]⟩
abbrev S128x2816x1 : Shape := ⟨3, ![128, 2816, 1]⟩
abbrev S1x1x15 : Shape := ⟨3, ![1, 1, 15]⟩
abbrev S128x2816x15 : Shape := ⟨3, ![128, 2816, 15]⟩
abbrev S16x128x2816 : Shape := ⟨3, ![16, 128, 2816]⟩
abbrev S1x128x2816 : Shape := ⟨3, ![1, 128, 2816]⟩
abbrev S1x1 : Shape := ⟨2, ![1, 1]⟩
abbrev S16x128x640 : Shape := ⟨3, ![16, 128, 640]⟩
abbrev S2x8x128x640 : Shape := ⟨4, ![2, 8, 128, 640]⟩
abbrev S16x128x128 : Shape := ⟨3, ![16, 128, 128]⟩
abbrev S2x8x128x128 : Shape := ⟨4, ![2, 8, 128, 128]⟩
abbrev S16x128x2048 : Shape := ⟨3, ![16, 128, 2048]⟩
abbrev S2x8x128x16x128 : Shape := ⟨5, ![2, 8, 128, 16, 128]⟩
abbrev S2x16x128x8x128 : Shape := ⟨5, ![2, 16, 128, 8, 128]⟩
abbrev S2x16x128x1024 : Shape := ⟨4, ![2, 16, 128, 1024]⟩
abbrev S1x16 : Shape := ⟨2, ![1, 16]⟩
abbrev S16 : Shape := ⟨1, ![16]⟩
abbrev S2x8x1 : Shape := ⟨3, ![2, 8, 1]⟩
abbrev S2x8x128 : Shape := ⟨3, ![2, 8, 128]⟩
abbrev S2x1024x1 : Shape := ⟨3, ![2, 1024, 1]⟩
abbrev S2x1x1024 : Shape := ⟨3, ![2, 1, 1024]⟩
abbrev S2x64x1024 : Shape := ⟨3, ![2, 64, 1024]⟩
abbrev S2x61x1024 : Shape := ⟨3, ![2, 61, 1024]⟩
abbrev S2x128x1024 : Shape := ⟨3, ![2, 128, 1024]⟩
abbrev S2x128x128x2x8x64 : Shape := ⟨6, ![2, 128, 128, 2, 8, 64]⟩
abbrev S2x2x8x128x128x64 : Shape := ⟨6, ![2, 2, 8, 128, 128, 64]⟩
abbrev S2x2x8x16384x64 : Shape := ⟨5, ![2, 2, 8, 16384, 64]⟩
abbrev S2x2x128x256x128 : Shape := ⟨5, ![2, 2, 128, 256, 128]⟩
abbrev S1x1x8x128x64 : Shape := ⟨5, ![1, 1, 8, 128, 64]⟩
abbrev S1x1x1x1152x64 : Shape := ⟨5, ![1, 1, 1, 1152, 64]⟩
abbrev S1x8x128x128 : Shape := ⟨4, ![1, 8, 128, 128]⟩
abbrev S1x1024x1 : Shape := ⟨3, ![1, 1024, 1]⟩
abbrev S1x1x1x256x128 : Shape := ⟨5, ![1, 1, 1, 256, 128]⟩
abbrev S8x128x64 : Shape := ⟨3, ![8, 128, 64]⟩
abbrev S1024x64 : Shape := ⟨2, ![1024, 64]⟩
abbrev S1x1x1x256x64 : Shape := ⟨5, ![1, 1, 1, 256, 64]⟩
abbrev S256x64 : Shape := ⟨2, ![256, 64]⟩
abbrev S1x1x1x128x64 : Shape := ⟨5, ![1, 1, 1, 128, 64]⟩
abbrev S128x64 : Shape := ⟨2, ![128, 64]⟩
abbrev S1x256 : Shape := ⟨2, ![1, 256]⟩
abbrev S1024x256 : Shape := ⟨2, ![1024, 256]⟩
abbrev S1024x1 : Shape := ⟨2, ![1024, 1]⟩
abbrev S8x128x128 : Shape := ⟨3, ![8, 128, 128]⟩
abbrev S1024x128 : Shape := ⟨2, ![1024, 128]⟩
abbrev S1024 : Shape := ⟨1, ![1024]⟩
abbrev S8x128x256 : Shape := ⟨3, ![8, 128, 256]⟩
abbrev S256x256 : Shape := ⟨2, ![256, 256]⟩
abbrev S1x1x1x512x64 : Shape := ⟨5, ![1, 1, 1, 512, 64]⟩
abbrev S512x64 : Shape := ⟨2, ![512, 64]⟩
abbrev S1x512 : Shape := ⟨2, ![1, 512]⟩
abbrev S1024x512 : Shape := ⟨2, ![1024, 512]⟩
abbrev S8x128x512 : Shape := ⟨3, ![8, 128, 512]⟩
abbrev S128x512 : Shape := ⟨2, ![128, 512]⟩
abbrev S512x256 : Shape := ⟨2, ![512, 256]⟩
abbrev S1x1x1x768x64 : Shape := ⟨5, ![1, 1, 1, 768, 64]⟩
abbrev S768x64 : Shape := ⟨2, ![768, 64]⟩
abbrev S1x768 : Shape := ⟨2, ![1, 768]⟩
abbrev S1024x768 : Shape := ⟨2, ![1024, 768]⟩
abbrev S8x128x768 : Shape := ⟨3, ![8, 128, 768]⟩
abbrev S128x768 : Shape := ⟨2, ![128, 768]⟩
abbrev S768x256 : Shape := ⟨2, ![768, 256]⟩
abbrev S1x1x1x1024x64 : Shape := ⟨5, ![1, 1, 1, 1024, 64]⟩
abbrev S1x1024 : Shape := ⟨2, ![1, 1024]⟩
abbrev S1024x1024 : Shape := ⟨2, ![1024, 1024]⟩
abbrev S8x128x1024 : Shape := ⟨3, ![8, 128, 1024]⟩
abbrev S128x1024 : Shape := ⟨2, ![128, 1024]⟩
abbrev S256x128 : Shape := ⟨2, ![256, 128]⟩
abbrev S256x1 : Shape := ⟨2, ![256, 1]⟩

abbrev nBuf : Space → Nat
  | .hbm => 144
  | .vmem => 19
  | .smem => 1
  | _ => 0

abbrev hbmTy0_0 (i : Nat) : BufTy := match i % 128 with
  | 0 => ⟨S2x16384x1024, .f32⟩
  | 1 => ⟨S2x2x2x1152x64, .f32⟩
  | 2 => ⟨S32x16, .f32⟩
  | 3 => ⟨S1152x256, .f32⟩
  | 4 => ⟨S15, .i32⟩
  | 5 => ⟨S128, .i32⟩
  | 6 => ⟨S128x1, .i32⟩
  | 7 => ⟨S640, .i32⟩
  | 8 => ⟨S1x640, .i32⟩
  | 9 => ⟨S128x640, .i32⟩
  | 10 => ⟨S128x640, .i32⟩
  | 11 => ⟨S128x640, .i32⟩
  | 12 => ⟨S_, .i32⟩
  | 13 => ⟨S128x640, .i32⟩
  | 14 => ⟨S128x640, .i32⟩
  | 15 => ⟨S_, .i32⟩
  | 16 => ⟨S128x1, .i32⟩
  | 17 => ⟨S128x1, .i32⟩
  | 18 => ⟨S128, .i32⟩
  | 19 => ⟨S1x128, .i32⟩
  | 20 => ⟨S_, .i32⟩
  | 21 => ⟨S1x128, .i32⟩
  | 22 => ⟨S1x128, .i32⟩
  | 23 => ⟨S128x128, .i32⟩
  | 24 => ⟨S128x128, .i32⟩
  | 25 => ⟨S128x128, .i32⟩
  | 26 => ⟨S128, .i32⟩
  | 27 => ⟨S1x128, .i32⟩
  | 28 => ⟨S128x128, .i32⟩
  | 29 => ⟨S128x128, .i32⟩
  | 30 => ⟨S128x128, .i32⟩
  | 31 => ⟨S_, .i32⟩
  | 32 => ⟨S128x640, .i32⟩
  | 33 => ⟨S128x640, .i1⟩
  | 34 => ⟨S_, .i32⟩
  | 35 => ⟨S_, .i32⟩
  | 36 => ⟨S128x640, .i32⟩
  | 37 => ⟨S128x640, .i32⟩
  | 38 => ⟨S_, .i32⟩
  | 39 => ⟨S128x128, .i32⟩
  | 40 => ⟨S128x128, .i32⟩
  | 41 => ⟨S_, .i32⟩
  | 42 => ⟨S128x128, .i32⟩
  | 43 => ⟨S128x128, .i32⟩
  | 44 => ⟨S_, .i32⟩
  | 45 => ⟨S128x128, .i32⟩
  | 46 => ⟨S128x128, .i32⟩
  | 47 => ⟨S_, .i32⟩
  | 48 => ⟨S128x128, .i32⟩
  | 49 => ⟨S128x128, .i32⟩
  | 50 => ⟨S_, .i32⟩
  | 51 => ⟨S128x128, .i32⟩
  | 52 => ⟨S128x128, .i32⟩
  | 53 => ⟨S_, .i32⟩
  | 54 => ⟨S128x128, .i32⟩
  | 55 => ⟨S128x128, .i32⟩
  | 56 => ⟨S_, .i32⟩
  | 57 => ⟨S128x128, .i32⟩
  | 58 => ⟨S128x128, .i32⟩
  | 59 => ⟨S_, .i32⟩
  | 60 => ⟨S128x128, .i32⟩
  | 61 => ⟨S128x128, .i32⟩
  | 62 => ⟨S_, .i32⟩
  | 63 => ⟨S128x128, .i32⟩
  | 64 => ⟨S128x128, .i32⟩
  | 65 => ⟨S_, .i32⟩
  | 66 => ⟨S128x128, .i32⟩
  | 67 => ⟨S128x128, .i32⟩
  | 68 => ⟨S_, .i32⟩
  | 69 => ⟨S128x128, .i32⟩
  | 70 => ⟨S128x128, .i32⟩
  | 71 => ⟨S_, .i32⟩
  | 72 => ⟨S128x128, .i32⟩
  | 73 => ⟨S128x128, .i32⟩
  | 74 => ⟨S_, .i32⟩
  | 75 => ⟨S128x128, .i32⟩
  | 76 => ⟨S128x128, .i32⟩
  | 77 => ⟨S_, .i32⟩
  | 78 => ⟨S128x128, .i32⟩
  | 79 => ⟨S128x128, .i32⟩
  | 80 => ⟨S_, .i32⟩
  | 81 => ⟨S128x128, .i32⟩
  | 82 => ⟨S_, .i32⟩
  | 83 => ⟨S128x128, .i32⟩
  | 84 => ⟨S128x2560, .i32⟩
  | 85 => ⟨S128x256, .i32⟩
  | 86 => ⟨S128x2816, .i32⟩
  | 87 => ⟨S_, .i32⟩
  | 88 => ⟨S128x2816, .i32⟩
  | 89 => ⟨S128x2816, .i1⟩
  | 90 => ⟨S128x2816x1, .i32⟩
  | 91 => ⟨S1x1x15, .i32⟩
  | 92 => ⟨S128x2816x15, .i32⟩
  | 93 => ⟨S128x2816x15, .i32⟩
  | 94 => ⟨S128x2816x15, .i1⟩
  | 95 => ⟨S_, .i32⟩
  | 96 => ⟨S128x2816, .i32⟩
  | 97 => ⟨S128x2816, .i32⟩
  | 98 => ⟨S128x2816x15, .i32⟩
  | 99 => ⟨S_, .i32⟩
  | 100 => ⟨S128x2816, .i32⟩
  | 101 => ⟨S128x2816, .i32⟩
  | 102 => ⟨S_, .i32⟩
  | 103 => ⟨S_, .i32⟩
  | 104 => ⟨S128x2816, .i32⟩
  | 105 => ⟨S128x2816, .i32⟩
  | 106 => ⟨S16x128x2816, .f32⟩
  | 107 => ⟨S16x128x640, .f32⟩
  | 108 => ⟨S2x8x128x640, .f32⟩
  | 109 => ⟨S16x128x128, .f32⟩
  | 110 => ⟨S2x8x128x128, .f32⟩
  | 111 => ⟨S16x128x2048, .f32⟩
  | 112 => ⟨S2x8x128x16x128, .f32⟩
  | 113 => ⟨S2x16x128x8x128, .f32⟩
  | 114 => ⟨S2x16x128x1024, .f32⟩
  | 115 => ⟨S1x16, .f32⟩
  | 116 => ⟨S16, .f32⟩
  | 117 => ⟨S2x8x1, .f32⟩
  | 118 => ⟨S2x8x128, .f32⟩
  | 119 => ⟨S2x1024x1, .f32⟩
  | 120 => ⟨S2x1x1024, .f32⟩
  | 121 => ⟨S2x1x1024, .bf16⟩
  | 122 => ⟨S2x1x1024, .f32⟩
  | 123 => ⟨S2x1x1024, .f32⟩
  | 124 => ⟨S2x1x1024, .bf16⟩
  | 125 => ⟨S2x1x1024, .f32⟩
  | 126 => ⟨S2x1x1024, .f32⟩
  | 127 => ⟨S2x1x1024, .bf16⟩
  | _ => ⟨S2x16384x1024, .f32⟩

abbrev hbmTy0_1 (i : Nat) : BufTy := match i % 128 with
  | 0 => ⟨S2x1x1024, .f32⟩
  | 1 => ⟨S2x1x1024, .f32⟩
  | 2 => ⟨S_, .bf16⟩
  | 3 => ⟨S2x64x1024, .bf16⟩
  | 4 => ⟨S_, .bf16⟩
  | 5 => ⟨S2x61x1024, .bf16⟩
  | 6 => ⟨S2x128x1024, .bf16⟩
  | 7 => ⟨S_, .f32⟩
  | 8 => ⟨S2x16384x1024, .f32⟩
  | 9 => ⟨S2x16384x1024, .f32⟩
  | 10 => ⟨S2x16384x1024, .bf16⟩
  | 11 => ⟨S2x128x128x2x8x64, .bf16⟩
  | 12 => ⟨S2x2x8x128x128x64, .bf16⟩
  | 13 => ⟨S2x2x8x16384x64, .bf16⟩
  | 14 => ⟨S2x2x8x16384x64, .f32⟩
  | 15 => ⟨S2x2x128x256x128, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | .local _ .vmem, ⟨0, _⟩ => ⟨S128x2816, .i32⟩
  | .local _ .vmem, ⟨1, _⟩ => ⟨S1x128x2816, .f32⟩
  | .local _ .vmem, ⟨2, _⟩ => ⟨S1x128x2816, .f32⟩
  | .local _ .vmem, ⟨3, _⟩ => ⟨S1x1x8x128x64, .bf16⟩
  | .local _ .vmem, ⟨4, _⟩ => ⟨S1x1x8x128x64, .bf16⟩
  | .local _ .vmem, ⟨5, _⟩ => ⟨S1x1x1x1152x64, .f32⟩
  | .local _ .vmem, ⟨6, _⟩ => ⟨S1x1x1x1152x64, .f32⟩
  | .local _ .vmem, ⟨7, _⟩ => ⟨S1x1x1x1152x64, .f32⟩
  | .local _ .vmem, ⟨8, _⟩ => ⟨S1x1x1x1152x64, .f32⟩
  | .local _ .vmem, ⟨9, _⟩ => ⟨S1x8x128x128, .f32⟩
  | .local _ .vmem, ⟨10, _⟩ => ⟨S1x8x128x128, .f32⟩
  | .local _ .vmem, ⟨11, _⟩ => ⟨S1x1024x1, .f32⟩
  | .local _ .vmem, ⟨12, _⟩ => ⟨S1x1024x1, .f32⟩
  | .local _ .vmem, ⟨13, _⟩ => ⟨S1152x256, .f32⟩
  | .local _ .vmem, ⟨14, _⟩ => ⟨S1x1x8x128x64, .f32⟩
  | .local _ .vmem, ⟨15, _⟩ => ⟨S1x1x8x128x64, .f32⟩
  | .local _ .vmem, ⟨16, _⟩ => ⟨S1x1x1x256x128, .bf16⟩
  | .local _ .vmem, ⟨17, _⟩ => ⟨S1x1x1x256x128, .bf16⟩
  | .local _ .vmem, ⟨18, _⟩ => ⟨S128x256, .f32⟩
  | .local _ .smem, ⟨0, _⟩ => ⟨S32x16, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_call0_v0 : Ref sig .tc := ⟨.hbm, 35, rfl⟩
abbrev main_call0_v1 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_c_9 : Ref sig .tc := ⟨.hbm, 50, rfl⟩
abbrev main_v34 : Ref sig .tc := ⟨.hbm, 51, rfl⟩
abbrev main_v35 : Ref sig .tc := ⟨.hbm, 52, rfl⟩
abbrev main_c_10 : Ref sig .tc := ⟨.hbm, 53, rfl⟩
abbrev main_v36 : Ref sig .tc := ⟨.hbm, 54, rfl⟩
abbrev main_v37 : Ref sig .tc := ⟨.hbm, 55, rfl⟩
abbrev main_c_11 : Ref sig .tc := ⟨.hbm, 56, rfl⟩
abbrev main_v38 : Ref sig .tc := ⟨.hbm, 57, rfl⟩
abbrev main_v39 : Ref sig .tc := ⟨.hbm, 58, rfl⟩
abbrev main_c_12 : Ref sig .tc := ⟨.hbm, 59, rfl⟩
abbrev main_v40 : Ref sig .tc := ⟨.hbm, 60, rfl⟩
abbrev main_v41 : Ref sig .tc := ⟨.hbm, 61, rfl⟩
abbrev main_c_13 : Ref sig .tc := ⟨.hbm, 62, rfl⟩
abbrev main_v42 : Ref sig .tc := ⟨.hbm, 63, rfl⟩
abbrev main_v43 : Ref sig .tc := ⟨.hbm, 64, rfl⟩
abbrev main_c_14 : Ref sig .tc := ⟨.hbm, 65, rfl⟩
abbrev main_v44 : Ref sig .tc := ⟨.hbm, 66, rfl⟩
abbrev main_v45 : Ref sig .tc := ⟨.hbm, 67, rfl⟩
abbrev main_c_15 : Ref sig .tc := ⟨.hbm, 68, rfl⟩
abbrev main_v46 : Ref sig .tc := ⟨.hbm, 69, rfl⟩
abbrev main_v47 : Ref sig .tc := ⟨.hbm, 70, rfl⟩
abbrev main_c_16 : Ref sig .tc := ⟨.hbm, 71, rfl⟩
abbrev main_v48 : Ref sig .tc := ⟨.hbm, 72, rfl⟩
abbrev main_v49 : Ref sig .tc := ⟨.hbm, 73, rfl⟩
abbrev main_c_17 : Ref sig .tc := ⟨.hbm, 74, rfl⟩
abbrev main_v50 : Ref sig .tc := ⟨.hbm, 75, rfl⟩
abbrev main_v51 : Ref sig .tc := ⟨.hbm, 76, rfl⟩
abbrev main_c_18 : Ref sig .tc := ⟨.hbm, 77, rfl⟩
abbrev main_v52 : Ref sig .tc := ⟨.hbm, 78, rfl⟩
abbrev main_v53 : Ref sig .tc := ⟨.hbm, 79, rfl⟩
abbrev main_c_19 : Ref sig .tc := ⟨.hbm, 80, rfl⟩
abbrev main_v54 : Ref sig .tc := ⟨.hbm, 81, rfl⟩
abbrev main_c_20 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_21 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_22 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_23 : Ref sig .tc := ⟨.hbm, 99, rfl⟩
abbrev main_v69 : Ref sig .tc := ⟨.hbm, 100, rfl⟩
abbrev main_v70 : Ref sig .tc := ⟨.hbm, 101, rfl⟩
abbrev main_c_24 : Ref sig .tc := ⟨.hbm, 102, rfl⟩
abbrev main_call1_v0 : Ref sig .tc := ⟨.hbm, 103, rfl⟩
abbrev main_call1_v1 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst : Ref sig .tc := ⟨.hbm, 130, rfl⟩
abbrev main_v96 : Ref sig .tc := ⟨.hbm, 131, rfl⟩
abbrev main_cst_25 : Ref sig .tc := ⟨.hbm, 132, rfl⟩
abbrev main_v97 : Ref sig .tc := ⟨.hbm, 133, rfl⟩
abbrev main_v98 : Ref sig .tc := ⟨.hbm, 134, rfl⟩
abbrev main_cst_26 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105_0 : Ref sig .tc := ⟨.hbm, 142, rfl⟩
abbrev main_v105_1 : Ref sig .tc := ⟨.hbm, 143, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_scratch0 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_1 : Index := 0#32
  let arg0 : BitVec 32 := BitVec.ofNat 32 (i 0).val
  let v5 : Index := Scalar.indexCast arg0
  ![0, v5.toNat]
def k0_off2 (i : grid0.Coords) : Fin 2 → Nat :=
  let c1 : Index := 1#32
  let arg0 : BitVec 32 := BitVec.ofNat 32 (i 0).val
  let v11 : Index := Scalar.indexCast arg0
  ![1, v11.toNat]
def k0_off3 (i : grid0.Coords) : Fin 2 → Nat :=
  let c2 : Index := 2#32
  let arg0 : BitVec 32 := BitVec.ofNat 32 (i 0).val
  let v17 : Index := Scalar.indexCast arg0
  ![2, v17.toNat]
def k0_off4 (i : grid0.Coords) : Fin 2 → Nat :=
  let c3 : Index := 3#32
  let arg0 : BitVec 32 := BitVec.ofNat 32 (i 0).val
  let v23 : Index := Scalar.indexCast arg0
  ![3, v23.toNat]
def k0_off5 (i : grid0.Coords) : Fin 2 → Nat :=
  let c4 : Index := 4#32
  let arg0 : BitVec 32 := BitVec.ofNat 32 (i 0).val
  let v29 : Index := Scalar.indexCast arg0
  ![4, v29.toNat]
def k0_off6 (i : grid0.Coords) : Fin 2 → Nat :=
  let c5 : Index := 5#32
  let arg0 : BitVec 32 := BitVec.ofNat 32 (i 0).val
  let v35 : Index := Scalar.indexCast arg0
  ![5, v35.toNat]
def k0_off7 (i : grid0.Coords) : Fin 2 → Nat :=
  let c6 : Index := 6#32
  let arg0 : BitVec 32 := BitVec.ofNat 32 (i 0).val
  let v41 : Index := Scalar.indexCast arg0
  ![6, v41.toNat]
def k0_off8 (i : grid0.Coords) : Fin 2 → Nat :=
  let c7 : Index := 7#32
  let arg0 : BitVec 32 := BitVec.ofNat 32 (i 0).val
  let v47 : Index := Scalar.indexCast arg0
  ![7, v47.toNat]
def k0_off9 (i : grid0.Coords) : Fin 2 → Nat :=
  let c8 : Index := 8#32
  let arg0 : BitVec 32 := BitVec.ofNat 32 (i 0).val
  let v53 : Index := Scalar.indexCast arg0
  ![8, v53.toNat]
def k0_off10 (i : grid0.Coords) : Fin 2 → Nat :=
  let c9 : Index := 9#32
  let arg0 : BitVec 32 := BitVec.ofNat 32 (i 0).val
  let v59 : Index := Scalar.indexCast arg0
  ![9, v59.toNat]
def k0_off11 (i : grid0.Coords) : Fin 2 → Nat :=
  let c10 : Index := 10#32
  let arg0 : BitVec 32 := BitVec.ofNat 32 (i 0).val
  let v65 : Index := Scalar.indexCast arg0
  ![10, v65.toNat]
def k0_off12 (i : grid0.Coords) : Fin 2 → Nat :=
  let c11 : Index := 11#32
  let arg0 : BitVec 32 := BitVec.ofNat 32 (i 0).val
  let v71 : Index := Scalar.indexCast arg0
  ![11, v71.toNat]
def k0_off13 (i : grid0.Coords) : Fin 2 → Nat :=
  let c12 : Index := 12#32
  let arg0 : BitVec 32 := BitVec.ofNat 32 (i 0).val
  let v77 : Index := Scalar.indexCast arg0
  ![12, v77.toNat]
def k0_off14 (i : grid0.Coords) : Fin 2 → Nat :=
  let c13 : Index := 13#32
  let arg0 : BitVec 32 := BitVec.ofNat 32 (i 0).val
  let v83 : Index := Scalar.indexCast arg0
  ![13, v83.toNat]
def k0_off15 (i : grid0.Coords) : Fin 2 → Nat :=
  let c14 : Index := 14#32
  let arg0 : BitVec 32 := BitVec.ofNat 32 (i 0).val
  let v89 : Index := Scalar.indexCast arg0
  ![14, v89.toNat]
def k0_off16 (i : grid0.Coords) : Fin 2 → Nat :=
  let c15 : Index := 15#32
  let arg0 : BitVec 32 := BitVec.ofNat 32 (i 0).val
  let v95 : Index := Scalar.indexCast arg0
  ![15, v95.toNat]
def k0_off17 (i : grid0.Coords) : Fin 2 → Nat :=
  let c16 : Index := 16#32
  let arg0 : BitVec 32 := BitVec.ofNat 32 (i 0).val
  let v101 : Index := Scalar.indexCast arg0
  ![16, v101.toNat]
def k0_off18 (i : grid0.Coords) : Fin 2 → Nat :=
  let c17 : Index := 17#32
  let arg0 : BitVec 32 := BitVec.ofNat 32 (i 0).val
  let v107 : Index := Scalar.indexCast arg0
  ![17, v107.toNat]
def k0_off19 (i : grid0.Coords) : Fin 2 → Nat :=
  let c18 : Index := 18#32
  let arg0 : BitVec 32 := BitVec.ofNat 32 (i 0).val
  let v113 : Index := Scalar.indexCast arg0
  ![18, v113.toNat]
def k0_off20 (i : grid0.Coords) : Fin 2 → Nat :=
  let c19 : Index := 19#32
  let arg0 : BitVec 32 := BitVec.ofNat 32 (i 0).val
  let v119 : Index := Scalar.indexCast arg0
  ![19, v119.toNat]
def k0_off21 (i : grid0.Coords) : Fin 2 → Nat :=
  let c20 : Index := 20#32
  let arg0 : BitVec 32 := BitVec.ofNat 32 (i 0).val
  let v125 : Index := Scalar.indexCast arg0
  ![20, v125.toNat]
def k0_off22 (i : grid0.Coords) : Fin 2 → Nat :=
  let c21 : Index := 21#32
  let arg0 : BitVec 32 := BitVec.ofNat 32 (i 0).val
  let v131 : Index := Scalar.indexCast arg0
  ![21, v131.toNat]
def k0_off23 (i : grid0.Coords) : Fin 2 → Nat :=
  let c22 : Index := 22#32
  let arg0 : BitVec 32 := BitVec.ofNat 32 (i 0).val
  let v137 : Index := Scalar.indexCast arg0
  ![22, v137.toNat]
def k0_off24 (i : grid0.Coords) : Fin 2 → Nat :=
  let c23 : Index := 23#32
  let arg0 : BitVec 32 := BitVec.ofNat 32 (i 0).val
  let v143 : Index := Scalar.indexCast arg0
  ![23, v143.toNat]
def k0_off25 (i : grid0.Coords) : Fin 2 → Nat :=
  let c24 : Index := 24#32
  let arg0 : BitVec 32 := BitVec.ofNat 32 (i 0).val
  let v149 : Index := Scalar.indexCast arg0
  ![24, v149.toNat]
def k0_off26 (i : grid0.Coords) : Fin 2 → Nat :=
  let c25 : Index := 25#32
  let arg0 : BitVec 32 := BitVec.ofNat 32 (i 0).val
  let v155 : Index := Scalar.indexCast arg0
  ![25, v155.toNat]
def k0_off27 (i : grid0.Coords) : Fin 2 → Nat :=
  let c26 : Index := 26#32
  let arg0 : BitVec 32 := BitVec.ofNat 32 (i 0).val
  let v161 : Index := Scalar.indexCast arg0
  ![26, v161.toNat]
def k0_off28 (i : grid0.Coords) : Fin 2 → Nat :=
  let c27 : Index := 27#32
  let arg0 : BitVec 32 := BitVec.ofNat 32 (i 0).val
  let v167 : Index := Scalar.indexCast arg0
  ![27, v167.toNat]
def k0_off29 (i : grid0.Coords) : Fin 2 → Nat :=
  let c28 : Index := 28#32
  let arg0 : BitVec 32 := BitVec.ofNat 32 (i 0).val
  let v173 : Index := Scalar.indexCast arg0
  ![28, v173.toNat]
def k0_off30 (i : grid0.Coords) : Fin 2 → Nat :=
  let c29 : Index := 29#32
  let arg0 : BitVec 32 := BitVec.ofNat 32 (i 0).val
  let v179 : Index := Scalar.indexCast arg0
  ![29, v179.toNat]
def k0_off31 (i : grid0.Coords) : Fin 2 → Nat :=
  let c30 : Index := 30#32
  let arg0 : BitVec 32 := BitVec.ofNat 32 (i 0).val
  let v185 : Index := Scalar.indexCast arg0
  ![30, v185.toNat]
def k0_off32 (i : grid0.Coords) : Fin 2 → Nat :=
  let c31 : Index := 31#32
  let arg0 : BitVec 32 := BitVec.ofNat 32 (i 0).val
  let v191 : Index := Scalar.indexCast arg0
  ![31, v191.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2816 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 2, 128], ![false, false, false]⟩

def k1_mult1 (i : grid1.Coords) : BitVec 32 :=
  let arg2 : BitVec 32 := BitVec.ofNat 32 (i 2).val
  let c8_i32 : BitVec 32 := 8#32
  let v0 : BitVec 32 := Scalar.muli arg2 c8_i32
  v0
def k1_cond1 (i : grid1.Coords) : BitVec 1 :=
  let v_true : BitVec 1 := 1#1
  let arg2 : BitVec 32 := BitVec.ofNat 32 (i 2).val
  let c8_i32_0 : BitVec 32 := 8#32
  let v2 : BitVec 32 := Scalar.muli arg2 c8_i32_0
  let c120_i32 : BitVec 32 := 120#32
  let v3 : BitVec 32 := Scalar.subi v2 c120_i32
  let c256_i32 : BitVec 32 := 256#32
  let v4 : BitVec 1 := Scalar.cmpi .sle v3 c256_i32
  let v5 : BitVec 1 := Scalar.andi v_true v4
  let v6 : BitVec 32 := Scalar.extui v5
  let c0_i32 : BitVec 32 := 0#32
  let v7 : BitVec 1 := Scalar.cmpi .ne v6 c0_i32
  v7

def k1_off1 (i : grid1.Coords) : Fin 5 → Nat :=
  let c0_121 : Index := 0#32
  let c0_122 : Index := 0#32
  let c0_123 : Index := 0#32
  let arg2 : BitVec 32 := BitVec.ofNat 32 (i 2).val
  let c8_i32 : BitVec 32 := 8#32
  let v0 : BitVec 32 := Scalar.muli arg2 c8_i32
  let v1 : BitVec 32 := v0
  let v322 : Index := Scalar.indexCast v1
  let c0_124 : Index := 0#32
  ![0, 0, 0, v322.toNat, 0]
def k1_off2 (i : grid1.Coords) : Fin 2 → Nat :=
  let arg2 : BitVec 32 := BitVec.ofNat 32 (i 2).val
  let c8_i32 : BitVec 32 := 8#32
  let v0 : BitVec 32 := Scalar.muli arg2 c8_i32
  let v1 : BitVec 32 := v0
  let v398 : Index := Scalar.indexCast v1
  let c0_160 : Index := 0#32
  ![v398.toNat, 0]
def k1_cond2 (i : grid1.Coords) : BitVec 1 :=
  let arg2 : BitVec 32 := BitVec.ofNat 32 (i 2).val
  let c8_i32_0 : BitVec 32 := 8#32
  let v2 : BitVec 32 := Scalar.muli arg2 c8_i32_0
  let c120_i32 : BitVec 32 := 120#32
  let v3 : BitVec 32 := Scalar.subi v2 c120_i32
  let c256_i32_1 : BitVec 32 := 256#32
  let v8 : BitVec 1 := Scalar.cmpi .sgt v3 c256_i32_1
  let c512_i32 : BitVec 32 := 512#32
  let v9 : BitVec 1 := Scalar.cmpi .sle v3 c512_i32
  let v10 : BitVec 1 := Scalar.andi v8 v9
  let v11 : BitVec 32 := Scalar.extui v10
  let c0_i32_2 : BitVec 32 := 0#32
  let v12 : BitVec 1 := Scalar.cmpi .ne v11 c0_i32_2
  v12

def k1_off3 (i : grid1.Coords) : Fin 5 → Nat :=
  let c0_121 : Index := 0#32
  let c0_122 : Index := 0#32
  let c0_123 : Index := 0#32
  let arg2 : BitVec 32 := BitVec.ofNat 32 (i 2).val
  let c8_i32 : BitVec 32 := 8#32
  let v0 : BitVec 32 := Scalar.muli arg2 c8_i32
  let v1 : BitVec 32 := v0
  let v322 : Index := Scalar.indexCast v1
  let c0_124 : Index := 0#32
  ![0, 0, 0, v322.toNat, 0]
def k1_off4 (i : grid1.Coords) : Fin 2 → Nat :=
  let arg2 : BitVec 32 := BitVec.ofNat 32 (i 2).val
  let c8_i32 : BitVec 32 := 8#32
  let v0 : BitVec 32 := Scalar.muli arg2 c8_i32
  let v1 : BitVec 32 := v0
  let v398 : Index := Scalar.indexCast v1
  let c0_160 : Index := 0#32
  ![v398.toNat, 0]
def k1_cond3 (i : grid1.Coords) : BitVec 1 :=
  let arg2 : BitVec 32 := BitVec.ofNat 32 (i 2).val
  let c8_i32_0 : BitVec 32 := 8#32
  let v2 : BitVec 32 := Scalar.muli arg2 c8_i32_0
  let c120_i32 : BitVec 32 := 120#32
  let v3 : BitVec 32 := Scalar.subi v2 c120_i32
  let c512_i32_3 : BitVec 32 := 512#32
  let v13 : BitVec 1 := Scalar.cmpi .sgt v3 c512_i32_3
  let c768_i32 : BitVec 32 := 768#32
  let v14 : BitVec 1 := Scalar.cmpi .sle v3 c768_i32
  let v15 : BitVec 1 := Scalar.andi v13 v14
  let v16 : BitVec 32 := Scalar.extui v15
  let c0_i32_4 : BitVec 32 := 0#32
  let v17 : BitVec 1 := Scalar.cmpi .ne v16 c0_i32_4
  v17

def k1_off5 (i : grid1.Coords) : Fin 5 → Nat :=
  let c0_121 : Index := 0#32
  let c0_122 : Index := 0#32
  let c0_123 : Index := 0#32
  let arg2 : BitVec 32 := BitVec.ofNat 32 (i 2).val
  let c8_i32 : BitVec 32 := 8#32
  let v0 : BitVec 32 := Scalar.muli arg2 c8_i32
  let v1 : BitVec 32 := v0
  let v322 : Index := Scalar.indexCast v1
  let c0_124 : Index := 0#32
  ![0, 0, 0, v322.toNat, 0]
def k1_off6 (i : grid1.Coords) : Fin 2 → Nat :=
  let arg2 : BitVec 32 := BitVec.ofNat 32 (i 2).val
  let c8_i32 : BitVec 32 := 8#32
  let v0 : BitVec 32 := Scalar.muli arg2 c8_i32
  let v1 : BitVec 32 := v0
  let v398 : Index := Scalar.indexCast v1
  let c0_160 : Index := 0#32
  ![v398.toNat, 0]
def k1_cond4 (i : grid1.Coords) : BitVec 1 :=
  let arg2 : BitVec 32 := BitVec.ofNat 32 (i 2).val
  let c8_i32_0 : BitVec 32 := 8#32
  let v2 : BitVec 32 := Scalar.muli arg2 c8_i32_0
  let c120_i32 : BitVec 32 := 120#32
  let v3 : BitVec 32 := Scalar.subi v2 c120_i32
  let c768_i32_5 : BitVec 32 := 768#32
  let v18 : BitVec 1 := Scalar.cmpi .sgt v3 c768_i32_5
  let true_6 : BitVec 1 := 1#1
  let v19 : BitVec 1 := Scalar.andi v18 true_6
  let v20 : BitVec 32 := Scalar.extui v19
  let c0_i32_7 : BitVec 32 := 0#32
  let v21 : BitVec 1 := Scalar.cmpi .ne v20 c0_i32_7
  v21

def k1_off7 (i : grid1.Coords) : Fin 5 → Nat :=
  let c0_121 : Index := 0#32
  let c0_122 : Index := 0#32
  let c0_123 : Index := 0#32
  let arg2 : BitVec 32 := BitVec.ofNat 32 (i 2).val
  let c8_i32 : BitVec 32 := 8#32
  let v0 : BitVec 32 := Scalar.muli arg2 c8_i32
  let v1 : BitVec 32 := v0
  let v322 : Index := Scalar.indexCast v1
  let c0_124 : Index := 0#32
  ![0, 0, 0, v322.toNat, 0]
def k1_off8 (i : grid1.Coords) : Fin 2 → Nat :=
  let arg2 : BitVec 32 := BitVec.ofNat 32 (i 2).val
  let c8_i32 : BitVec 32 := 8#32
  let v0 : BitVec 32 := Scalar.muli arg2 c8_i32
  let v1 : BitVec 32 := v0
  let v398 : Index := Scalar.indexCast v1
  let c0_160 : Index := 0#32
  ![v398.toNat, 0]
def cc1_transform_0 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc1_transform_1 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_2 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc1_transform_7 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage1_0 : Fin 2 → Memref sig .tc .vmem S1x1x8x128x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x1x1152x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x1x1152x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x8x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 1 → Memref sig .tc .vmem S1152x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x1x8x128x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S1x1x1x256x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]
-- ==== CmpIdeal.lean ====
variable {F : FTy → Type} [FloatOps F] [Named F]
def κ : String → Option EReal := fun
  | "half" => some ⊥
  | "mask" => some ⊥
  | _ => none
-- ==== CmpRefIdeal.lean ====
abbrev S2x16384x1024 : Shape := ⟨3, ![2, 16384, 1024]⟩
abbrev S2x2x2x1152x64 : Shape := ⟨5, ![2, 2, 2, 1152, 64]⟩
abbrev S32x16 : Shape := ⟨2, ![32, 16]⟩
abbrev S1152x256 : Shape := ⟨2, ![1152, 256]⟩
abbrev S2x16384x2x8x64 : Shape := ⟨5, ![2, 16384, 2, 8, 64]⟩
abbrev S2x1x2x1023x64 : Shape := ⟨5, ![2, 1, 2, 1023, 64]⟩
abbrev S2x2x1023x64 : Shape := ⟨4, ![2, 2, 1023, 64]⟩
abbrev S16384 : Shape := ⟨1, ![16384]⟩
abbrev S1023 : Shape := ⟨1, ![1023]⟩
abbrev S_ : Shape := ⟨0, ![]⟩
abbrev S16384x1 : Shape := ⟨2, ![16384, 1]⟩
abbrev S1x1023 : Shape := ⟨2, ![1, 1023]⟩
abbrev S16384x1023 : Shape := ⟨2, ![16384, 1023]⟩
abbrev S32x2x8 : Shape := ⟨3, ![32, 2, 8]⟩
abbrev S16384x1023x1 : Shape := ⟨3, ![16384, 1023, 1]⟩
abbrev S16384x1023x2x8 : Shape := ⟨4, ![16384, 1023, 2, 8]⟩
abbrev S2x8x16384x1023 : Shape := ⟨4, ![2, 8, 16384, 1023]⟩
abbrev S2x2x1023x16384x8 : Shape := ⟨5, ![2, 2, 1023, 16384, 8]⟩
abbrev S2x2x8x16384x1023 : Shape := ⟨5, ![2, 2, 8, 16384, 1023]⟩
abbrev S1x2x8x16384x1023 : Shape := ⟨5, ![1, 2, 8, 16384, 1023]⟩
abbrev S2x2x8x16384 : Shape := ⟨4, ![2, 2, 8, 16384]⟩
abbrev S2x2x8x16384x1 : Shape := ⟨5, ![2, 2, 8, 16384, 1]⟩
abbrev S2x2x8x16384x64 : Shape := ⟨5, ![2, 2, 8, 16384, 64]⟩

abbrev nBuf : Space → Nat
  | .hbm => 100
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x2x2x1152x64, .f32⟩
  | .hbm, ⟨2, _⟩ => ⟨S32x16, .f32⟩
  | .hbm, ⟨3, _⟩ => ⟨S1152x256, .f32⟩
  | .hbm, ⟨4, _⟩ => ⟨S2x16384x2x8x64, .f32⟩
  | .hbm, ⟨5, _⟩ => ⟨S2x1x2x1023x64, .f32⟩
  | .hbm, ⟨6, _⟩ => ⟨S2x2x1023x64, .f32⟩
  | .hbm, ⟨7, _⟩ => ⟨S2x1x2x1023x64, .f32⟩
  | .hbm, ⟨8, _⟩ => ⟨S2x2x1023x64, .f32⟩
  | .hbm, ⟨9, _⟩ => ⟨S16384, .i32⟩
  | .hbm, ⟨10, _⟩ => ⟨S1023, .i32⟩
  | .hbm, ⟨11, _⟩ => ⟨S_, .i32⟩
  | .hbm, ⟨12, _⟩ => ⟨S1023, .i32⟩
  | .hbm, ⟨13, _⟩ => ⟨S1023, .i32⟩
  | .hbm, ⟨14, _⟩ => ⟨S_, .i32⟩
  | .hbm, ⟨15, _⟩ => ⟨S1023, .i32⟩
  | .hbm, ⟨16, _⟩ => ⟨S1023, .i32⟩
  | .hbm, ⟨17, _⟩ => ⟨S_, .i32⟩
  | .hbm, ⟨18, _⟩ => ⟨S1023, .i32⟩
  | .hbm, ⟨19, _⟩ => ⟨S1023, .i32⟩
  | .hbm, ⟨20, _⟩ => ⟨S16384x1, .i32⟩
  | .hbm, ⟨21, _⟩ => ⟨S1x1023, .i32⟩
  | .hbm, ⟨22, _⟩ => ⟨S16384x1023, .i32⟩
  | .hbm, ⟨23, _⟩ => ⟨S16384x1023, .i32⟩
  | .hbm, ⟨24, _⟩ => ⟨S16384x1023, .i32⟩
  | .hbm, ⟨25, _⟩ => ⟨S_, .i32⟩
  | .hbm, ⟨26, _⟩ => ⟨S16384x1023, .i32⟩
  | .hbm, ⟨27, _⟩ => ⟨S16384x1023, .i1⟩
  | .hbm, ⟨28, _⟩ => ⟨S32x2x8, .f32⟩
  | .hbm, ⟨29, _⟩ => ⟨S_, .i32⟩
  | .hbm, ⟨30, _⟩ => ⟨S16384x1023, .i32⟩
  | .hbm, ⟨31, _⟩ => ⟨S16384x1023, .i32⟩
  | .hbm, ⟨32, _⟩ => ⟨S_, .i32⟩
  | .hbm, ⟨33, _⟩ => ⟨S16384x1023, .i32⟩
  | .hbm, ⟨34, _⟩ => ⟨S16384x1023, .i32⟩
  | .hbm, ⟨35, _⟩ => ⟨S16384x1023, .f32⟩
  | .hbm, ⟨36, _⟩ => ⟨S_, .f32⟩
  | .hbm, ⟨37, _⟩ => ⟨S16384x1023, .f32⟩
  | .hbm, ⟨38, _⟩ => ⟨S16384x1023, .f32⟩
  | .hbm, ⟨39, _⟩ => ⟨S16384x1023, .f32⟩
  | .hbm, ⟨40, _⟩ => ⟨S_, .f32⟩
  | .hbm, ⟨41, _⟩ => ⟨S16384x1023, .f32⟩
  | .hbm, ⟨42, _⟩ => ⟨S16384x1023, .f32⟩
  | .hbm, ⟨43, _⟩ => ⟨S_, .f32⟩
  | .hbm, ⟨44, _⟩ => ⟨S16384x1023, .f32⟩
  | .hbm, ⟨45, _⟩ => ⟨S16384x1023, .f32⟩
  | .hbm, ⟨46, _⟩ => ⟨S16384x1023, .i32⟩
  | .hbm, ⟨47, _⟩ => ⟨S_, .i32⟩
  | .hbm, ⟨48, _⟩ => ⟨S16384x1023, .i32⟩
  | .hbm, ⟨49, _⟩ => ⟨S16384x1023, .i32⟩
  | .hbm, ⟨50, _⟩ => ⟨S_, .i32⟩
  | .hbm, ⟨51, _⟩ => ⟨S16384x1023, .i32⟩
  | .hbm, ⟨52, _⟩ => ⟨S16384x1023, .i1⟩
  | .hbm, ⟨53, _⟩ => ⟨S_, .i32⟩
  | .hbm, ⟨54, _⟩ => ⟨S16384x1023, .i32⟩
  | .hbm, ⟨55, _⟩ => ⟨S16384x1023, .i32⟩
  | .hbm, ⟨56, _⟩ => ⟨S16384x1023, .i32⟩
  | .hbm, ⟨57, _⟩ => ⟨S_, .i32⟩
  | .hbm, ⟨58, _⟩ => ⟨S16384x1023, .i32⟩
  | .hbm, ⟨59, _⟩ => ⟨S16384x1023, .i1⟩
  | .hbm, ⟨60, _⟩ => ⟨S_, .i32⟩
  | .hbm, ⟨61, _⟩ => ⟨S16384x1023, .i32⟩
  | .hbm, ⟨62, _⟩ => ⟨S16384x1023, .i32⟩
  | .hbm, ⟨63, _⟩ => ⟨S16384x1023, .i32⟩
  | .hbm, ⟨64, _⟩ => ⟨S16384x1023x1, .i32⟩
  | .hbm, ⟨65, _⟩ => ⟨S16384x1023x2x8, .f32⟩
  | .hbm, ⟨66, _⟩ => ⟨S2x8x16384x1023, .f32⟩
  | .hbm, ⟨67, _⟩ => ⟨S2x2x1023x16384x8, .f32⟩
  | .hbm, ⟨68, _⟩ => ⟨S2x2x8x16384x1023, .f32⟩
  | .hbm, ⟨69, _⟩ => ⟨S_, .f32⟩
  | .hbm, ⟨70, _⟩ => ⟨S2x2x8x16384x1023, .f32⟩
  | .hbm, ⟨71, _⟩ => ⟨S2x2x8x16384x1023, .f32⟩
  | .hbm, ⟨72, _⟩ => ⟨S1x2x8x16384x1023, .f32⟩
  | .hbm, ⟨73, _⟩ => ⟨S2x2x8x16384x1023, .f32⟩
  | .hbm, ⟨74, _⟩ => ⟨S2x2x8x16384x1023, .f32⟩
  | .hbm, ⟨75, _⟩ => ⟨S_, .f32⟩
  | .hbm, ⟨76, _⟩ => ⟨S_, .f32⟩
  | .hbm, ⟨77, _⟩ => ⟨S2x2x8x16384x1023, .i1⟩
  | .hbm, ⟨78, _⟩ => ⟨S2x2x8x16384x1023, .f32⟩
  | .hbm, ⟨79, _⟩ => ⟨S2x2x8x16384x1023, .f32⟩
  | .hbm, ⟨80, _⟩ => ⟨S_, .f32⟩
  | .hbm, ⟨81, _⟩ => ⟨S2x2x8x16384, .f32⟩
  | .hbm, ⟨82, _⟩ => ⟨S_, .f32⟩
  | .hbm, ⟨83, _⟩ => ⟨S2x2x8x16384, .f32⟩
  | .hbm, ⟨84, _⟩ => ⟨S2x2x8x16384, .f32⟩
  | .hbm, ⟨85, _⟩ => ⟨S2x2x8x16384x1, .f32⟩
  | .hbm, ⟨86, _⟩ => ⟨S2x2x8x16384x1023, .f32⟩
  | .hbm, ⟨87, _⟩ => ⟨S2x2x8x16384x1023, .f32⟩
  | .hbm, ⟨88, _⟩ => ⟨S2x2x8x16384x1023, .f32⟩
  | .hbm, ⟨89, _⟩ => ⟨S_, .f32⟩
  | .hbm, ⟨90, _⟩ => ⟨S2x2x8x16384, .f32⟩
  | .hbm, ⟨91, _⟩ => ⟨S2x2x8x16384x1, .f32⟩
  | .hbm, ⟨92, _⟩ => ⟨S2x2x8x16384x1023, .f32⟩
  | .hbm, ⟨93, _⟩ => ⟨S2x2x8x16384x1023, .f32⟩
  | .hbm, ⟨94, _⟩ => ⟨S_, .f32⟩
  | .hbm, ⟨95, _⟩ => ⟨S_, .f32⟩
  | .hbm, ⟨96, _⟩ => ⟨S2x2x8x16384x1023, .i1⟩
  | .hbm, ⟨97, _⟩ => ⟨S2x2x8x16384x1023, .f32⟩
  | .hbm, ⟨98, _⟩ => ⟨S2x2x8x16384x1023, .f32⟩
  | .hbm, ⟨99, _⟩ => ⟨S2x2x8x16384x64, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_c_8 : Ref sig .tc := ⟨.hbm, 50, rfl⟩
abbrev main_v36 : Ref sig .tc := ⟨.hbm, 51, rfl⟩
abbrev main_v37 : Ref sig .tc := ⟨.hbm, 52, rfl⟩
abbrev main_c_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_10 : Ref sig .tc := ⟨.hbm, 57, rfl⟩
abbrev main_v41 : Ref sig .tc := ⟨.hbm, 58, rfl⟩
abbrev main_v42 : Ref sig .tc := ⟨.hbm, 59, rfl⟩
abbrev main_c_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_13 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_cst_15 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_16 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_17 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]
-- ==== Proof.Win.Run.lean ====
/- The run of the idealized window-attention program, with the array it returns. The launch set-up is the generated frame's. -/
module

public import proofs.«01_k».proof.Proof.Gen.WinIdeal.Frame

@[expose] public section

set_option maxRecDepth 16384

noncomputable section

namespace Cert.WinIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WinIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the program ends with the result array at the last boundary's contents and the arguments as launched. -/
theorem run : θ_run defs (onTc (τ := τ) (main (F := F))) ⟨m, fun _ => 0, ρ⟩ (fun r => ∀ c : Dev nD,
      r.2.mem ((c.tc : Thread nD τ).loc main_v116) = Gen.W10 m ρ c (Proc.devRef .tc main_v116)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => (fun c =>
      ⟨h c _ (mem_uc main_v116 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c)⟩))

end Cert.WinIdeal.Run

end
-- ==== Proof.Win.Kernel.lean ====
/- What the window-attention launch of the idealized kernel leaves in its result array, element by element. -/
module

public import proofs.«01_k».proof.Proof.Gen.WinIdeal.Frame
public import Idealize.ShloMosaic.Lib.Pointwise
public import Idealize.ShloMosaic.Lib.Pipeline.ValueKit
public import Idealize.ShloMosaic.Lib.Pipeline.Covers
public import Idealize.ShloMosaic.Lib.Tactic.WordOmega

@[expose] public section

set_option maxRecDepth 16384

noncomputable section

namespace Cert.WinIdeal.Kernel

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Cert.WinIdeal.Gen

/-- A key column's score in one row of the kernel's block: its dot product with the query plus the table's entry, the columns before the first key masked. -/
def sc (qb : ℕ) (q : Fin 64 → EReal) (k : Fin 640 → Fin 64 → EReal) (tb : Fin 640 → EReal) (col : Fin 640) : EReal :=
  if 512 ≤ 128 * qb + col.val then (∑ d, q d * k col d) + tb col else ⊥

/-- One element of the kernel's result: the weighted sum of the values over the sum of the weights. -/
def att (qb : ℕ) (q : Fin 64 → EReal) (k : Fin 640 → Fin 64 → EReal) (v tb : Fin 640 → EReal) : EReal :=
  Ideal.div (∑ col, Ideal.exp (sc qb q k tb col - Finset.univ.fold max ⊥ (sc qb q k tb)) * v col)
    (∑ col, Ideal.exp (sc qb q k tb col - Finset.univ.fold max ⊥ (sc qb q k tb)))

/-- The word of minus infinity is the least value. -/
theorem ofBits_neg_inf : Ideal.ofBits FTy.f32 4286578688#32 = ⊥ := by
  first | rfl | decide | simp

/-- The kernel's test for a column that holds a key. -/
theorem col_test (qb : ℕ) (h : qb < 128) (col : ℕ) (hc : col < 640) :
    IntOp.cmpi CmpIPredicate.sge (BitVec.ofNat 32 col) (Scalar.subi (512#32) (Scalar.muli (BitVec.ofNat 32 qb) 128#32))
      = if 512 ≤ 128 * qb + col then 1#1 else 0#1 := by
  have e : ((Scalar.subi (512#32) (Scalar.muli (BitVec.ofNat 32 qb) 128#32)) : BitVec 32).toInt = 512 - 128 * (qb : ℤ) := by
    unfold Scalar.subi Scalar.muli IntOp.subi IntOp.muli
    simp only [BitVec.toInt_eq_toNat_cond, BitVec.toNat_sub, BitVec.toNat_mul, BitVec.toNat_ofNat]
    omega
  have e' : (BitVec.ofNat 32 col).toInt = col := by
    simp only [BitVec.toInt_eq_toNat_cond, BitVec.toNat_ofNat]
    omega
  unfold IntOp.cmpi
  simp only [BitVec.sle, e, e']
  by_cases hh : 512 ≤ 128 * qb + col
  · rw [if_pos hh, decide_eq_true (by omega)]; rfl
  · rw [if_neg hh, decide_eq_false (by omega)]; rfl

/-- The exponentials of one block, at an element. -/
theorem pay2_at (i : grid1.Coords) (x0 : Vec Ideal S1x1x8x128x64 .bf16) (x1 : Vec Ideal S1x1x640x64 .bf16) (x3 : Vec Ideal S1x8x128x640 .f32) (r : Fin 1024) (col : Fin 640) :
    k1_pay2 (F := Ideal) i x0 x1 x3 (ix2 r col) =
      Ideal.exp (sc (i 2).val (fun d => x0 (ix5 0 0 ⟨r.val / 128, by omega⟩ ⟨r.val % 128, by omega⟩ d)) (fun c d => x1 (ix4 0 0 c d))
          (fun c => x3 (ix4 0 ⟨r.val / 128, by omega⟩ ⟨r.val % 128, by omega⟩ c)) col
        - Finset.univ.fold max ⊥ (sc (i 2).val (fun d => x0 (ix5 0 0 ⟨r.val / 128, by omega⟩ ⟨r.val % 128, by omega⟩ d)) (fun c d => x1 (ix4 0 0 c d))
          (fun c => x3 (ix4 0 ⟨r.val / 128, by omega⟩ ⟨r.val % 128, by omega⟩ c)))) := by
  have hi : (i 2).val < 128 := (i 2).isLt
  have hmask : (Named.named (F := Ideal) κ "mask" (φ := .f32) 0xF149F2CA#32) = (⊥ : EReal) := by
    first | rfl | simp [Named.named]
  have key : ∀ (x : Fin 640), Scalar.select
              (IntOp.cmpi CmpIPredicate.sge (BitVec.ofNat 32 ↑x)
                (Scalar.subi (512#32) (Scalar.muli (BitVec.ofNat 32 ↑(i 2)) 128#32)))
              (∑ x_1, x0 (ix5 0 0 ⟨r.val / 128, by omega⟩ ⟨r.val % 128, by omega⟩ x_1) * x1 (ix4 0 0 x x_1) +
                x3 (ix4 0 ⟨r.val / 128, by omega⟩ ⟨r.val % 128, by omega⟩ x))
              (Named.named (F := Ideal) κ "mask" (φ := .f32) 0xF149F2CA#32)
      = sc (i 2).val (fun d => x0 (ix5 0 0 ⟨r.val / 128, by omega⟩ ⟨r.val % 128, by omega⟩ d)) (fun c d => x1 (ix4 0 0 c d))
          (fun c => x3 (ix4 0 ⟨r.val / 128, by omega⟩ ⟨r.val % 128, by omega⟩ c)) x := by
    intro x
    rw [col_test _ hi _ x.isLt, hmask]
    unfold sc
    by_cases h : 512 ≤ 128 * (i 2).val + x.val
    · rw [if_pos h, if_pos h]; rfl
    · rw [if_neg h, if_neg h]; rfl
  unfold k1_pay2
  pointwise
  rw [ofBits_neg_inf]
  erw [key col]
  congr 2
  refine Finset.fold_congr fun x _ => ?_
  exact key x

/-- One block of the result, at an element. -/
theorem pay1_at (i : grid1.Coords) (x0 : Vec Ideal S1x1x8x128x64 .bf16) (x1 : Vec Ideal S1x1x640x64 .bf16) (x2 : Vec Ideal S1x1x640x64 .bf16) (x3 : Vec Ideal S1x8x128x640 .f32) (j : S1x1x8x128x64.Idx) :
    k1_pay1 (F := Ideal) (k1_pay3 i x0 x1 x2 x3) (k1_pay4 i x0 x1 x3) j =
      att (i 2).val (fun d => x0 (ix5 0 0 (j 2) (j 3) d)) (fun c d => x1 (ix4 0 0 c d)) (fun c => x2 (ix4 0 0 c (j 4)))
        (fun c => x3 (ix4 0 (j 2) (j 3) c)) := by
  unfold k1_pay1 k1_pay3 k1_pay4
  pointwise
  simp only [pay2_at]
  have h2 : (j 2).val < 8 := (j 2).isLt
  have h3 : (j 3).val < 128 := (j 3).isLt
  have e1 : ((j 2).val * 128 + (j 3).val) / 128 = (j 2).val := by omega
  have e2 : ((j 2).val * 128 + (j 3).val) % 128 = (j 3).val := by omega
  simp only [e1, e2]
  rfl

variable (V : (c : Dev nD) → (b : Ref sig .tc) → Buf (Elt Ideal) ((c : Thread nD τ).loc b))

/-- The blocks each window reads or writes at a grid point. -/
theorem index1 : ∀ t : Fin grid1.N,
    win1_0.index t = ![(grid1.coords t 0).val, (grid1.coords t 1).val, 0, (grid1.coords t 2).val, 0]
    ∧ win1_1.index t = ![(grid1.coords t 0).val, (grid1.coords t 1).val, 0, 0]
    ∧ win1_2.index t = ![(grid1.coords t 0).val, (grid1.coords t 1).val, 0, 0]
    ∧ win1_3.index t = ![(grid1.coords t 1).val, 0, 0, 0]
    ∧ win1_4.index t = ![(grid1.coords t 0).val, (grid1.coords t 1).val, 0, (grid1.coords t 2).val, 0] := by
  decide +kernel

/-- The launch's result at an index, from the arrays it reads. -/
def G (c : Dev nD) : S2x2x8x16384x64.Idx → EReal := fun i =>
  att ((i 3).val / 128) (fun d => V c main_v104 (ix5 (i 0) (i 1) (i 2) (i 3) d))
    (fun col d => V c main_v110 (ix4 (i 0) (i 1) ⟨128 * ((i 3).val / 128) + col.val, by have := (i 3).isLt; simp at this; omega⟩ d))
    (fun col => V c main_v115 (ix4 (i 0) (i 1) ⟨128 * ((i 3).val / 128) + col.val, by have := (i 3).isLt; simp at this; omega⟩ (i 4)))
    (fun col => V c main_v74 (ix4 (i 1) (i 2) ⟨(i 3).val % 128, by omega⟩ col))

/-- The offset at which the kernel loads its keys. -/
theorem off1_eq (i : grid1.Coords) : k1_off1 i = ![0, 0, 128 * (i 2).val, 0] := by
  have hi : (i 2).val < 128 := (i 2).isLt
  unfold k1_off1 Scalar.muli Scalar.indexCast IntOp.muli
  simp only [BitVec.toNat_mul, BitVec.toNat_ofNat]
  have : (i 2).val % 2 ^ 32 * (128 % 2 ^ 32) % 2 ^ 32 = 128 * (i 2).val := by omega
  first | (rw [this]; done) | simp [this]

/-- The query block at a grid point, at an element. -/
theorem blk0_at (c : Dev nD) (t : Fin cfg1.N) (g : Fin 8) (r : Fin 128) (d : Fin 64) (i0 i1 : Fin 2) (i3 : Fin 16384)
    (h0 : i0.val = (grid1.coords t 0).val) (h1 : i1.val = (grid1.coords t 1).val) (h3 : i3.val = (grid1.coords t 2).val * 128 + r.val) :
    iblk1 V c 0 t (ix5 0 0 g r d) = V c main_v104 (ix5 i0 i1 g i3 d) := by
  obtain ⟨e0, -⟩ := index1 t
  blk_ext [iblk1, e0]

/-- Where the kernel's load of a key lies in the block. -/
theorem ld_idx (t : Fin cfg1.N) (col : Fin 640) (d : Fin 64) (h) :
    (Rect.unit (s := S1x1x16896x64) (k1_off1 (grid1.coords t)) ![1, 1, 640, 64] h).idx (ix4 0 0 col d)
      = ix4 0 0 ⟨128 * (grid1.coords t 2).val + col.val, by have : (grid1.coords t 2).val < 128 := (grid1.coords t 2).isLt; omega⟩ d := by
  funext a
  apply Fin.ext
  rw [Rect.idx_unit_val]
  refine (congrArg (· + _) (congrFun (off1_eq (grid1.coords t)) a)).trans ?_
  fin_cases a <;> simp

/-- The loaded keys at a grid point, at an element. -/
theorem blk1_at (c : Dev nD) (t : Fin cfg1.N) (col : Fin 640) (d : Fin 64) (i0 i1 : Fin 2) (n : Fin 16896) (h)
    (h0 : i0.val = (grid1.coords t 0).val) (h1 : i1.val = (grid1.coords t 1).val) (h3 : n.val = 128 * (grid1.coords t 2).val + col.val) :
    View.ld (iblk1 V c 1 t) (Rect.unit (k1_off1 (grid1.coords t)) ![1, 1, 640, 64] h) (ix4 0 0 col d) = V c main_v110 (ix4 i0 i1 n d) := by
  obtain ⟨-, e1, -⟩ := index1 t
  rw [View.ld_apply, ld_idx]
  blk_ext [iblk1, e1]

/-- The loaded values at a grid point, at an element. -/
theorem blk2_at (c : Dev nD) (t : Fin cfg1.N) (col : Fin 640) (d : Fin 64) (i0 i1 : Fin 2) (n : Fin 16896) (h)
    (h0 : i0.val = (grid1.coords t 0).val) (h1 : i1.val = (grid1.coords t 1).val) (h3 : n.val = 128 * (grid1.coords t 2).val + col.val) :
    View.ld (iblk1 V c 2 t) (Rect.unit (k1_off1 (grid1.coords t)) ![1, 1, 640, 64] h) (ix4 0 0 col d) = V c main_v115 (ix4 i0 i1 n d) := by
  obtain ⟨-, -, e2, -⟩ := index1 t
  rw [View.ld_apply, ld_idx]
  blk_ext [iblk1, e2]

/-- The table's block at a grid point, at an element. -/
theorem blk3_at (c : Dev nD) (t : Fin cfg1.N) (g : Fin 8) (r : Fin 128) (col : Fin 640) (i1 : Fin 2)
    (h1 : i1.val = (grid1.coords t 1).val) :
    iblk1 V c 3 t (ix4 0 g r col) = V c main_v74 (ix4 i1 g r col) := by
  obtain ⟨-, -, -, e3, -⟩ := index1 t
  blk_ext [iblk1, e3]

/-- The array the launch leaves is `G`. -/
theorem arr_eq (c : Dev nD) : (dat1 V c).arrAt 4 cfg1.N = G V c := by
  refine (dat1 V c).arrAt_eq_of_covers 4 _ ((cfg1.win 4).covers_of_indexMap_surj rfl (by decide) fun β => ?_) fun t hf y => ?_
  · have h0 : (β 0).val < 2 := lt_of_lt_of_eq (β 0).isLt (by decide : (cfg1.win 4).nblk 0 = 2)
    have h1 : (β 1).val < 2 := lt_of_lt_of_eq (β 1).isLt (by decide : (cfg1.win 4).nblk 1 = 2)
    have h2 : (β 2).val < 1 := lt_of_lt_of_eq (β 2).isLt (by decide : (cfg1.win 4).nblk 2 = 1)
    have h3 : (β 3).val < 128 := lt_of_lt_of_eq (β 3).isLt (by decide : (cfg1.win 4).nblk 3 = 128)
    have h4 : (β 4).val < 1 := lt_of_lt_of_eq (β 4).isLt (by decide : (cfg1.win 4).nblk 4 = 1)
    obtain ⟨t, ht⟩ := grid1.coords_surjective (fun | 0 => ⟨(β 0).val, h0⟩ | 1 => ⟨(β 1).val, h1⟩ | 2 => ⟨(β 3).val, h3⟩)
    have e4 : win1_4.indexMap (grid1.coords t) = _ := (index1 t).2.2.2.2
    refine ⟨grid1.coords t, fun a => ?_⟩
    rw [show (cfg1.win 4).indexMap (grid1.coords t) = _ from e4, ht]
    fin_cases a
    · rfl
    · rfl
    · exact (Nat.lt_one_iff.mp h2).symm
    · rfl
    · exact (Nat.lt_one_iff.mp h4).symm
  · obtain ⟨e0, e1, e2, e3, e4⟩ := index1 t
    blk_simp
    rw [after1_4]
    unfold outsAt1
    frame_out
    refine (pay1_at _ _ _ _ _ _).trans ?_
    unfold G
    have y2 : (y 2).val < 8 := (y 2).isLt
    have y3 : (y 3).val < 128 := (y 3).isLt
    have a0 : ((((View.whole main_v116).slice (win1_4.rect t)).emb y) 0).val = (grid1.coords t 0).val := by
      have y0 : (y 0).val < 1 := (y 0).isLt
      blk_simp [e4]
    have a1 : ((((View.whole main_v116).slice (win1_4.rect t)).emb y) 1).val = (grid1.coords t 1).val := by
      have y0 : (y 1).val < 1 := (y 1).isLt
      blk_simp [e4]
    have a2 : ((((View.whole main_v116).slice (win1_4.rect t)).emb y) 2).val = (y 2).val := by
      blk_simp [e4]
    have a3 : ((((View.whole main_v116).slice (win1_4.rect t)).emb y) 3).val = (grid1.coords t 2).val * 128 + (y 3).val := by
      blk_simp [e4]
    have a4 : ((((View.whole main_v116).slice (win1_4.rect t)).emb y) 4).val = (y 4).val := by
      blk_simp [e4]
    have d1 : ((((View.whole main_v116).slice (win1_4.rect t)).emb y) 3).val / 128 = (grid1.coords t 2).val := by omega
    have d2 : ((((View.whole main_v116).slice (win1_4.rect t)).emb y) 3).val % 128 = (y 3).val := by omega
    simp only [d1]
    congr 1
    · funext d
      have y2' : (((View.whole main_v116).slice (win1_4.rect t)).emb y) 2 = y 2 := Fin.ext a2
      rw [y2']
      exact blk0_at V c t _ _ _ _ _ _ a0 a1 a3
    · funext col d
      exact blk1_at V c t _ _ _ _ _ _ a0 a1 rfl
    · funext col
      have y4' : (((View.whole main_v116).slice (win1_4.rect t)).emb y) 4 = y 4 := Fin.ext a4
      rw [y4']
      exact blk2_at V c t _ _ _ _ _ _ a0 a1 rfl
    · funext col
      have y2' : (((View.whole main_v116).slice (win1_4.rect t)).emb y) 2 = y 2 := Fin.ext a2
      rw [y2']
      refine (blk3_at V c t _ _ _ _ a1).trans ?_
      congr 2
      exact Fin.ext d2.symm

end Cert.WinIdeal.Kernel

end
-- ==== Proof.Win.Host.lean ====
/- What the window-attention launch's operands hold, element by element, from the program's arguments. -/
module

public import proofs.«01_k».proof.Proof.Gen.WinIdeal.Frame
public import Idealize.ShloMosaic.Lib.Pointwise
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.WinIdeal.Host

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Cert.WinIdeal.Gen

variable (m : (ℓ : Loc nD τ sig) → Buf (Elt Ideal) ℓ) (ρ : Dev nD → PrngReg)

/-- The word of the padding converts to zero. -/
theorem zero_word : (FloatOps.sitofp (F := Ideal) FTy.bf16 (0#32 : BitVec 32) : EReal) = 0 := by
  show (((0#32 : BitVec 32).toInt : ℝ) : EReal) = 0
  simp

/-- The word of one eighth. -/
theorem eighth : Ideal.ofBits .f32 0x3E000000#32 = ((1 / 8 : ℝ) : EReal) := by
  simp [Ideal.ofBits, Ideal.ieee, -EReal.coe_mul]; norm_num

/-- The queries argument. -/
def argQ (c : Dev nD) : S2x16384x1024.Idx → EReal := m ((c : Thread nD τ).loc main_arg0)
/-- The keys and values argument. -/
def argK (c : Dev nD) : S2x16384x768.Idx → EReal := m ((c : Thread nD τ).loc main_arg1)
/-- The bias argument. -/
def argB (c : Dev nD) : S32x16.Idx → EReal := m ((c : Thread nD τ).loc main_arg2)

set_option maxHeartbeats 4000000 in
/-- The scaled queries, laid out by head group. -/
theorem q_at (c : Dev nD) (b k : Fin 2) (g : Fin 8) (s : Fin 16384) (d : Fin 64) :
    V9 m ρ c main_v104 (ix5 b k g s d) = argQ m c (ix3 b s ⟨(k.val * 8 + g.val) * 64 + d.val, by omega⟩) * ((1/8 : ℝ) : EReal) := by
  show W9 m ρ c (Proc.devRef .tc main_v104) (ix5 b k g s d) = _
  rw [W9_of m ρ c main_v104 (by decide), W8_of m ρ c main_v104 (by decide), W7_of m ρ c main_v104 (by decide)]
  unfold W6
  unfold argQ
  rw [← W5_args m ρ c main_arg0 (by decide)]
  generalize W5 m ρ c = Wx
  after_reads_at
  rw [eighth]
  congr 2
  refine congrArg₂ (ix3 b) (Fin.ext ?_) (Fin.ext ?_)
  · show s.val / 128 * 128 + s.val % 128 = s.val
    omega
  · show k.val * 512 + g.val * 64 + d.val = (k.val * 8 + g.val) * 64 + d.val
    omega

/-- A padded array's element: a key's, or the zero before the first key. -/
theorem pad_eq (n : Fin 16896) (x : (h : 512 ≤ n.val ∧ n.val - 512 < 16384) → EReal) (x' : 512 ≤ n.val → EReal) (z : EReal)
    (hz : z = 0) (h : ∀ h, x h = x' h.1) :
    (if h : 512 ≤ n.val ∧ n.val - 512 < 16384 then x h else z) = if h : 512 ≤ n.val then x' h else 0 := by
  by_cases hn : 512 ≤ n.val
  · rw [dif_pos ⟨hn, by omega⟩, dif_pos hn, h]
  · rw [dif_neg (fun h => hn h.1), dif_neg hn, hz]

/-- The keys, 512 rows of zeros before them. -/
theorem k_at (c : Dev nD) (b k : Fin 2) (n : Fin 16896) (d : Fin 64) :
    V9 m ρ c main_v110 (ix4 b k n d) = if h : 512 ≤ n.val then argK m c (ix3 b ⟨n.val - 512, by omega⟩ ⟨(4 * 2 + k.val) * 64 + d.val, by omega⟩) else (0 : EReal) := by
  show W9 m ρ c (Proc.devRef .tc main_v110) (ix4 b k n d) = _
  rw [W9_of m ρ c main_v110 (by decide), W8_of m ρ c main_v110 (by decide)]
  unfold W7 W6
  unfold argK
  rw [← W5_args m ρ c main_arg1 (by decide)]
  generalize W5 m ρ c = Wx
  after_reads_at
  exact pad_eq n _ _ _ zero_word (fun h => by congr 2; apply Fin.ext; simp; omega)

/-- The values, 512 rows of zeros before them. -/
theorem v_at (c : Dev nD) (b k : Fin 2) (n : Fin 16896) (d : Fin 64) :
    V9 m ρ c main_v115 (ix4 b k n d) = if h : 512 ≤ n.val then argK m c (ix3 b ⟨n.val - 512, by omega⟩ ⟨(5 * 2 + k.val) * 64 + d.val, by omega⟩) else (0 : EReal) := by
  show W9 m ρ c (Proc.devRef .tc main_v115) (ix4 b k n d) = _
  unfold W9 W8 W7 W6
  unfold argK
  rw [← W5_args m ρ c main_arg1 (by decide)]
  generalize W5 m ρ c = Wx
  after_reads_at
  exact pad_eq n _ _ _ zero_word (fun h => by congr 2; apply Fin.ext; simp; omega)

/-- The window's part of the bias table. -/
theorem tab_at (c : Dev nD) (k : Fin 2) (g : Fin 8) (r : Fin 128) (col : Fin 640) :
    V9 m ρ c main_v74 (ix4 k g r col) = W5 m ρ c (Proc.devRef .tc main_v72) (ix3 ⟨k.val * 8 + g.val, by omega⟩ r ⟨col.val, by omega⟩) := by
  show W9 m ρ c (Proc.devRef .tc main_v74) (ix4 k g r col) = _
  rw [W9_of m ρ c main_v74 (by decide), W8_of m ρ c main_v74 (by decide), W7_of m ρ c main_v74 (by decide)]
  unfold W6
  generalize W5 m ρ c = Wx
  after_reads_at
  done

/-- The first distance of each bucket above the sixteenth. -/
def thr : Fin 15 → ℕ := ![22, 30, 40, 54, 73, 99, 134, 182, 246, 332, 450, 609, 825, 1117, 1513]

/-- The bucket of a distance, by counting the thresholds it reaches. -/
def kb (d : ℕ) : ℕ := min d 16 + (Finset.univ.filter fun x : Fin 15 => thr x ≤ d).card

/-- The printed table of thresholds. -/
theorem lit0_at (x : Fin 15) : lit0 (S15.rowMajor (ix1 x)) = BitVec.ofNat 32 (thr x) := by
  have h : S15.rowMajor (ix1 x) = x := Fin.ext (Shape.rowMajor_val_one _)
  rw [h]
  fin_cases x <;> rfl

/-- The host's bucket of a distance word. -/
def word (w : BitVec 32) : BitVec 32 :=
  Scalar.select (IntOp.cmpi CmpIPredicate.sge w 0#32)
    (IntOp.addi (IntOp.minsi w 16#32)
      (Finset.fold IntOp.addi (0#32) (fun x : Fin 15 => BitVec.setWidth 32 (IntOp.cmpi CmpIPredicate.sge w (BitVec.ofNat 32 (thr x)))) Finset.univ))
    4294967295#32

/-- The host's bucket is the count of thresholds, below 512. -/
theorem word_of_lt : ∀ d : Fin 512, word (BitVec.ofNat 32 d.val) = BitVec.ofNat 32 (kb d.val) := by
  decide +kernel

/-- The distance word, the distances beyond the window replaced by minus one. -/
def dist (r col : ℕ) : BitVec 32 :=
  Scalar.select
    (IntOp.cmpi CmpIPredicate.slt (IntOp.addi (IntOp.subi (BitVec.ofNat 32 r) (BitVec.ofNat 32 col)) 512#32) 512#32)
    (IntOp.addi (IntOp.subi (BitVec.ofNat 32 r) (BitVec.ofNat 32 col)) 512#32) 4294967295#32

/-- The bucket word of a row and a column: the count inside the window, minus one elsewhere. -/
theorem word_dist (r col : ℕ) (hr : r < 128) (hc : col < 640) :
    word (dist r col) = if col ≤ r + 512 ∧ r < col then BitVec.ofNat 32 (kb (r + 512 - col)) else 4294967295#32 := by
  have e : (IntOp.addi (IntOp.subi (BitVec.ofNat 32 r) (BitVec.ofNat 32 col)) 512#32 : BitVec 32).toInt = (r : ℤ) - col + 512 := by
    unfold IntOp.subi IntOp.addi
    simp only [BitVec.toInt_eq_toNat_cond, BitVec.toNat_sub, BitVec.toNat_add, BitVec.toNat_ofNat]
    omega
  unfold dist
  have c1 : IntOp.cmpi CmpIPredicate.slt (IntOp.addi (IntOp.subi (BitVec.ofNat 32 r) (BitVec.ofNat 32 col)) 512#32) 512#32
      = BitVec.ofBool (decide ((r : ℤ) - col + 512 < 512)) := by
    unfold IntOp.cmpi
    simp only [BitVec.slt, e]
    rfl
  rw [c1]
  by_cases h1 : r < col
  · rw [decide_eq_true (by omega)]
    show word (IntOp.addi (IntOp.subi (BitVec.ofNat 32 r) (BitVec.ofNat 32 col)) 512#32) = _
    by_cases h2 : col ≤ r + 512
    · rw [if_pos ⟨h2, h1⟩, ← word_of_lt ⟨r + 512 - col, by omega⟩]
      congr 1
      apply BitVec.eq_of_toInt_eq
      rw [e]
      simp only [BitVec.toInt_eq_toNat_cond, BitVec.toNat_ofNat]
      omega
    · rw [if_neg (fun h => h2 h.1)]
      unfold word
      have c2 : IntOp.cmpi CmpIPredicate.sge (IntOp.addi (IntOp.subi (BitVec.ofNat 32 r) (BitVec.ofNat 32 col)) 512#32) 0#32 = 0#1 := by
        unfold IntOp.cmpi
        simp only [BitVec.sle, e]
        rw [decide_eq_false (by simp; omega)]; rfl
      rw [c2]; rfl
  · rw [decide_eq_false (by omega), if_neg (fun h => h1 h.2)]
    show word 4294967295#32 = _
    decide +kernel

/-- The first part of the distances' row is the window's part. -/
theorem v56_at (V : Valuation τ sig (Elt Ideal)) (r : Fin 128) (col : Fin 640) (h) :
    StableHlo.upto hostOps0_2 V 48 (Proc.devRef .tc main_v56) (ix2 r ⟨col.val, h⟩) = V (Proc.devRef .tc main_v25) (ix2 r col) := by
  rw [StableHlo.upto_last_write (i := 46) [main_v57] rfl rfl (by decide) V, StableHlo.nary_result]
  pointwise
  rw [StableHlo.upto_unwritten (hostOps0_2_W.take 46) rfl (by decide) V]

/-- The window's part of the distances. -/
theorem v25_at (Wx : Valuation τ sig (Elt Ideal)) (r : Fin 128) (col : Fin 640) :
    StableHlo.after hostOps0_1 (StableHlo.after hostOps0 Wx) (Proc.devRef .tc main_v25) (ix2 r col) = dist r.val col.val := by
  after_reads_at
  rfl

end Cert.WinIdeal.Host

end
-- ==== Proof.Win.Bucket.lean ====
/- The bucket table that the bias launch reads, at a row and a column of the window's part. -/
module

public import proofs.«01_k».proof.Proof.Win.Host
public import Idealize.ShloMosaic.Lib.Pointwise
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.WinIdeal.Host

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Cert.WinIdeal.Gen

variable (m : (ℓ : Loc nD τ sig) → Buf (Elt Ideal) ℓ) (ρ : Dev nD → PrngReg)

/-- The bucket word from the window's distances. -/
theorem v70_at (V : Valuation τ sig (Elt Ideal)) (r : Fin 128) (col : Fin 640) (h) :
    StableHlo.after hostOps0_2 V (Proc.devRef .tc main_v70) (ix2 r ⟨col.val, h⟩) =
      IntOp.addi (IntOp.minsi (V (Proc.devRef .tc main_v25) (ix2 r col)) 16#32)
      (Finset.fold IntOp.addi (0#32) (fun x : Fin 15 => BitVec.setWidth 32 (IntOp.cmpi CmpIPredicate.sge (V (Proc.devRef .tc main_v25) (ix2 r col)) (V (Proc.devRef .tc main_c) (ix1 x)))) Finset.univ) := by
  after_reads_at
  simp only [dif_pos (show col.val < 2560 by omega)]
  rw [v56_at V r col]
  refine congrArg _ (Finset.fold_congr fun x _ => ?_)
  rw [v56_at V r col]

/-- Whether the window's distance is not negative. -/
theorem v60_at (V : Valuation τ sig (Elt Ideal)) (r : Fin 128) (col : Fin 640) (h) :
    StableHlo.after hostOps0_2 V (Proc.devRef .tc main_v60) (ix2 r ⟨col.val, h⟩) =
      IntOp.cmpi CmpIPredicate.sge (V (Proc.devRef .tc main_v25) (ix2 r col)) 0#32 := by
  after_reads_at
  simp only [dif_pos (show col.val < 2560 by omega)]
  rw [v56_at V r col]

/-- The word of a masked distance. -/
theorem c24_at (V : Valuation τ sig (Elt Ideal)) :
    StableHlo.after hostOps0_2 V (Proc.devRef .tc main_c_24) ix0 = 4294967295#32 := by
  after_reads_at

/-- The bucket table as a choice between the bucket and the masked word. -/
theorem v71_at (V : Valuation τ sig (Elt Ideal)) (j : S128x2816.Idx) :
    StableHlo.after hostOps0_3 V (Proc.devRef .tc main_v71) j =
      Scalar.select (V (Proc.devRef .tc main_v60) j) (V (Proc.devRef .tc main_v70) j) (V (Proc.devRef .tc main_c_24) ix0) := by
  after_reads_at
  rfl

/-- The thresholds as the first host operations leave them. -/
theorem c_at (Wx : Valuation τ sig (Elt Ideal)) (x : Fin 15) :
    StableHlo.after hostOps0_1 (StableHlo.after hostOps0 Wx) (Proc.devRef .tc main_c) (ix1 x) = BitVec.ofNat 32 (thr x) := by
  rw [← lit0_at]
  after_reads_at

/-- The host's bucket of a distance word, over any thresholds. -/
def wordOf (w : BitVec 32) (th : Fin 15 → BitVec 32) : BitVec 32 :=
  Scalar.select (IntOp.cmpi CmpIPredicate.sge w 0#32)
    (IntOp.addi (IntOp.minsi w 16#32)
      (Finset.fold IntOp.addi (0#32) (fun x : Fin 15 => BitVec.setWidth 32 (IntOp.cmpi CmpIPredicate.sge w (th x))) Finset.univ))
    4294967295#32

/-- The bucket table from the distances and the thresholds that the earlier host operations leave. -/
theorem v71_wordOf (V : Valuation τ sig (Elt Ideal)) (r : Fin 128) (col : Fin 640) (h) :
    StableHlo.after hostOps0_3 (StableHlo.after hostOps0_2 V) (Proc.devRef .tc main_v71) (ix2 r ⟨col.val, h⟩)
      = wordOf (V (Proc.devRef .tc main_v25) (ix2 r col)) (fun x => V (Proc.devRef .tc main_c) (ix1 x)) :=
  (v71_at (StableHlo.after hostOps0_2 V) (ix2 r ⟨col.val, h⟩)).trans
    (congr (congrArg₂ Scalar.select (v60_at V r col h) (v70_at V r col h)) (c24_at V))

/-- The bucket table after the host operations, as a word of the row and the column. -/
theorem v71_word (Wx : Valuation τ sig (Elt Ideal)) (r : Fin 128) (col : Fin 640) (h) :
    StableHlo.after hostOps0_3 (StableHlo.after hostOps0_2 (StableHlo.after hostOps0_1 (StableHlo.after hostOps0 Wx))) (Proc.devRef .tc main_v71) (ix2 r ⟨col.val, h⟩)
      = word (dist r.val col.val) :=
  (v71_wordOf (StableHlo.after hostOps0_1 (StableHlo.after hostOps0 Wx)) r col h).trans
    (congrArg₂ wordOf (v25_at Wx r col) (funext fun x => c_at Wx x))

/-- The bucket table at a row and a column of the window. -/
theorem bk_at (c : Dev nD) (r : Fin 128) (col : Fin 640) (h) :
    W4 m ρ c (Proc.devRef .tc main_v71) (ix2 r ⟨col.val, h⟩)
      = if col.val ≤ r.val + 512 ∧ r.val < col.val then BitVec.ofNat 32 (kb (r.val + 512 - col.val)) else 4294967295#32 :=
  (v71_word (W0 m ρ c) r col h).trans (word_dist _ _ r.isLt col.isLt)

end Cert.WinIdeal.Host

end
-- ==== Proof.Win.Table.lean ====
/- What the bias launch of the idealized kernel leaves in its table, element by element. -/
module

public import proofs.«01_k».proof.Proof.Win.Bucket
public import Idealize.ShloMosaic.Lib.Pipeline.ValueKit
public import Idealize.ShloMosaic.Lib.Pipeline.Covers

@[expose] public section

set_option maxRecDepth 16384

noncomputable section

namespace Cert.WinIdeal.Table

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Cert.WinIdeal.Gen

/-- The table's choice among the biases of the first `n` buckets, the last compared first. -/
def pick (w : BitVec 32) (f : ℕ → EReal) : ℕ → EReal
  | 0 => ⊥
  | n + 1 => Scalar.select (IntOp.cmpi CmpIPredicate.eq w (BitVec.ofNat 32 n)) (f n) (pick w f n)

/-- The choice takes the bias of the bucket, or minus infinity where the bucket is none of them. -/
theorem pick_eq (w : BitVec 32) (f : ℕ → EReal) (n : ℕ) (hn : n ≤ 32) : pick w f n = if w.toNat < n then f w.toNat else ⊥ := by
  induction n with
  | zero => simp [pick]
  | succ n ih =>
    have e : IntOp.cmpi CmpIPredicate.eq w (BitVec.ofNat 32 n) = if w.toNat = n then 1#1 else 0#1 := by
      have : (w == BitVec.ofNat 32 n) = decide (w.toNat = n) := by
        rw [Bool.eq_iff_iff, beq_iff_eq, decide_eq_true_iff, ← BitVec.toNat_inj, BitVec.toNat_ofNat, Nat.mod_eq_of_lt (by omega)]
      unfold IntOp.cmpi
      simp only [this]
      by_cases h : w.toNat = n
      · simp [h]
      · simp [h]
    rw [pick, ih (by omega), e]
    by_cases h : w.toNat = n
    · rw [if_pos h, h, if_pos (show n < n + 1 by omega)]; rfl
    · rw [if_neg h]
      by_cases h' : w.toNat < n
      · rw [if_pos h', if_pos (by omega)]; rfl
      · rw [if_neg h', if_neg (by omega)]; rfl

variable (V : (c : Dev nD) → (b : Ref sig .tc) → Buf (Elt Ideal) ((c : Thread nD τ).loc b))

/-- The blocks each window reads or writes at a grid point. -/
theorem index0 : ∀ t : Fin grid0.N,
    win0_0.index t = ![0, 0] ∧ win0_1.index t = ![0, 0] ∧ win0_2.index t = ![(grid0.coords t 0).val, 0, 0] := by
  decide +kernel

/-- The bias block at a grid point is the whole table of biases. -/
theorem blk0_at (c : Dev nD) (t : Fin cfg0.N) (j : S32x16.Idx) : iblk0 V c 0 t j = V c main_arg2 j := by
  obtain ⟨e0, -⟩ := index0 t
  blk_ext [iblk0, e0]

/-- The bucket block at a grid point is the whole table of buckets. -/
theorem blk1_at (c : Dev nD) (t : Fin cfg0.N) (j : S128x2816.Idx) : iblk0 V c 1 t j = V c main_v71 j := by
  obtain ⟨-, e1, -⟩ := index0 t
  blk_ext [iblk0, e1]

/-- A bias of the table by its numbers. -/
def rb (c : Dev nD) (h b : ℕ) : EReal := if hb : b < 32 ∧ h < 16 then V c main_arg2 (ix2 ⟨b, hb.1⟩ ⟨h, hb.2⟩) else 0

/-- A bias that the body loads at a grid point. -/
theorem blk0_rb (c : Dev nD) (t : Fin cfg0.N) (a b : ℕ) (ha : a < 32) (hb : b < 16) : iblk0 V c 0 t (ix2 ⟨a, ha⟩ ⟨b, hb⟩) = rb V c b a := by
  rw [blk0_at]; unfold rb; rw [dif_pos ⟨ha, hb⟩]

/-- One block of the table, at an element. -/
theorem out_at (c : Dev nD) (t : Fin cfg0.N) (y : S1x128x2816.Idx) :
    outsAt0 V c t y = pick (V c main_v71 (ix2 (y 1) (y 2))) (rb V c (grid0.coords t 0).val) 32 := by
  have hmask : (Named.named (F := Ideal) κ "mask" (φ := .f32) 0xF149F2CA#32) = (⊥ : EReal) := by
    first | rfl | simp [Named.named]
  have hi : (grid0.coords t 0).val < 16 := (grid0.coords t 0).isLt
  have hw : (Scalar.indexCast (BitVec.ofNat 32 (grid0.coords t 0).val)).toNat = (grid0.coords t 0).val := by
    unfold Scalar.indexCast
    simp only [BitVec.toNat_ofNat]
    omega
  unfold outsAt0
  frame_out
  unfold k0_pay1 k0_pay8 k0_pay7 k0_pay6 k0_pay5 k0_pay4 k0_pay3 k0_pay2
  pointwise
  simp only [blk1_at, blk0_rb, hmask]
  simp only [k0_off1, k0_off2, k0_off3, k0_off4, k0_off5, k0_off6, k0_off7, k0_off8, k0_off9, k0_off10, k0_off11, k0_off12, k0_off13, k0_off14, k0_off15, k0_off16, k0_off17, k0_off18, k0_off19, k0_off20, k0_off21, k0_off22, k0_off23, k0_off24, k0_off25, k0_off26, k0_off27, k0_off28, k0_off29, k0_off30, k0_off31, k0_off32]
  simp only [hw]
  rfl

/-- The table the launch leaves, from the biases and the buckets. -/
def T (c : Dev nD) : S16x128x2816.Idx → EReal := fun i =>
  pick (V c main_v71 (ix2 (i 1) (i 2))) (rb V c (i 0).val) 32

/-- The array the launch leaves is `T`. -/
theorem arr_eq (c : Dev nD) : (dat0 V c).arrAt 2 cfg0.N = T V c := by
  refine (dat0 V c).arrAt_eq_of_covers 2 _ ((cfg0.win 2).covers_of_indexMap_surj rfl (by decide) fun β => ?_) fun t hf y => ?_
  · have h0 : (β 0).val < 16 := lt_of_lt_of_eq (β 0).isLt (by decide : (cfg0.win 2).nblk 0 = 16)
    have h1 : (β 1).val < 1 := lt_of_lt_of_eq (β 1).isLt (by decide : (cfg0.win 2).nblk 1 = 1)
    have h2 : (β 2).val < 1 := lt_of_lt_of_eq (β 2).isLt (by decide : (cfg0.win 2).nblk 2 = 1)
    obtain ⟨t, ht⟩ := grid0.coords_surjective (fun | 0 => ⟨(β 0).val, h0⟩)
    have e2 : win0_2.indexMap (grid0.coords t) = _ := (index0 t).2.2
    refine ⟨grid0.coords t, fun a => ?_⟩
    rw [show (cfg0.win 2).indexMap (grid0.coords t) = _ from e2, ht]
    fin_cases a
    · rfl
    · exact (Nat.lt_one_iff.mp h1).symm
    · exact (Nat.lt_one_iff.mp h2).symm
  · obtain ⟨e0, e1, e2⟩ := index0 t
    blk_simp
    rw [after0_2]
    refine (out_at V c t _).trans ?_
    unfold T
    have a0 : ((((View.whole main_v72).slice (win0_2.rect t)).emb y) 0).val = (grid0.coords t 0).val := by
      have y0 : (y 0).val < 1 := (y 0).isLt
      blk_simp [e2]
    have a1 : (((View.whole main_v72).slice (win0_2.rect t)).emb y) 1 = y 1 := by
      apply Fin.ext
      blk_simp [e2]
    have a2 : (((View.whole main_v72).slice (win0_2.rect t)).emb y) 2 = y 2 := by
      apply Fin.ext
      blk_simp [e2]
    rw [a0, a1, a2]

variable (m : (ℓ : Loc nD τ sig) → Buf (Elt Ideal) ℓ) (ρ : Dev nD → PrngReg)

/-- A bucket is one of the thirty-two. -/
theorem kb_lt (d : ℕ) : Host.kb d < 32 := by
  unfold Host.kb
  have := Finset.card_filter_le (Finset.univ : Finset (Fin 15)) fun x => Host.thr x ≤ d
  simp only [Finset.card_univ, Fintype.card_fin] at this
  omega

/-- The table that the attention launch reads: the bias of the distance's bucket inside the window, minus infinity outside. -/
theorem tab_at (c : Dev nD) (k : Fin 2) (g : Fin 8) (r : Fin 128) (col : Fin 640) :
    V9 m ρ c main_v74 (ix4 k g r col)
      = if col.val ≤ r.val + 512 ∧ r.val < col.val then
          Host.argB m c (ix2 ⟨Host.kb (r.val + 512 - col.val), kb_lt _⟩ ⟨k.val * 8 + g.val, by omega⟩) else ⊥ := by
  have hc : col.val < 2816 := by omega
  refine (Host.tab_at m ρ c k g r col).trans ?_
  refine (congrFun ((W5_arr m ρ c 2).trans (arr_eq (V4 m ρ) c)) _).trans ?_
  refine (pick_eq _ _ 32 (le_refl _)).trans ?_
  have hb : V4 m ρ c main_v71 (ix2 r ⟨col.val, hc⟩) = _ := Host.bk_at m ρ c r col hc
  have harg : V4 m ρ c main_arg2 = Host.argB m c := W4_args m ρ c main_arg2 (by decide)
  have key : ∀ (w : BitVec 32), w = (if col.val ≤ r.val + 512 ∧ r.val < col.val then BitVec.ofNat 32 (Host.kb (r.val + 512 - col.val)) else 4294967295#32) →
      (if w.toNat < 32 then rb (V4 m ρ) c (k.val * 8 + g.val) w.toNat else ⊥)
        = if col.val ≤ r.val + 512 ∧ r.val < col.val then
          Host.argB m c (ix2 ⟨Host.kb (r.val + 512 - col.val), kb_lt _⟩ ⟨k.val * 8 + g.val, by omega⟩) else ⊥ := by
    intro w hw
    have hk := kb_lt (r.val + 512 - col.val)
    by_cases h : col.val ≤ r.val + 512 ∧ r.val < col.val
    · rw [if_pos h] at hw ⊢
      have hn : w.toNat = Host.kb (r.val + 512 - col.val) := by
        rw [hw, BitVec.toNat_ofNat, Nat.mod_eq_of_lt (by omega)]
      rw [hn, if_pos hk]
      unfold rb
      rw [dif_pos ⟨hk, by omega⟩, harg]
    · rw [if_neg h] at hw ⊢
      rw [hw]
      rfl
  exact key _ hb

end Cert.WinIdeal.Table

end
-- ==== Proof.Win.Ref.lean ====
/- What the window attention's reference computes, element by element. -/
module

public import proofs.«01_k».proof.Proof.Gen.WinRefIdeal.Run
public import Idealize.ShloMosaic.Lib.Pointwise
public import Idealize.ShloMosaic.Lib.ValueIdx
public import Idealize.ShloMosaic.Lib.Pipeline.ValueKit

@[expose] public section

set_option maxRecDepth 16384

noncomputable section

namespace Cert.WinRefIdeal.Val

open Idealize.ShloMosaic Idealize.ShloMosaic.TcCoe Idealize.ShloMosaic.Tactic
open Idealize.SL Idealize.SL.RA Idealize.SL.BI Idealize.SL.Sem
open Cert.WinRefIdeal.Gen Cert.WinRefIdeal.Value

variable (m : (ℓ : Loc nD τ sig) → Buf (Elt Ideal) ℓ)

/-- The gather of the biases read at an element: the row is the bucket's word, read signed and held below thirty-two. -/
theorem gather_at (x : S32x2x8.Idx → EReal) (idx : IVec S16384x16384x1 32) (s n : Fin 16384) (k : Fin 2) (g : Fin 8) :
    Host.gather gather_S32x2x8_S16384x16384x1_S16384x16384x2x8_23_0_n_n_0_2_128 x idx (ix4 s n k g)
      = x (ix3 ⟨min (idx (ix3 s n 0)).toInt.toNat 31, by omega⟩ k g) := by
  unfold Host.gather
  congr 1
  funext a
  refine Fin.ext ?_
  show GatherDims.start _ (ix4 s n k g) idx a + GatherDims.batchCoord _ (ix4 s n k g) a + GatherDims.offCoord _ (ix4 s n k g) a = _
  rw [GatherDims.batchCoord_eq_zero _ _ _ List.not_mem_nil]
  simp only [Nat.add_zero]
  fin_cases a
  · rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 3) ∈ gather_S32x2x8_S16384x16384x1_S16384x16384x2x8_23_0_n_n_0_2_128.startIndexMap from List.mem_singleton.mpr rfl)]
    have hsi : ∀ p, (gather_S32x2x8_S16384x16384x1_S16384x16384x2x8_23_0_n_n_0_2_128).siIdx (ix4 s n k g) ⟨0, p⟩ = ix3 s n 0 := by
      intro p
      funext b; refine Fin.ext ?_
      match b with
      | ⟨0, _⟩ => rfl
      | ⟨1, _⟩ => rfl
      | ⟨2, _⟩ => rfl
    exact congrArg (fun z => min (idx z).toInt.toNat 31) (hsi _)
  · unfold GatherDims.start GatherDims.offCoord
    rw [dif_neg (by decide), dif_pos (by decide)]
    exact Nat.zero_add _
  · unfold GatherDims.start GatherDims.offCoord
    rw [dif_neg (by decide), dif_pos (by decide)]
    exact Nat.zero_add _

/-- The word of minus infinity is the least value. -/
theorem ofBits_neg_inf : Ideal.ofBits FTy.f32 4286578688#32 = ⊥ := by
  first | rfl | decide | simp

/-- The distance of every query position from every key position. -/
def dV : IVec S16384x16384 32 :=
  subi (broadcastInDim S16384x16384 ![0, 1] bcast_S16384x1_S16384x16384_0_1 (broadcastInDim S16384x1 ![0] bcast_S16384_S16384x1_0 (iotaInDim S16384 32 0)))
    (broadcastInDim S16384x16384 ![0, 1] bcast_S1x16384_S16384x16384_0_1 (broadcastInDim S1x16384 ![1] bcast_S16384_S1x16384_1 (iotaInDim S16384 32 0)))

/-- A constant word at every pair of positions. -/
def cV (w : BitVec 32) : IVec S16384x16384 32 := broadcastInDim S16384x16384 ![] bcast_S_S16384x16384 (constantI S_ 32 w)

/-- A constant number at every pair of positions. -/
def fV (w : BitVec 32) : FVec Ideal S16384x16384 .f32 := broadcastInDim S16384x16384 ![] bcast_S_S16384x16384 (constant S_ .f32 w)

/-- The mask of the window over distances. -/
def mV (d : IVec S16384x16384 32) : IVec S16384x16384 1 := andi (cmpi .sge d (cV 0#32)) (cmpi .slt d (cV 512#32))

/-- The bucket of every distance that is not negative. -/
def bV (n : IVec S16384x16384 32) : IVec S16384x16384 32 :=
  select (cmpi .slt n (cV 16#32)) n
    (minsi (addi (cV 16#32) (fptosi 32 (mulf (Host.divf (Host.log (Host.divf (sitofp .f32 (maxsi n (cV 16#32))) (fV 0x41800000#32))) (fV 0x409B43D5#32)) (fV 0x41800000#32))))
      (cV 31#32))

/-- The row of the biases that is read at every pair of positions: a negative index counts from the end. -/
def wV (b : IVec S16384x16384 32) : IVec S16384x16384 32 := select (cmpi .slt b (cV 0#32)) (addi b (cV 32#32)) b

/-- The masked scores. -/
def sV (q : FVec Ideal S2x16384x1024 .f32) (kv : FVec Ideal S2x16384x768 .f32) (rb : FVec Ideal S32x16 .f32) (mk : IVec S16384x16384 1) (w : IVec S16384x16384 32) :
    FVec Ideal S2x2x8x16384x16384 .f32 :=
  select (broadcastInDim S2x2x8x16384x16384 ![3, 4] bcast_S16384x16384_S2x2x8x16384x16384_3_4 mk)
    (addf (mulf (transpose S2x2x8x16384x16384 [0, 1, 4, 3, 2]
            (Host.dotGeneral dot_S2x16384x2x64_S2x16384x2x8x64_S2x2x16384x16384x8_3_4_1_13_02_02 none
              (shapeCast S2x16384x2x64 (extractStridedSlice S2x16384x1x2x64 ![0, 0, 4, 0, 0] (shapeCast S2x16384x6x2x64 kv shapeCasts_S2x16384x768_S2x16384x6x2x64) slices_S2x16384x6x2x64_S2x16384x1x2x64_0_0_4_0_0) shapeCasts_S2x16384x1x2x64_S2x16384x2x64)
              (shapeCast S2x16384x2x8x64 q shapeCasts_S2x16384x1024_S2x16384x2x8x64) : FVec Ideal S2x2x16384x16384x8 .f32)
            transposes_S2x2x16384x16384x8_S2x2x8x16384x16384_0_1_4_3_2)
          (broadcastInDim S2x2x8x16384x16384 ![] bcast_S_S2x2x8x16384x16384 (constant S_ .f32 0x3E000000#32)))
      (broadcastInDim S2x2x8x16384x16384 ![0, 1, 2, 3, 4] bcast_S1x2x8x16384x16384_S2x2x8x16384x16384_0_1_2_3_4
        (broadcastInDim S1x2x8x16384x16384 ![1, 2, 3, 4] bcast_S2x8x16384x16384_S1x2x8x16384x16384_1_2_3_4
          (transpose S2x8x16384x16384 [2, 3, 0, 1]
            (Host.gather gather_S32x2x8_S16384x16384x1_S16384x16384x2x8_23_0_n_n_0_2_128 (shapeCast S32x2x8 rb shapeCasts_S32x16_S32x2x8)
              (broadcastInDim S16384x16384x1 ![0, 1] bcast_S16384x16384_S16384x16384x1_0_1 w))
            transposes_S16384x16384x2x8_S2x8x16384x16384_2_3_0_1))))
    (broadcastInDim S2x2x8x16384x16384 ![] bcast_S_S2x2x8x16384x16384 (id (constant S_ .f32 0xFF800000#32)))

/-- The exponentials of the scores less their row's maximum. -/
def eV (S : FVec Ideal S2x2x8x16384x16384 .f32) : FVec Ideal S2x2x8x16384x16384 .f32 :=
  Host.exp (subf S (broadcastInDim S2x2x8x16384x16384 ![0, 1, 2, 3, 4] bcast_S2x2x8x16384x1_S2x2x8x16384x16384_0_1_2_3_4
    (broadcastInDim S2x2x8x16384x1 ![0, 1, 2, 3] bcast_S2x2x8x16384_S2x2x8x16384x1_0_1_2_3
      (maximumf (broadcastInDim S2x2x8x16384 ![] bcast_S_S2x2x8x16384 (constant S_ .f32 0xFF800000#32))
        (Host.reduce FloatOps.maximumf S (constant S_ .f32 0xFF800000#32) reducesTo_S2x2x8x16384x16384_S2x2x8x16384_d4 h_S_)))))

/-- The weighted sums of the values. -/
def oV (kv : FVec Ideal S2x16384x768 .f32) (mk : IVec S16384x16384 1) (E : FVec Ideal S2x2x8x16384x16384 .f32) : FVec Ideal S2x2x8x16384x64 .f32 :=
  Host.dotGeneral dot_S2x2x8x16384x16384_S2x16384x2x64_S2x2x8x16384x64_4_1_23_3_01_02 none
    (select (broadcastInDim S2x2x8x16384x16384 ![3, 4] bcast_S16384x16384_S2x2x8x16384x16384_3_4 mk)
      (Host.divf E (broadcastInDim S2x2x8x16384x16384 ![0, 1, 2, 3, 4] bcast_S2x2x8x16384x1_S2x2x8x16384x16384_0_1_2_3_4
        (broadcastInDim S2x2x8x16384x1 ![0, 1, 2, 3] bcast_S2x2x8x16384_S2x2x8x16384x1_0_1_2_3
          (Host.reduceAdd E (constant S_ .f32 0x00000000#32) reducesTo_S2x2x8x16384x16384_S2x2x8x16384_d4 h_S_))))
      (broadcastInDim S2x2x8x16384x16384 ![] bcast_S_S2x2x8x16384x16384 (id (constant S_ .f32 0x00000000#32))))
    (shapeCast S2x16384x2x64 (extractStridedSlice S2x16384x1x2x64 ![0, 0, 5, 0, 0] (shapeCast S2x16384x6x2x64 kv shapeCasts_S2x16384x768_S2x16384x6x2x64) slices_S2x16384x6x2x64_S2x16384x1x2x64_0_0_5_0_0) shapeCasts_S2x16384x1x2x64_S2x16384x2x64)

/-- The reference's result is the composition of these steps. -/
theorem res_eq (c : Dev nD) :
    res_out0 (F := Ideal) m c
      = oV (m ((c.tc : Thread nD τ).loc main_arg1)) (mV dV)
          (eV (sV (m ((c.tc : Thread nD τ).loc main_arg0)) (m ((c.tc : Thread nD τ).loc main_arg1)) (m ((c.tc : Thread nD τ).loc main_arg2)) (mV dV)
            (wV (bV (maxsi dV (cV 0#32)))))) := by
  unfold res_out0 res_main_v66 oV eV sV wV bV mV dV cV fV
  rfl

end Cert.WinRefIdeal.Val

end
-- ==== Proof.Win.RefAt.lean ====
/- The steps of the window attention's reference, element by element. -/
module

public import proofs.«01_k».proof.Proof.Win.Ref

@[expose] public section

set_option maxRecDepth 16384

noncomputable section

namespace Cert.WinRefIdeal.Val

open Idealize.ShloMosaic Idealize.ShloMosaic.TcCoe Idealize.ShloMosaic.Tactic
open Idealize.SL Idealize.SL.RA Idealize.SL.BI Idealize.SL.Sem
open Cert.WinRefIdeal.Gen Cert.WinRefIdeal.Value

/-- The distance of a pair of positions. -/
theorem dV_at (s n : Fin 16384) : dV (ix2 s n) = IntOp.subi (BitVec.ofNat 32 s.val) (BitVec.ofNat 32 n.val) := by
  unfold dV
  pointwise

/-- The window's mask at a pair of positions, from the distance's word. -/
theorem mV_at (d : IVec S16384x16384 32) (s n : Fin 16384) :
    mV d (ix2 s n) = IntOp.andi (IntOp.cmpi .sge (d (ix2 s n)) 0#32) (IntOp.cmpi .slt (d (ix2 s n)) 512#32) := by
  unfold mV cV
  pointwise

/-- The bucket of a distance word. -/
def bWord (n : BitVec 32) : BitVec 32 :=
  Scalar.select (IntOp.cmpi .slt n 16#32) n
    (IntOp.minsi (IntOp.addi 16#32 (Ideal.fptosi 32 (Ideal.div (Ideal.log (Ideal.div ((((IntOp.maxsi n 16#32).toInt : ℝ)) : EReal) (Ideal.ofBits .f32 0x41800000#32)))
      (Ideal.ofBits .f32 0x409B43D5#32) * Ideal.ofBits .f32 0x41800000#32))) 31#32)

/-- The bucket at a pair of positions, from the distance's word. -/
theorem bV_at (d : IVec S16384x16384 32) (s n : Fin 16384) : bV d (ix2 s n) = bWord (d (ix2 s n)) := by
  unfold bV cV fV bWord
  pointwise
  rfl

/-- The row of the biases at a pair of positions, from the bucket's word. -/
theorem wV_at (b : IVec S16384x16384 32) (s n : Fin 16384) :
    wV b (ix2 s n) = Scalar.select (IntOp.cmpi .slt (b (ix2 s n)) 0#32) (IntOp.addi (b (ix2 s n)) 32#32) (b (ix2 s n)) := by
  unfold wV cV
  pointwise

/-- The distance held at zero from below, at a pair of positions. -/
theorem maxV_at (d : IVec S16384x16384 32) (s n : Fin 16384) : maxsi d (cV 0#32) (ix2 s n) = IntOp.maxsi (d (ix2 s n)) 0#32 := by
  unfold cV
  pointwise

/-- A masked score, from the mask's bit and the row of the biases. -/
theorem sV_at (q : FVec Ideal S2x16384x1024 .f32) (kv : FVec Ideal S2x16384x768 .f32) (rb : FVec Ideal S32x16 .f32) (mk : IVec S16384x16384 1) (w : IVec S16384x16384 32)
    (b k : Fin 2) (g : Fin 8) (s n : Fin 16384) :
    sV q kv rb mk w (ix5 b k g s n)
      = Scalar.select (mk (ix2 s n))
          ((∑ x : Fin 64, kv (ix3 b n ⟨512 + k.val * 64 + x.val, by omega⟩) * q (ix3 b s ⟨k.val * 512 + g.val * 64 + x.val, by omega⟩))
              * Ideal.ofBits FTy.f32 1040187392#32
            + rb (ix2 ⟨min (w (ix2 s n)).toInt.toNat 31, by omega⟩ ⟨k.val * 8 + g.val, by omega⟩)) (⊥ : EReal) := by
  unfold sV
  pointwise
  simp only [gather_at]
  pointwise
  exact congrArg (Scalar.select _ _) ofBits_neg_inf

/-- The largest score of a row. -/
theorem max_at (S : FVec Ideal S2x2x8x16384x16384 .f32) (b k : Fin 2) (g : Fin 8) (s : Fin 16384) :
    Host.reduce FloatOps.maximumf S (constant S_ .f32 0xFF800000#32) reducesTo_S2x2x8x16384x16384_S2x2x8x16384_d4 h_S_ (ix4 b k g s)
      = Finset.univ.fold max (⊥ : EReal) fun n : Fin 16384 => S (ix5 b k g s n) := by
  have h : S2x2x8x16384x16384.Reduces [4] S2x2x8x16384 := by decide
  refine (Host.reduce_eq_fold_single FloatOps.maximumf S _ reducesTo_S2x2x8x16384x16384_S2x2x8x16384_d4 h h_S_ (ix4 b k g s)).trans ?_
  have e : (S ∘ h.lift (ix4 b k g s) : Fin 16384 → EReal) = fun n => S (ix5 b k g s n) := by
    funext n
    refine congrArg S ?_
    funext a
    match a with
    | ⟨0, _⟩ => rfl
    | ⟨1, _⟩ => rfl
    | ⟨2, _⟩ => rfl
    | ⟨3, _⟩ => rfl
    | ⟨4, _⟩ => rfl
  exact (congrArg₂ (fun z (f : Fin 16384 → EReal) => Finset.fold (max : EReal → EReal → EReal) z f Finset.univ) ofBits_neg_inf e)

/-- The exponentials at an element, the row's maximum given. -/
theorem eV_red (S : FVec Ideal S2x2x8x16384x16384 .f32) (R : FVec Ideal S2x2x8x16384 .f32) (b k : Fin 2) (g : Fin 8) (s n : Fin 16384) :
  (Host.exp (subf S (broadcastInDim S2x2x8x16384x16384 ![0, 1, 2, 3, 4] bcast_S2x2x8x16384x1_S2x2x8x16384x16384_0_1_2_3_4
    (broadcastInDim S2x2x8x16384x1 ![0, 1, 2, 3] bcast_S2x2x8x16384_S2x2x8x16384x1_0_1_2_3
      (maximumf (broadcastInDim S2x2x8x16384 ![] bcast_S_S2x2x8x16384 (constant S_ .f32 0xFF800000#32)) R))))
    : FVec Ideal S2x2x8x16384x16384 .f32) (ix5 b k g s n)
     = Ideal.exp (S (ix5 b k g s n) - max ⊥ (R (ix4 b k g s))) := by
  pointwise
  rw [ofBits_neg_inf]

/-- The exponential of a score less its row's maximum. -/
theorem eV_at (S : FVec Ideal S2x2x8x16384x16384 .f32) (b k : Fin 2) (g : Fin 8) (s n : Fin 16384) :
    eV S (ix5 b k g s n) = Ideal.exp (S (ix5 b k g s n) - Finset.univ.fold max (⊥ : EReal) fun n : Fin 16384 => S (ix5 b k g s n)) := by
  unfold eV
  rw [eV_red, max_at, max_eq_right bot_le]

/-- An element of the result, from the mask and the exponentials. -/
theorem oV_at (kv : FVec Ideal S2x16384x768 .f32) (mk : IVec S16384x16384 1) (E : FVec Ideal S2x2x8x16384x16384 .f32)
    (b k : Fin 2) (g : Fin 8) (s : Fin 16384) (e : Fin 64) :
    oV kv mk E (ix5 b k g s e)
      = ∑ n : Fin 16384, (Scalar.select (mk (ix2 s n)) (Ideal.div (E (ix5 b k g s n)) (∑ x : Fin 16384, E (ix5 b k g s x))) (0 : EReal) : EReal)
          * kv (ix3 b n ⟨640 + k.val * 64 + e.val, by omega⟩) := by
  have key : ∀ z : EReal, (id (constant (F := Ideal) S_ .f32 0#32) : FVec Ideal S_ .f32) ix0 = z → oV kv mk E (ix5 b k g s e)
      = ∑ n : Fin 16384, (Scalar.select (mk (ix2 s n)) (Ideal.div (E (ix5 b k g s n)) (∑ x : Fin 16384, E (ix5 b k g s x))) z : EReal)
          * kv (ix3 b n ⟨640 + k.val * 64 + e.val, by omega⟩) := by
    intro z hz
    subst hz
    unfold oV
    pointwise
  refine key 0 ?_
  show Ideal.ofBits FTy.f32 0#32 = 0
  simp [Ideal.ofBits, Ideal.ieee]

end Cert.WinRefIdeal.Val

end
-- ==== Proof.Win.BucketR.lean ====
/- The reference's words: the mask of the window, and the bucket of a distance by the logarithm's formula. -/
module

public import proofs.«01_k».proof.Proof.Win.RefAt
public import proofs.«01_k».proof.Proof.Win.Host

@[expose] public section

set_option maxRecDepth 16384

noncomputable section

namespace Cert.WinRefIdeal.Bucket

open Idealize.ShloMosaic Idealize.ShloMosaic.TcCoe Idealize.ShloMosaic.Tactic
open Cert.WinRefIdeal.Gen Cert.WinRefIdeal.Val
open Cert.WinIdeal.Host (kb thr)

/-- The logarithm of two from below. -/
theorem log_two_gt : (0.693147180 : ℝ) < Real.log 2 := by
  rw [Real.lt_log_iff_exp_lt (by norm_num)]
  refine lt_of_le_of_lt (Real.exp_bound' (n := 12) (by norm_num) (by norm_num) (by norm_num)) ?_
  norm_num [Finset.sum_range_succ, Nat.factorial]

/-- The logarithm of two from above. -/
theorem log_two_lt : Real.log 2 < (0.693147182 : ℝ) := by
  rw [Real.log_lt_iff_lt_exp (by norm_num)]
  refine lt_of_lt_of_le ?_ (Real.sum_le_exp_of_nonneg (by norm_num) 13)
  norm_num [Finset.sum_range_succ, Nat.factorial]

/-- The count of thresholds a distance reaches. -/
def cnt (d : ℕ) : ℕ := (Finset.univ.filter fun x : Fin 15 => thr x ≤ d).card

/-- The thresholds are the bucket's bounds, in whole numbers with a margin. -/
theorem cnt_bounds : ∀ d : Fin 2048, 16 ≤ d.val →
    (cnt d.val = 0 ∨ 128 ^ cnt d.val * 16 ^ 16 * 1000001 ≤ d.val ^ 16 * 1000000) ∧ d.val ^ 16 < 128 ^ (cnt d.val + 1) * 16 ^ 16 := by
  decide +kernel

theorem cnt_le : ∀ d : Fin 2048, cnt d.val ≤ 15 := by
  decide +kernel

/-- Below the sixteenth distance no threshold is reached. -/
theorem cnt_low : ∀ d : Fin 16, cnt d.val = 0 := by
  decide +kernel

/-- The real number the reference's constant for the logarithm of 128 is. -/
def kap : ℝ := 10175445 / 2097152

theorem ofBits_kap : Ideal.ofBits .f32 0x409B43D5#32 = (kap : EReal) := by
  unfold kap
  simp [Ideal.ofBits, Ideal.ieee, -EReal.coe_mul]; norm_num

theorem ofBits_16 : Ideal.ofBits .f32 0x41800000#32 = ((16 : ℝ) : EReal) := by
  simp [Ideal.ofBits, Ideal.ieee, -EReal.coe_mul]; norm_num

theorem log128 : Real.log 128 = 7 * Real.log 2 := by
  rw [show (128 : ℝ) = 2 ^ 7 by norm_num, Real.log_pow]; norm_num

/-- The logarithm's quotient lies in the bucket. -/
theorem quot_bounds (d : ℕ) (h16 : 16 ≤ d) (h : d < 2048) :
    (cnt d : ℝ) ≤ Real.log (d / 16) * kap⁻¹ * 16 ∧ Real.log (d / 16) * kap⁻¹ * 16 < (cnt d : ℝ) + 1 := by
  obtain ⟨h1, h2⟩ := cnt_bounds ⟨d, h⟩ h16
  have hle := cnt_le ⟨d, h⟩
  simp only at h1 h2 hle
  have hd : (0 : ℝ) < d := by exact_mod_cast (by omega : 0 < d)
  have l1 := log_two_gt
  have l2 := log_two_lt
  have hk : 0 < kap := by unfold kap; norm_num
  have e : Real.log (d / 16) * kap⁻¹ * 16 = Real.log ((d / 16) ^ 16) / kap := by
    rw [Real.log_pow]; push_cast; field_simp
  have hj : (cnt d : ℝ) ≤ 15 := by exact_mod_cast hle
  have hj0 : (0 : ℝ) ≤ cnt d := Nat.cast_nonneg _
  rw [e]
  constructor
  · rw [le_div_iff₀ hk]
    rcases h1 with h1 | h1
    · rw [h1]
      have : (1 : ℝ) ≤ (d / 16 : ℝ) := by
        rw [le_div_iff₀ (by norm_num)]; exact_mod_cast (by omega : 1 * 16 ≤ d)
      have := Real.log_nonneg (one_le_pow₀ this (n := 16))
      simpa using this
    · have hq : (128 : ℝ) ^ cnt d * (1000001 / 1000000) ≤ (d / 16 : ℝ) ^ 16 := by
        have : (128 : ℝ) ^ cnt d * 16 ^ 16 * 1000001 ≤ (d : ℝ) ^ 16 * 1000000 := by exact_mod_cast h1
        rw [div_pow, le_div_iff₀ (by positivity)]
        linarith
      have hl := Real.log_le_log (by positivity) hq
      rw [Real.log_mul (by positivity) (by norm_num), Real.log_pow, log128] at hl
      have hs := Real.one_sub_inv_le_log_of_pos (show (0 : ℝ) < 1000001 / 1000000 by norm_num)
      have hs' : (1 : ℝ) / 1000001 ≤ Real.log (1000001 / 1000000) := by
        refine le_trans ?_ hs; norm_num
      have hkk : kap ≤ 7 * Real.log 2 + 1 / 30000000 := by unfold kap; linarith
      have : (cnt d : ℝ) * kap ≤ cnt d * (7 * Real.log 2) + 15 * (1 / 30000000) := by
        have := mul_le_mul_of_nonneg_left hkk hj0
        linarith
      linarith
  · rw [div_lt_iff₀ hk]
    have hq : (d / 16 : ℝ) ^ 16 < (128 : ℝ) ^ (cnt d + 1) := by
      have : (d : ℝ) ^ 16 < (128 : ℝ) ^ (cnt d + 1) * 16 ^ 16 := by exact_mod_cast h2
      rw [div_pow, div_lt_iff₀ (by positivity)]
      exact this
    have hl := Real.log_lt_log (by positivity) hq
    rw [Real.log_pow (128 : ℝ) (cnt d + 1), log128] at hl
    push_cast at hl
    have hkk : 7 * Real.log 2 ≤ kap := by unfold kap; linarith
    have := mul_le_mul_of_nonneg_left hkk (show (0 : ℝ) ≤ cnt d + 1 by linarith)
    linarith

/-- The converted quotient is the count of thresholds. -/
theorem conv (d : ℕ) (h16 : 16 ≤ d) (h : d < 2048) :
    Ideal.fptosi 32 (Ideal.div (Ideal.log (Ideal.div (((d : ℤ) : ℝ) : EReal) (Ideal.ofBits .f32 0x41800000#32))) (Ideal.ofBits .f32 0x409B43D5#32)
      * Ideal.ofBits .f32 0x41800000#32) = BitVec.ofNat 32 (cnt d) := by
  obtain ⟨b1, b2⟩ := quot_bounds d h16 h
  have hle := cnt_le ⟨d, h⟩
  simp only at hle
  have hk : kap ≠ 0 := by unfold kap; norm_num
  have hd : (0 : ℝ) < d := by exact_mod_cast (by omega : 0 < d)
  have hdiv : ∀ x y : ℝ, y ≠ 0 → Ideal.div (x : EReal) (y : EReal) = ((x * y⁻¹ : ℝ) : EReal) := fun x y hy => by
    unfold Ideal.div
    rw [if_neg (by simpa using hy), EReal.coe_mul, EReal.coe_inv]
  have hlog : Ideal.log ((d * 16⁻¹ : ℝ) : EReal) = ((Real.log (d / 16) : ℝ) : EReal) := by
    have : ¬ ((d : ℝ) * 16⁻¹ ≤ 0) := by
      rw [not_le]; positivity
    rw [← div_eq_mul_inv] at this ⊢
    first | exact if_neg this | (simp [Ideal.log, this])
  rw [ofBits_16, ofBits_kap, Int.cast_natCast, hdiv _ _ (by norm_num), hlog, hdiv _ _ hk, ← EReal.coe_mul]
  have hfl : ⌊Real.log (d / 16) * kap⁻¹ * 16⌋ = (cnt d : ℤ) := by
    rw [Int.floor_eq_iff]; exact ⟨by exact_mod_cast b1, by exact_mod_cast b2⟩
  have h0 : 0 ≤ Real.log (d / 16) * kap⁻¹ * 16 := le_trans (Nat.cast_nonneg _) b1
  have ht : Ideal.toIntClamped (-(2 ^ (32 - 1) : ℕ)) ((2 ^ (32 - 1) : ℕ) - 1) ((Real.log (d / 16) * kap⁻¹ * 16 : ℝ) : EReal) = (cnt d : ℤ) := by
    show max _ (min _ (if 0 ≤ Real.log (d / 16) * kap⁻¹ * 16 then ⌊Real.log (d / 16) * kap⁻¹ * 16⌋ else _)) = _
    rw [if_pos h0, hfl]
    omega
  unfold Ideal.fptosi
  rw [ht, BitVec.ofInt_natCast]

/-- The reference's bucket of a distance below 2048 is the one counted by thresholds. -/
theorem bWord_eq (d : ℕ) (h : d < 2048) : bWord (BitVec.ofNat 32 d) = BitVec.ofNat 32 (kb d) := by
  have hle := cnt_le ⟨d, h⟩
  simp only at hle
  have hi : (BitVec.ofNat 32 d).toInt = d := by
    simp only [BitVec.toInt_eq_toNat_cond, BitVec.toNat_ofNat]; omega
  have hkb : kb d = min d 16 + cnt d := rfl
  unfold bWord
  by_cases hd : d < 16
  · have : IntOp.cmpi .slt (BitVec.ofNat 32 d) 16#32 = 1#1 := by
      unfold IntOp.cmpi
      simp only [BitVec.slt, hi]
      rw [decide_eq_true (by simpa using (by omega : (d : ℤ) < 16))]; rfl
    rw [this, hkb, cnt_low ⟨d, hd⟩, Nat.min_eq_left hd.le]
    rfl
  · have h1 : IntOp.cmpi .slt (BitVec.ofNat 32 d) 16#32 = 0#1 := by
      unfold IntOp.cmpi
      simp only [BitVec.slt, hi]
      rw [decide_eq_false (by simpa using (by omega : ¬ (d : ℤ) < 16))]; rfl
    have h2 : (IntOp.maxsi (BitVec.ofNat 32 d) 16#32).toInt = (d : ℤ) := by
      unfold IntOp.maxsi
      simp only [BitVec.sle, BitVec.slt, hi]
      split
      · rename_i hh; simp at hh; first | exact hi | (have : d = 16 := by omega
                                                     subst this; rfl)
      · rename_i hh; simp at hh; first | exact hi | (have : d = 16 := by omega
                                                     subst this; rfl)
    rw [h1, h2, conv d (by omega) h, hkb, Nat.min_eq_right (by omega)]
    show IntOp.minsi (IntOp.addi 16#32 (BitVec.ofNat 32 (cnt d))) 31#32 = _
    have : ∀ j : Fin 16, IntOp.minsi (IntOp.addi 16#32 (BitVec.ofNat 32 j.val)) 31#32 = BitVec.ofNat 32 (16 + j.val) := by decide +kernel
    exact this ⟨cnt d, by omega⟩

/-- The distance word of a pair of positions, as a whole number. -/
theorem dist_toInt (s n : Fin 16384) : (IntOp.subi (BitVec.ofNat 32 s.val) (BitVec.ofNat 32 n.val)).toInt = (s.val : ℤ) - n.val := by
  unfold IntOp.subi
  simp only [BitVec.toInt_eq_toNat_cond, BitVec.toNat_sub, BitVec.toNat_ofNat]
  omega

/-- The window's mask. -/
theorem mask_eq (s n : Fin 16384) : mV dV (ix2 s n) = if n.val ≤ s.val ∧ s.val < n.val + 512 then 1#1 else 0#1 := by
  rw [mV_at, dV_at]
  unfold IntOp.cmpi
  simp only [BitVec.sle, BitVec.slt, dist_toInt]
  have z : (0#32 : BitVec 32).toInt = 0 := rfl
  have z' : (512#32 : BitVec 32).toInt = 512 := rfl
  rw [z, z']
  by_cases h1 : n.val ≤ s.val
  · by_cases h2 : s.val < n.val + 512
    · rw [if_pos ⟨h1, h2⟩, decide_eq_true (by omega), decide_eq_true (by omega)]; rfl
    · rw [if_neg (fun h => h2 h.2), decide_eq_true (by omega), decide_eq_false (by omega)]; rfl
  · rw [if_neg (fun h => h1 h.1), decide_eq_false (by omega)]
    by_cases h2 : s.val < n.val + 512
    · rw [decide_eq_true (by omega)]; rfl
    · rw [decide_eq_false (by omega)]; rfl

/-- The row of the biases of a pair inside the window. -/
theorem row_eq (s n : Fin 16384) (h : n.val ≤ s.val ∧ s.val < n.val + 512) (hk : kb (s.val - n.val) < 32) :
    min (wV (bV (maxsi dV (cV 0#32))) (ix2 s n)).toInt.toNat 31 = kb (s.val - n.val) := by
  have e : IntOp.maxsi (IntOp.subi (BitVec.ofNat 32 s.val) (BitVec.ofNat 32 n.val)) 0#32 = BitVec.ofNat 32 (s.val - n.val) := by
    have hx : IntOp.subi (BitVec.ofNat 32 s.val) (BitVec.ofNat 32 n.val) = BitVec.ofNat 32 (s.val - n.val) := by
      apply BitVec.eq_of_toInt_eq
      rw [dist_toInt]
      simp only [BitVec.toInt_eq_toNat_cond, BitVec.toNat_ofNat]
      omega
    rw [hx]
    have : ∀ d : Fin 512, IntOp.maxsi (BitVec.ofNat 32 d.val) 0#32 = BitVec.ofNat 32 d.val := by decide +kernel
    exact this ⟨s.val - n.val, by omega⟩
  rw [wV_at, bV_at, maxV_at, dV_at, e, bWord_eq _ (by omega)]
  have : ∀ j : Fin 32, min (Scalar.select (IntOp.cmpi .slt (BitVec.ofNat 32 j.val) 0#32) (IntOp.addi (BitVec.ofNat 32 j.val) 32#32) (BitVec.ofNat 32 j.val)).toInt.toNat 31 = j.val := by
    decide +kernel
  exact this ⟨_, hk⟩

end Cert.WinRefIdeal.Bucket

end
-- ==== Proof.Win.Math.lean ====
/- The mathematics of the window attention: a softmax over the keys of the window is the one over all keys, the others masked. -/
module

public import Idealize.ShloMosaic.PureOps.Ideal
public import Idealize.ShloMosaic.Lib.Pipeline.ValueKit

@[expose] public section

noncomputable section

namespace Cert.WinMath

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨r, rfl⟩ := hx; obtain ⟨t, rfl⟩ := hy
  exact ⟨r + t, (EReal.coe_add r t).symm⟩

theorem IsReal.mul {x y : EReal} (hx : IsReal x) (hy : IsReal y) : IsReal (x * y) := by
  obtain ⟨r, rfl⟩ := hx; obtain ⟨t, rfl⟩ := hy
  exact ⟨r * t, (EReal.coe_mul r t).symm⟩

/-- A finite sum of real numbers is one. -/
theorem isReal_sum {ι : Type} (S : Finset ι) (f : ι → EReal) (h : ∀ i ∈ S, IsReal (f i)) : IsReal (∑ i ∈ S, f i) := by
  classical
  induction S using Finset.induction_on with
  | empty => exact ⟨0, by simp⟩
  | insert a S ha ih =>
    rw [Finset.sum_insert ha]
    exact (h a (Finset.mem_insert_self a S)).add (ih fun i hi => h i (Finset.mem_insert_of_mem hi))

/-- Multiplication by a real number that is not negative distributes over a finite sum, whatever the terms. -/
theorem sum_mul_real {ι : Type} (S : Finset ι) (f : ι → EReal) (c : ℝ) (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, ← ih, mul_comm (f a + _), EReal.left_distrib_of_nonneg_of_ne_top (EReal.coe_nonneg.mpr hc) (EReal.coe_ne_top c),
      mul_comm (f a), mul_comm (∑ i ∈ S, f i)]

/-- A sum of positive real numbers over a set with an element is a positive real number. -/
theorem sum_pos_real {ι : Type} (S : Finset ι) (f : ι → EReal) (h : ∀ i ∈ S, ∃ r : ℝ, 0 < r ∧ f i = (r : EReal)) (i0 : ι) (h0 : i0 ∈ S) :
    ∃ l : ℝ, 0 < l ∧ (∑ i ∈ S, f i) = (l : EReal) := by
  obtain ⟨l, hl⟩ := isReal_sum S f fun i hi => (h i hi).imp fun r hr => hr.2
  refine ⟨l, ?_, hl⟩
  have hn : ∀ i ∈ S, 0 ≤ f i := fun i hi => by
    obtain ⟨r, hr, e⟩ := h i hi
    rw [e]; exact EReal.coe_nonneg.mpr hr.le
  have h1 : f i0 ≤ ∑ i ∈ S, f i := Finset.single_le_sum hn h0
  obtain ⟨r, hr, e⟩ := h i0 h0
  rw [hl, e] at h1
  exact lt_of_lt_of_le hr (EReal.coe_le_coe_iff.mp h1)

/-- The softmax over a part of the keys is the softmax over all of them with the others masked, where the scores of the part are real numbers. -/
theorem softmax_part {C N : Type} [Fintype C] [Fintype N] (K vK : C → EReal) (R vR : N → EReal) (ok : C → Prop) (win : N → Prop)
    [DecidablePred ok] [DecidablePred win] (i : C → N)
    (hK : ∀ c, ¬ ok c → K c = ⊥) (hR : ∀ n, ¬ win n → R n = ⊥)
    (hi : ∀ c, ok c → win (i c)) (hinj : ∀ c c', ok c → ok c' → i c = i c' → c = c') (hsurj : ∀ n, win n → ∃ c, ok c ∧ i c = n)
    (hs : ∀ c, ok c → K c = R (i c)) (hv : ∀ c, ok c → vK c = vR (i c)) (hreal : ∀ n, win n → IsReal (R n)) (n0 : N) (h0 : win n0) :
    Ideal.div (∑ c, Ideal.exp (K c - Finset.univ.fold max ⊥ K) * vK c) (∑ c, Ideal.exp (K c - Finset.univ.fold max ⊥ K))
      = ∑ n, (if win n then Ideal.div (Ideal.exp (R n - Finset.univ.fold max ⊥ R)) (∑ n, Ideal.exp (R n - Finset.univ.fold max ⊥ R)) else 0) * vR n := by
  have hM : Finset.univ.fold max ⊥ K = Finset.univ.fold max ⊥ R := by
    refine le_antisymm ?_ ?_
    · rw [Finset.fold_max_le]
      refine ⟨bot_le, fun c _ => ?_⟩
      by_cases h : ok c
      · rw [hs c h, Finset.le_fold_max]; exact Or.inr ⟨i c, Finset.mem_univ _, le_refl _⟩
      · rw [hK c h]; exact bot_le
    · rw [Finset.fold_max_le]
      refine ⟨bot_le, fun n _ => ?_⟩
      by_cases h : win n
      · obtain ⟨c, hc, rfl⟩ := hsurj n h
        rw [← hs c hc, Finset.le_fold_max]; exact Or.inr ⟨c, Finset.mem_univ _, le_refl _⟩
      · rw [hR n h]; exact bot_le
  rw [hM]
  obtain ⟨M, hMr⟩ : IsReal (Finset.univ.fold max ⊥ R) := by
    have ht : Finset.univ.fold max ⊥ R < ⊤ := by
      rw [Finset.fold_max_lt]
      refine ⟨bot_lt_top, fun n _ => ?_⟩
      by_cases h : win n
      · obtain ⟨r, hr⟩ := hreal n h
        rw [hr]; exact EReal.coe_lt_top r
      · rw [hR n h]; exact bot_lt_top
    have hb : ⊥ < Finset.univ.fold max ⊥ R := by
      obtain ⟨r, hr⟩ := hreal n0 h0
      refine lt_of_lt_of_le (EReal.bot_lt_coe r) ?_
      rw [← hr, Finset.le_fold_max]
      exact Or.inr ⟨n0, Finset.mem_univ _, le_refl _⟩
    exact ⟨_, (EReal.coe_toReal ht.ne hb.ne').symm⟩
  rw [hMr]
  have z1 : ∀ c, ¬ ok c → Ideal.exp (K c - (M : EReal)) = 0 := fun c h => by
    rw [hK c h, sub_eq_add_neg, EReal.bot_add]; simp
  have z2 : ∀ n, ¬ win n → Ideal.exp (R n - (M : EReal)) = 0 := fun n h => by
    rw [hR n h, sub_eq_add_neg, EReal.bot_add]; simp
  have move : ∀ (f : C → EReal) (g : N → EReal), (∀ c, ¬ ok c → f c = 0) → (∀ n, ¬ win n → g n = 0) → (∀ c, ok c → f c = g (i c)) → ∑ c, f c = ∑ n, g n := by
    intro f g hf hg hfg
    have e1 : ∑ c, f c = ∑ c ∈ Finset.univ.filter ok, f c :=
      (Finset.sum_filter_of_ne fun c _ hne => by by_contra h; exact hne (hf c h)).symm
    have e2 : ∑ n, g n = ∑ n ∈ Finset.univ.filter win, g n :=
      (Finset.sum_filter_of_ne fun n _ hne => by by_contra h; exact hne (hg n h)).symm
    rw [e1, e2]
    refine Finset.sum_nbij i ?_ ?_ ?_ ?_
    · intro c hc; simp only [Finset.mem_filter, Finset.mem_univ, true_and] at hc ⊢; exact hi c hc
    · intro c hc c' hc' e; simp only [Finset.coe_filter, Finset.mem_univ, true_and, Set.mem_setOf_eq] at hc hc'; exact hinj c c' hc hc' e
    · intro n hn; simp only [Finset.coe_filter, Finset.mem_univ, true_and, Set.mem_setOf_eq] at hn
      obtain ⟨c, hc, e⟩ := hsurj n hn
      exact ⟨c, by simpa using hc, e⟩
    · intro c hc; simp only [Finset.mem_filter, Finset.mem_univ, true_and] at hc; exact hfg c hc
  have hden : ∑ c, Ideal.exp (K c - (M : EReal)) = ∑ n, Ideal.exp (R n - (M : EReal)) :=
    move _ _ z1 z2 fun c h => by rw [hs c h]
  have hnum : ∑ c, Ideal.exp (K c - (M : EReal)) * vK c = ∑ n, Ideal.exp (R n - (M : EReal)) * vR n :=
    move _ _ (fun c h => by rw [z1 c h, zero_mul]) (fun n h => by rw [z2 n h, zero_mul]) fun c h => by rw [hs c h, hv c h]
  rw [hden, hnum]
  obtain ⟨l, hl, hL⟩ : ∃ l : ℝ, 0 < l ∧ ∑ n, Ideal.exp (R n - (M : EReal)) = (l : EReal) := by
    have e2 : ∑ n, Ideal.exp (R n - (M : EReal)) = ∑ n ∈ Finset.univ.filter win, Ideal.exp (R n - (M : EReal)) :=
      (Finset.sum_filter_of_ne fun n _ hne => by by_contra h; exact hne (z2 n h)).symm
    rw [e2]
    refine sum_pos_real _ _ (fun n hn => ?_) n0 (by simpa using h0)
    simp only [Finset.mem_filter, Finset.mem_univ, true_and] at hn
    obtain ⟨r, hr⟩ := hreal n hn
    refine ⟨Real.exp (r - M), Real.exp_pos _, ?_⟩
    rw [hr]
    exact (congrArg Ideal.exp (EReal.coe_sub r M).symm).trans (Ideal.exp_coe _)
  rw [hL]
  have hdiv : ∀ x : EReal, Ideal.div x (l : EReal) = x * ((l⁻¹ : ℝ) : EReal) := fun x => by
    unfold Ideal.div
    rw [if_neg (by simpa using hl.ne'), EReal.coe_inv]
  rw [hdiv, sum_mul_real _ _ _ (inv_nonneg.mpr hl.le)]
  refine Finset.sum_congr rfl fun n _ => ?_
  by_cases h : win n
  · rw [if_pos h, hdiv, mul_right_comm]
  · rw [if_neg h, z2 n h]; simp

end Cert.WinMath

end
-- ==== Proof.Win.Alg.lean ====
/- The window attention's kernel and its reference agree, element by element, where the scores are real numbers. -/
module

public import proofs.«01_k».proof.Proof.Win.Run
public import proofs.«01_k».proof.Proof.Win.Kernel
public import proofs.«01_k».proof.Proof.Win.Table
public import proofs.«01_k».proof.Proof.Win.BucketR
public import proofs.«01_k».proof.Proof.Win.Math

@[expose] public section

set_option maxRecDepth 16384

noncomputable section

namespace Cert.WinIdeal.Alg

open Idealize.ShloMosaic Idealize.ShloMosaic.TcCoe Idealize.ShloMosaic.Tactic
open Cert.WinIdeal.Gen Cert.WinMath
open Cert.WinIdeal.Host (kb argQ argK argB)
open Cert.WinIdeal.Table (kb_lt)
open Cert.WinRefIdeal.Val (sV eV oV mV dV wV bV cV)

abbrev Q := FVec Ideal S2x16384x1024 .f32
abbrev KV := FVec Ideal S2x16384x768 .f32
abbrev RB := FVec Ideal S32x16 .f32

/-- A pair of positions inside the window: the key is not after the query, and less than 512 before it. -/
def win (s n : Fin 16384) : Prop := n.val ≤ s.val ∧ s.val < n.val + 512

instance (s : Fin 16384) : DecidablePred (win s) := fun n => inferInstanceAs (Decidable (_ ∧ _))

/-- A masked score of the reference. -/
def score (q : Q) (kv : KV) (rb : RB) (b k : Fin 2) (g : Fin 8) (s n : Fin 16384) : EReal :=
  if win s n then
    (∑ x : Fin 64, kv (ix3 b n ⟨512 + k.val * 64 + x.val, by omega⟩) * q (ix3 b s ⟨k.val * 512 + g.val * 64 + x.val, by omega⟩)) * ((1 / 8 : ℝ) : EReal)
      + rb (ix2 ⟨kb (s.val - n.val), kb_lt _⟩ ⟨k.val * 8 + g.val, by omega⟩)
  else ⊥

/-- A selection by the bit one. -/
theorem select_one (x y : EReal) : Scalar.select 1#1 x y = x := rfl

/-- A selection by the bit zero. -/
theorem select_zero (x y : EReal) : Scalar.select 0#1 x y = y := rfl

/-- The reference's masked scores. -/
theorem sV_eq (q : Q) (kv : KV) (rb : RB) (b k : Fin 2) (g : Fin 8) (s n : Fin 16384) :
    sV q kv rb (mV dV) (wV (bV (maxsi dV (cV 0#32)))) (ix5 b k g s n) = score q kv rb b k g s n := by
  rw [Cert.WinRefIdeal.Val.sV_at, Cert.WinRefIdeal.Bucket.mask_eq, Cert.WinIdeal.Host.eighth]
  unfold score
  by_cases h : n.val ≤ s.val ∧ s.val < n.val + 512
  · rw [if_pos h, if_pos (show win s n from h)]
    refine (select_one _ _).trans ?_
    refine congrArg (_ + ·) (congrArg (fun z => rb (ix2 z _)) (Fin.ext ?_))
    exact Cert.WinRefIdeal.Bucket.row_eq s n h (kb_lt _)
  · rw [if_neg h, if_neg (show ¬ win s n from h)]
    exact select_zero _ _

/-- The reference's result: the softmax of the masked scores, weighting the values. -/
theorem oV_eq (q : Q) (kv : KV) (rb : RB) (b k : Fin 2) (g : Fin 8) (s : Fin 16384) (e : Fin 64) :
    oV kv (mV dV) (eV (sV q kv rb (mV dV) (wV (bV (maxsi dV (cV 0#32)))))) (ix5 b k g s e)
      = ∑ n, (if win s n then Ideal.div (Ideal.exp (score q kv rb b k g s n - Finset.univ.fold max ⊥ (score q kv rb b k g s)))
            (∑ n, Ideal.exp (score q kv rb b k g s n - Finset.univ.fold max ⊥ (score q kv rb b k g s))) else 0)
          * kv (ix3 b n ⟨640 + k.val * 64 + e.val, by omega⟩) := by
  have hf : (fun n : Fin 16384 => sV q kv rb (mV dV) (wV (bV (maxsi dV (cV 0#32)))) (ix5 b k g s n)) = score q kv rb b k g s :=
    funext fun n => sV_eq q kv rb b k g s n
  have he : ∀ n, eV (sV q kv rb (mV dV) (wV (bV (maxsi dV (cV 0#32))))) (ix5 b k g s n)
      = Ideal.exp (score q kv rb b k g s n - Finset.univ.fold max ⊥ (score q kv rb b k g s)) := fun n => by
    rw [Cert.WinRefIdeal.Val.eV_at, hf, sV_eq]
  rw [Cert.WinRefIdeal.Val.oV_at]
  simp only [he]
  refine Finset.sum_congr rfl fun n _ => ?_
  rw [Cert.WinRefIdeal.Bucket.mask_eq]
  by_cases h : n.val ≤ s.val ∧ s.val < n.val + 512
  · rw [if_pos h, if_pos (show win s n from h), select_one]
  · rw [if_neg h, if_neg (show ¬ win s n from h), select_zero]

/-- The key of a kernel's column, at a block of queries. -/
def keyOf (s : Fin 16384) (col : Fin 640) : Fin 16384 := ⟨128 * (s.val / 128) + col.val - 512, by omega⟩

/-- A kernel's column that holds a key of the window. -/
def okCol (s : Fin 16384) (col : Fin 640) : Prop := 512 ≤ 128 * (s.val / 128) + col.val ∧ col.val ≤ s.val % 128 + 512 ∧ s.val % 128 < col.val

instance (s : Fin 16384) : DecidablePred (okCol s) := fun n => inferInstanceAs (Decidable (_ ∧ _))

/-- The kernel's attention over its columns is the reference's over the keys. -/
theorem att_eq (q : Q) (kv : KV) (rb : RB) (b k : Fin 2) (g : Fin 8) (s : Fin 16384) (e : Fin 64)
    (hq : ∀ i, IsReal (q i)) (hk : ∀ n (x : Fin 128), IsReal (kv (ix3 b n ⟨512 + x.val, by omega⟩))) (hb : ∀ i, IsReal (rb i))
    (q' : Fin 64 → EReal) (k' : Fin 640 → Fin 64 → EReal) (v' tb : Fin 640 → EReal)
    (eq : ∀ d, q' d = q (ix3 b s ⟨(k.val * 8 + g.val) * 64 + d.val, by omega⟩) * ((1 / 8 : ℝ) : EReal))
    (ek : ∀ col d, okCol s col → k' col d = kv (ix3 b (keyOf s col) ⟨(4 * 2 + k.val) * 64 + d.val, by omega⟩))
    (ev : ∀ col, okCol s col → v' col = kv (ix3 b (keyOf s col) ⟨(5 * 2 + k.val) * 64 + e.val, by omega⟩))
    (et : ∀ col, tb col = if col.val ≤ s.val % 128 + 512 ∧ s.val % 128 < col.val then
        rb (ix2 ⟨kb (s.val % 128 + 512 - col.val), kb_lt _⟩ ⟨k.val * 8 + g.val, by omega⟩) else ⊥) :
    Kernel.att (s.val / 128) q' k' v' tb
      = oV kv (mV dV) (eV (sV q kv rb (mV dV) (wV (bV (maxsi dV (cV 0#32)))))) (ix5 b k g s e) := by
  rw [oV_eq]
  unfold Kernel.att
  refine softmax_part (Kernel.sc (s.val / 128) q' k' tb) v' (score q kv rb b k g s) (fun n => kv (ix3 b n ⟨640 + k.val * 64 + e.val, by omega⟩))
    (okCol s) (win s) (keyOf s) ?_ ?_ ?_ ?_ ?_ ?_ ?_ ?_ s ?_
  · intro col h
    unfold Kernel.sc
    by_cases h1 : 512 ≤ 128 * (s.val / 128) + col.val
    · rw [if_pos h1, et, if_neg (fun h2 => h ⟨h1, h2⟩), EReal.add_bot]
    · rw [if_neg h1]
  · intro n h
    unfold score
    rw [if_neg h]
  · intro col h
    unfold okCol at h
    unfold win keyOf
    simp only
    omega
  · intro c c' h h' e
    have := congrArg Fin.val e
    unfold okCol at h h'
    unfold keyOf at this
    simp only at this
    exact Fin.ext (by omega)
  · intro n h
    unfold win at h
    refine ⟨⟨n.val + 512 - 128 * (s.val / 128), by omega⟩, ?_, ?_⟩
    · unfold okCol; simp only; omega
    · unfold keyOf; exact Fin.ext (by simp only; omega)
  · intro col h
    have h' := h
    unfold okCol at h'
    have hw : win s (keyOf s col) := by unfold win keyOf; simp only; omega
    unfold Kernel.sc score
    rw [if_pos h.1, if_pos hw, et, if_pos h.2, sum_mul_real _ _ _ (by norm_num)]
    refine congrArg₂ (· + ·) (Finset.sum_congr rfl fun d _ => ?_) ?_
    · rw [eq, ek _ _ h, mul_right_comm, mul_comm (q _)]
      refine congrArg (· * _) (congrArg₂ (· * ·) (congrArg (fun z => kv (ix3 b _ z)) (Fin.ext ?_)) (congrArg (fun z => q (ix3 b s z)) (Fin.ext ?_)))
      · simp only; omega
      · simp only; omega
    · refine congrArg (fun z => rb (ix2 z _)) (Fin.ext ?_)
      simp only
      refine congrArg kb ?_
      unfold keyOf; simp only; omega
  · intro col h
    rw [ev _ h]
    refine congrArg (fun z => kv (ix3 b _ z)) (Fin.ext ?_)
    simp only; omega
  · intro n h
    unfold score
    rw [if_pos h]
    refine IsReal.add (IsReal.mul (isReal_sum _ _ fun x _ => IsReal.mul ?_ (hq _)) ⟨1 / 8, rfl⟩) (hb _)
    have := hk n ⟨k.val * 64 + x.val, by omega⟩
    simp only [← Nat.add_assoc] at this
    exact this
  · unfold win; omega

variable (m : (ℓ : Loc nD τ sig) → Buf (Elt Ideal) ℓ) (ρ : Dev nD → PrngReg)

/-- The kernel's result is the reference's, of the same arguments. -/
theorem result_eq (c : Dev nD) (hq : ∀ i, IsReal (argQ m c i)) (hk : ∀ b n (x : Fin 128), IsReal (argK m c (ix3 b n ⟨512 + x.val, by omega⟩)))
    (hb : ∀ i, IsReal (argB m c i)) :
    Gen.W10 m ρ c (Proc.devRef .tc main_v116)
      = (oV (argK m c) (mV dV) (eV (sV (argQ m c) (argK m c) (argB m c) (mV dV) (wV (bV (maxsi dV (cV 0#32)))))) : S2x2x8x16384x64.Idx → EReal) := by
  refine ((W10_arr m ρ c 4).trans (Kernel.arr_eq (V9 m ρ) c)).trans ?_
  funext i
  have hi : i = ix5 (i 0) (i 1) (i 2) (i 3) (i 4) := by
    funext a
    match a with
    | ⟨0, _⟩ => rfl
    | ⟨1, _⟩ => rfl
    | ⟨2, _⟩ => rfl
    | ⟨3, _⟩ => rfl
    | ⟨4, _⟩ => rfl
  generalize h0 : i 0 = b at hi
  generalize h1 : i 1 = k at hi
  generalize h2 : i 2 = g at hi
  generalize h3 : i 3 = s at hi
  generalize h4 : i 4 = e at hi
  subst hi
  show Kernel.att (s.val / 128) _ _ _ _ = _
  refine att_eq (argQ m c) (argK m c) (argB m c) b k g s e hq (hk b) hb _ _ _ _ ?_ ?_ ?_ ?_
  · intro d
    exact Host.q_at m ρ c b k g s d
  · intro col d h
    exact (Host.k_at m ρ c b k _ d).trans (dif_pos h.1)
  · intro col h
    exact (Host.v_at m ρ c b k _ e).trans (dif_pos h.1)
  · intro col
    exact Table.tab_at m ρ c k g ⟨s.val % 128, by omega⟩ col

end Cert.WinIdeal.Alg

end
-- ==== Proof.Win.Pre.lean ====
/- The window attention's precondition, read back: the queries, the keys and the biases are real numbers. -/
module

public import proofs.«01_k».proof.Defs
public import proofs.«01_k».proof.Proof.Gen.Pre_finite_scores
public import proofs.«01_k».proof.Proof.Win.Math
public import Idealize.ShloMosaic.Lib.ReduceAll
public import Idealize.ShloMosaic.Lib.ValueIdx
public import Idealize.ShloMosaic.Lib.Pointwise

@[expose] public section

set_option maxRecDepth 16384

noncomputable section

namespace Cert.WinPre

open Idealize.ShloMosaic Idealize.ShloMosaic.TcCoe Idealize.ShloMosaic.Tactic
open Cert.Pre_finite_scores Cert.WinMath

/-- The word of infinity. -/
theorem ofBits_inf : Ideal.ofBits .f32 0x7F800000#32 = (⊤ : EReal) := by
  first | rfl | decide | simp [Ideal.ofBits, Ideal.ieee]

/-- A number whose size is below infinity is a real number. -/
theorem isReal_of_test (x : EReal) (h : Ideal.cmp .olt (max x (-x)) (Ideal.ofBits .f32 0x7F800000#32) = 1#1) : IsReal x := by
  rw [ofBits_inf] at h
  induction x using EReal.rec with
  | bot => exact absurd h (by simp [Ideal.cmp])
  | top => exact absurd h (by simp [Ideal.cmp])
  | coe r => exact ⟨r, rfl⟩

instance : Subsingleton S_.Idx := ⟨fun i j => funext fun a => a.elim0⟩

/-- What the precondition says of the three arrays. -/
theorem of_fn (q : FVec Ideal S2x16384x1024 .f32) (kv : FVec Ideal S2x16384x768 .f32) (rb : FVec Ideal S32x16 .f32)
    (h : Cert.Pre_finite_scores.fn (F := Ideal) q kv rb = fun _ => 1#1) :
    (∀ i, IsReal (q i)) ∧ (∀ b n (x : Fin 128), IsReal (kv (ix3 b n ⟨512 + x.val, by omega⟩))) ∧ ∀ i, IsReal (rb i) := by
  have h0 := congrFun h ix0
  obtain ⟨h1, h3⟩ := IntOp.andi_eq_one.1 h0
  obtain ⟨h1, h2⟩ := IntOp.andi_eq_one.1 h1
  refine ⟨fun i => ?_, fun b n x => ?_, fun i => ?_⟩
  · exact isReal_of_test _ (Host.reduce_andi_all _ _ _ _ _ h1 i)
  · have := Host.reduce_andi_all _ _ _ _ _ h2 (ix3 b n x)
    refine isReal_of_test _ (Eq.trans (congrArg (fun z => Ideal.cmp .olt (max (kv z) (-(kv z))) _) ?_) this)
    funext a
    refine Fin.ext ?_
    match a with
    | ⟨0, _⟩ => simp
    | ⟨1, _⟩ => simp
    | ⟨2, _⟩ => simp
  · exact isReal_of_test _ (Host.reduce_andi_all _ _ _ _ _ h3 i)

end Cert.WinPre

end
-- ==== Proof.Win.Claims.lean ====
/- The window attention's claims. -/
module

public import proofs.«01_k».proof.Defs
public import proofs.«01_k».proof.Proof.Gen.Win.Frame
public import proofs.«01_k».proof.Proof.Win.Alg
public import proofs.«01_k».proof.Proof.Win.Pre
public import Idealize.ShloMosaic.Lib.Quiescent

@[expose] public section

set_option maxRecDepth 16384

noncomputable section

namespace Cert.WinClaims

open Idealize.ShloMosaic Idealize.ShloMosaic.TcCoe Idealize.SL.Sem

/-- The reference runs, keeps its arguments, and ends with its counters at zero. -/
theorem frame_ref (m : (ℓ : Loc WinRefIdeal.nD WinRefIdeal.τ WinRefIdeal.sig) → Buf (Elt Ideal) ℓ) (g : Dev WinRefIdeal.nD → PrngReg) :
    θ_run (WinRefIdeal.defs (F := Ideal)) (onTc (τ := WinRefIdeal.τ) (WinRefIdeal.main (F := Ideal))) ⟨m, fun _ => 0, g⟩ (fun r => (∀ c : Dev WinRefIdeal.nD,
      r.2.mem ((c.tc : Thread WinRefIdeal.nD WinRefIdeal.τ).loc WinRefIdeal.main_arg0) = m ((c.tc : Thread WinRefIdeal.nD WinRefIdeal.τ).loc WinRefIdeal.main_arg0)
      ∧ r.2.mem ((c.tc : Thread WinRefIdeal.nD WinRefIdeal.τ).loc WinRefIdeal.main_arg1) = m ((c.tc : Thread WinRefIdeal.nD WinRefIdeal.τ).loc WinRefIdeal.main_arg1)
      ∧ r.2.mem ((c.tc : Thread WinRefIdeal.nD WinRefIdeal.τ).loc WinRefIdeal.main_arg2) = m ((c.tc : Thread WinRefIdeal.nD WinRefIdeal.τ).loc WinRefIdeal.main_arg2))
      ∧ r.2.sem = fun _ => 0) :=
  (θ_run _ _ _).mono (fun r h => ⟨fun c => (h c).2, sem_eq_zero_of_no_sems (by decide) _⟩) (Cert.WinRefIdeal.Value.run (F := Ideal) m g)

/-- The mask's constant stands for minus infinity. -/
theorem preserves : Cert.preserves_Win_WinIdeal :=
  IdealRules.named_const.statement _ _ _ _ _ (by first | rfl | decide | simp [Cert.WinIdeal.κ])

/-- The kernel and the reference end with equal results. -/
theorem algebraic : Cert.algebraic_WinIdeal_WinRefIdeal_pre_finite_scores
    (hWinIdeal := Cert.WinIdeal.Gen.facts) (hWinRefIdeal := Cert.WinRefIdeal.Gen.facts) (hPre_finite_scores := Cert.Pre_finite_scores.Gen.facts) := by
  intro m g m' g' hp ha
  refine ⟨fun c => Cert.WinIdeal.Gen.W10 m g c (Proc.devRef .tc Cert.WinIdeal.main_v116), Cert.WinIdeal.Run.run (F := Ideal) m g, ?_⟩
  refine (θ_run _ _ _).mono (fun r h c => ⟨(h c).1.trans ?_, (h c).2⟩) (Cert.WinRefIdeal.Value.run (F := Ideal) m' g')
  obtain ⟨hq, hk, hb⟩ := Cert.WinPre.of_fn _ _ _ (hp c)
  obtain ⟨a0, a1, a2⟩ := ha c
  refine (Cert.WinRefIdeal.Val.res_eq m' c).trans ?_
  rw [a0, a1, a2]
  exact (Cert.WinIdeal.Alg.result_eq m g c hq hk hb).symm

end Cert.WinClaims

end
-- ==== Proof.Mix.Math.lean ====
/- The arithmetic of the output projection that the kernel and the reference share, and the sum by which the kernel expands its gates. -/
module

public import Idealize.ShloMosaic.Lib.Pointwise

@[expose] public section

set_option maxRecDepth 16384

noncomputable section

namespace Cert.MixMath

open Idealize.ShloMosaic

/-- A token's attention at a channel: the three branches weighted by their gates. -/
def att (g0 g1 g2 o0 o1 o2 : EReal) : EReal := g0 * o0 + g1 * o1 + g2 * o2

/-- A row divided by its root mean square and weighted. -/
def nrm (a an : Fin 1024 → EReal) (k : Fin 1024) : EReal :=
  a k * Ideal.rsqrt (Ideal.div (∑ x, a x * a x) (Ideal.ofBits FTy.f32 1149239296#32) + Ideal.ofBits FTy.f32 897988541#32) * an k

/-- An element of the result: the residual and the gated projection of the normalised attention and of the state-space branch. -/
def out (x g1 : EReal) (a an s w0 w1 : Fin 1024 → EReal) : EReal :=
  x + g1 * (∑ k, nrm a an k * w0 k + ∑ k, s k * w1 k)

/-- A logistic is a real number. -/
theorem logistic_real (x : EReal) : ∃ r : ℝ, Ideal.logistic x = (r : EReal) := by
  induction x with
  | bot => exact ⟨0, by simp⟩
  | top => exact ⟨1, by simp⟩
  | coe r => exact ⟨_, Ideal.logistic_coe r⟩

/-- A logistic less itself is zero. -/
theorem logistic_sub (x : EReal) : Ideal.logistic x - Ideal.logistic x = 0 := by
  obtain ⟨r, hr⟩ := logistic_real x
  rw [hr, ← EReal.coe_sub, sub_self, EReal.coe_zero]

/-- The three pieces of a gate against a row of the table of zeros and ones leave the one gate the row selects. -/
theorem sum_pieces (v : Fin 128 → EReal) (e : Fin 384 → EReal) (j : Fin 128) (he : ∀ l, e l = if l.val % 128 = j.val then 1 else 0) :
    (∑ x : Fin 384, (if h : x.val < 128 then Ideal.logistic (v ⟨x.val, h⟩)
      else if h : x.val - 128 < 128 then Ideal.logistic (v ⟨x.val - 128, h⟩) - Ideal.logistic (v ⟨x.val - 128, h⟩)
      else Ideal.logistic (v ⟨x.val - 128 - 128, by omega⟩) - Ideal.logistic (v ⟨x.val - 128 - 128, by omega⟩)
        - (Ideal.logistic (v ⟨x.val - 128 - 128, by omega⟩) - Ideal.logistic (v ⟨x.val - 128 - 128, by omega⟩))) * e x)
      = Ideal.logistic (v j) := by
  simp only [logistic_sub, sub_zero, dite_eq_ite, ite_self, he]
  rw [Finset.sum_eq_single (⟨j.val, by omega⟩ : Fin 384)]
  · rw [dif_pos j.isLt, if_pos (Nat.mod_eq_of_lt j.isLt), mul_one]
  · intro x _ hx
    by_cases h : x.val < 128
    · rw [if_neg, mul_zero]
      rw [Nat.mod_eq_of_lt h]
      exact fun hh => hx (Fin.ext hh)
    · rw [dif_neg h, zero_mul]
  · exact fun h => absurd (Finset.mem_univ _) h

/-- A sum over 2048 channels is the sum over the first 1024 and the sum over the rest. -/
theorem sum_split (f : Fin 2048 → EReal) : ∑ k, f k = ∑ k : Fin 1024, f ⟨k.val, by omega⟩ + ∑ k : Fin 1024, f ⟨1024 + k.val, by omega⟩ :=
  Fin.sum_univ_add (a := 1024) (b := 1024) f

end Cert.MixMath

end
-- ==== Proof.Mix.Kernel.lean ====
/- What the output-projection launch of the idealized kernel leaves in its result array, element by element. -/
module

public import proofs.«01_k».proof.Proof.Gen.MixIdeal.Value
public import proofs.«01_k».proof.Proof.Mix.Math
public import Idealize.ShloMosaic.Lib.Pointwise
public import Idealize.ShloMosaic.Lib.Pipeline.ValueKit
public import Idealize.ShloMosaic.Lib.Pipeline.Covers
public import Idealize.ShloMosaic.Lib.StableHlo.ReadAt
public import Idealize.ShloMosaic.Lib.Tactic.WordOmega

@[expose] public section

set_option maxRecDepth 16384

noncomputable section

namespace Cert.MixIdeal.Kernel

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Cert.MixIdeal.Gen

/-- The kernel's gated attention of one block, at an element, when the gates' tables select the channels `3 h + p` of head `h`. -/
theorem pay2_at (v0 : Vec Ideal S1x512x128 .f32) (v11 v14 v17 : Vec Ideal S1x384x1024 .bf16) (v20 v23 v27 : Vec Ideal S1x512x1024 .f32) (r : Fin 512) (k : Fin 1024)
    (h0 : ∀ l, v11 (ix3 0 l k) = if l.val % 128 = 3 * (k.val / 64) + 0 then (1 : EReal) else 0)
    (h1 : ∀ l, v14 (ix3 0 l k) = if l.val % 128 = 3 * (k.val / 64) + 1 then (1 : EReal) else 0)
    (h2 : ∀ l, v17 (ix3 0 l k) = if l.val % 128 = 3 * (k.val / 64) + 2 then (1 : EReal) else 0) :
    k0_pay2 (F := Ideal) v0 v11 v14 v17 v20 v23 v27 (ix2 r k)
      = MixMath.att (Ideal.logistic (v0 (ix3 0 r ⟨3 * (k.val / 64) + 0, by omega⟩))) (Ideal.logistic (v0 (ix3 0 r ⟨3 * (k.val / 64) + 1, by omega⟩)))
          (Ideal.logistic (v0 (ix3 0 r ⟨3 * (k.val / 64) + 2, by omega⟩))) (v20 (ix3 0 r k)) (v23 (ix3 0 r k)) (v27 (ix3 0 r k)) := by
  unfold k0_pay2 MixMath.att
  pointwise
  have E0 := MixMath.sum_pieces (fun l => v0 (ix3 0 r l)) (fun l => v11 (ix3 0 l k)) ⟨3 * (k.val / 64) + 0, by omega⟩ h0
  have E1 := MixMath.sum_pieces (fun l => v0 (ix3 0 r l)) (fun l => v14 (ix3 0 l k)) ⟨3 * (k.val / 64) + 1, by omega⟩ h1
  have E2 := MixMath.sum_pieces (fun l => v0 (ix3 0 r l)) (fun l => v17 (ix3 0 l k)) ⟨3 * (k.val / 64) + 2, by omega⟩ h2
  exact congrArg₂ (fun a b : EReal => a + b) (congrArg₂ (fun a b : EReal => a + b) (congrArg (fun z : EReal => z * v20 (ix3 0 r k)) E0)
    (congrArg (fun z : EReal => z * v23 (ix3 0 r k)) E1)) (congrArg (fun z : EReal => z * v27 (ix3 0 r k)) E2)

/-- The kernel's sum of squares of one block, at a row. -/
theorem pay3_at (v0 : Vec Ideal S1x512x128 .f32) (v11 v14 v17 : Vec Ideal S1x384x1024 .bf16) (v20 v23 v27 : Vec Ideal S1x512x1024 .f32) (r : Fin 512) :
    k0_pay3 (F := Ideal) v0 v11 v14 v17 v20 v23 v27 (ix1 r)
      = ∑ x, k0_pay2 (F := Ideal) v0 v11 v14 v17 v20 v23 v27 (ix2 r x) * k0_pay2 (F := Ideal) v0 v11 v14 v17 v20 v23 v27 (ix2 r x) := by
  unfold k0_pay3
  generalize k0_pay2 (F := Ideal) v0 v11 v14 v17 v20 v23 v27 = P
  pointwise

/-- The kernel's result of one block, at an element. -/
theorem pay1_at (v30 : FVec Ideal S512x1024 .f32) (v32 : FVec Ideal S512 .f32) (v41 : Vec Ideal S1x1024 .f32) (v46 : Vec Ideal S1024x2048 .bf16) (v49 : Vec Ideal S1x512x1024 .f32) (v52 : Vec Ideal S1024x2048 .bf16) (v56 : Vec Ideal S1x512x2048 .f32) (v58 : Vec Ideal S1x1x2048 .f32)
    (j : S1x512x2048.Idx) (h : v32 (ix1 (j 1)) = ∑ x : Fin 1024, v30 (ix2 (j 1) x) * v30 (ix2 (j 1) x)) :
    k0_pay1 (F := Ideal) v30 v32 v41 v46 v49 v52 v56 v58 j
      = MixMath.out (v56 j) (v58 (ix3 0 0 (j 2))) (fun k => v30 (ix2 (j 1) k)) (fun k => v41 (ix2 0 k)) (fun k => v49 (ix3 0 (j 1) k))
          (fun k => v46 (ix2 k (j 2))) (fun k => v52 (ix2 k (j 2))) := by
  unfold k0_pay1 MixMath.out MixMath.nrm
  rw [← h]
  pointwise

variable (m : (ℓ : Loc nD τ sig) → Buf (Elt Ideal) ℓ)

/-- The word test of the gates' table. -/
theorem table_word (a h p : ℕ) (ha : a < 128) (hh : h < 16) (hp : p < 3) :
    (FloatOps.uitofp (F := Ideal) FTy.bf16 (IntOp.cmpi CmpIPredicate.eq (BitVec.ofNat 32 a)
        (IntOp.addi (IntOp.muli (3#32) (BitVec.ofNat 32 h)) (BitVec.ofNat 32 p))) : EReal) = if a = 3 * h + p then 1 else 0 := by
  have e : (IntOp.addi (IntOp.muli (3#32) (BitVec.ofNat 32 h)) (BitVec.ofNat 32 p) : BitVec 32) = BitVec.ofNat 32 (3 * h + p) := by
    unfold IntOp.addi IntOp.muli
    apply BitVec.eq_of_toNat_eq
    simp only [BitVec.toNat_add, BitVec.toNat_mul, BitVec.toNat_ofNat]
    omega
  rw [e]
  unfold IntOp.cmpi
  by_cases hc : a = 3 * h + p
  · rw [if_pos hc, hc, beq_self_eq_true]
    show (((1#1 : BitVec 1).toNat : ℝ) : EReal) = 1
    simp
  · have hne : BitVec.ofNat 32 a ≠ BitVec.ofNat 32 (3 * h + p) := by
      intro hb
      have := congrArg BitVec.toNat hb
      simp only [BitVec.toNat_ofNat] at this
      omega
    rw [if_neg hc, beq_false_of_ne hne]
    show (((0#1 : BitVec 1).toNat : ℝ) : EReal) = 0
    simp

/-- The gates' table as the launch finds it. -/
theorem ex_at (c : Dev nD) (p : Fin 3) (l : Fin 384) (k : Fin 1024) :
    V m c main_v9 (ix3 p l k) = (if l.val % 128 = 3 * (k.val / 64) + p.val then 1 else 0 : EReal) := by
  unfold V
  after_reads_at
  exact table_word _ _ _ (by omega) (by omega) p.isLt

/-- The weights as the launch finds them. -/
theorem w_at (c : Dev nD) (i j : Fin 2048) : V m c main_v0 (ix2 i j) = (m ((c : Thread nD τ).loc main_arg6) : S2048x2048.Idx → EReal) (ix2 i j) := by
  unfold V
  after_reads_at

/-- The norm's weights as the launch finds them. -/
theorem an_at (c : Dev nD) (k : Fin 1024) : V m c main_v10 (ix2 0 k) = (m ((c : Thread nD τ).loc main_arg4) : S1024.Idx → EReal) (ix1 k) := by
  unfold V
  after_reads_at

/-- The blocks each window reads or writes at a grid point. -/
theorem index0 : ∀ t : Fin grid0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 22]
    ∧ win0_4.index t = ![0, 0, 0]
    ∧ win0_5.index t = ![0, 0]
    ∧ win0_6.index t = ![(grid0.coords t 0).val, (grid0.coords t 1).val, 0]
    ∧ win0_7.index t = ![0, 0]
    ∧ win0_8.index t = ![(grid0.coords t 0).val, (grid0.coords t 1).val, 0]
    ∧ win0_9.index t = ![(grid0.coords t 0).val, 0, 0]
    ∧ win0_10.index t = ![(grid0.coords t 0).val, (grid0.coords t 1).val, 0] := by
  decide +kernel

/-- A channel of the gated attention, from the arrays the launch reads. -/
def att (c : Dev nD) (b : Fin 2) (s : Fin 16384) (k : Fin 1024) : EReal :=
  MixMath.att (Ideal.logistic (V m c main_arg3 (ix3 b s ⟨2816 + (3 * (k.val / 64) + 0), by omega⟩))) (Ideal.logistic (V m c main_arg3 (ix3 b s ⟨2816 + (3 * (k.val / 64) + 1), by omega⟩)))
    (Ideal.logistic (V m c main_arg3 (ix3 b s ⟨2816 + (3 * (k.val / 64) + 2), by omega⟩))) (V m c main_arg0 (ix3 b s k)) (V m c main_arg1 (ix3 b s k)) (V m c main_arg2 (ix3 b s k))

/-- The launch's result at an index, from the arrays it reads. -/
def G (c : Dev nD) : S2x16384x2048.Idx → EReal := fun i =>
  MixMath.out (V m c main_arg7 i) (V m c main_arg8 (ix3 (i 0) 0 (i 2))) (fun k => att m c (i 0) (i 1) k) (fun k => V m c main_v10 (ix2 0 k))
    (fun k => V m c main_arg5 (ix3 (i 0) (i 1) k)) (fun k => V m c main_v0 (ix2 ⟨k.val, by omega⟩ (i 2))) (fun k => V m c main_v0 (ix2 ⟨1024 + k.val, by omega⟩ (i 2)))

/-- A block of an attention branch, at an element. -/
theorem blk0_at (c : Dev nD) (t : Fin cfg0.N) (r : Fin 512) (k : Fin 1024) (b : Fin 2) (s : Fin 16384)
    (h0 : b.val = (grid0.coords t 0).val) (h1 : s.val = (grid0.coords t 1).val * 512 + r.val) :
    iblk m c 0 t (ix3 0 r k) = V m c main_arg0 (ix3 b s k) := by
  obtain ⟨e0, e1, e2, e3, e4, e5, e6, e7, e8, e9, e10⟩ := index0 t
  blk_ext [iblk, e0]

/-- A block of an attention branch, at an element. -/
theorem blk1_at (c : Dev nD) (t : Fin cfg0.N) (r : Fin 512) (k : Fin 1024) (b : Fin 2) (s : Fin 16384)
    (h0 : b.val = (grid0.coords t 0).val) (h1 : s.val = (grid0.coords t 1).val * 512 + r.val) :
    iblk m c 1 t (ix3 0 r k) = V m c main_arg1 (ix3 b s k) := by
  obtain ⟨e0, e1, e2, e3, e4, e5, e6, e7, e8, e9, e10⟩ := index0 t
  blk_ext [iblk, e1]

/-- A block of an attention branch, at an element. -/
theorem blk2_at (c : Dev nD) (t : Fin cfg0.N) (r : Fin 512) (k : Fin 1024) (b : Fin 2) (s : Fin 16384)
    (h0 : b.val = (grid0.coords t 0).val) (h1 : s.val = (grid0.coords t 1).val * 512 + r.val) :
    iblk m c 2 t (ix3 0 r k) = V m c main_arg2 (ix3 b s k) := by
  obtain ⟨e0, e1, e2, e3, e4, e5, e6, e7, e8, e9, e10⟩ := index0 t
  blk_ext [iblk, e2]

/-- A block of the gates' channels, at an element. -/
theorem blk3_at (c : Dev nD) (t : Fin cfg0.N) (r : Fin 512) (l : Fin 128) (b : Fin 2) (s : Fin 16384) (n : Fin 4608)
    (h0 : b.val = (grid0.coords t 0).val) (h1 : s.val = (grid0.coords t 1).val * 512 + r.val) (h2 : n.val = 2816 + l.val) :
    iblk m c 3 t (ix3 0 r l) = V m c main_arg3 (ix3 b s n) := by
  obtain ⟨e0, e1, e2, e3, e4, e5, e6, e7, e8, e9, e10⟩ := index0 t
  blk_ext [iblk, e3]

/-- A load of the gates' table, at an element. -/
theorem blk4_at (c : Dev nD) (t : Fin cfg0.N) (p : Fin 3) (h) (l : Fin 384) (k : Fin 1024) :
    View.ld (iblk m c 4 t) (Rect.unit (s := S3x384x1024) ![p.val, 0, 0] S1x384x1024.size h) (ix3 0 l k)
      = if l.val % 128 = 3 * (k.val / 64) + p.val then (1 : EReal) else 0 := by
  obtain ⟨e0, e1, e2, e3, e4, e5, e6, e7, e8, e9, e10⟩ := index0 t
  rw [View.ld_apply, ← ex_at m c p l k]
  have hx : (Rect.unit (s := S3x384x1024) ![p.val, 0, 0] S1x384x1024.size h).idx (ix3 0 l k) = ix3 p l k := by
    funext a
    apply Fin.ext
    rw [Rect.idx_unit_val]
    fin_cases a <;> simp
  rw [hx]
  blk_ext [iblk, e4]

/-- The norm's weights in a block, at an element. -/
theorem blk5_at (c : Dev nD) (t : Fin cfg0.N) (k : Fin 1024) : iblk m c 5 t (ix2 0 k) = V m c main_v10 (ix2 0 k) := by
  obtain ⟨e0, e1, e2, e3, e4, e5, e6, e7, e8, e9, e10⟩ := index0 t
  blk_ext [iblk, e5]

/-- A block of the state-space branch, at an element. -/
theorem blk6_at (c : Dev nD) (t : Fin cfg0.N) (r : Fin 512) (k : Fin 1024) (b : Fin 2) (s : Fin 16384)
    (h0 : b.val = (grid0.coords t 0).val) (h1 : s.val = (grid0.coords t 1).val * 512 + r.val) :
    iblk m c 6 t (ix3 0 r k) = V m c main_arg5 (ix3 b s k) := by
  obtain ⟨e0, e1, e2, e3, e4, e5, e6, e7, e8, e9, e10⟩ := index0 t
  blk_ext [iblk, e6]

/-- A load of half of the weights, at an element. -/
theorem blk7_at (c : Dev nD) (t : Fin cfg0.N) (o : ℕ) (h) (k : Fin 1024) (j j' : Fin 2048) (i : Fin 2048) (hi : i.val = o + k.val) (hj : j'.val = j.val) :
    View.ld (iblk m c 7 t) (Rect.unit (s := S2048x2048) ![o, 0] S1024x2048.size h) (ix2 k j) = V m c main_v0 (ix2 i j') := by
  obtain ⟨e0, e1, e2, e3, e4, e5, e6, e7, e8, e9, e10⟩ := index0 t
  rw [View.ld_apply]
  have hx : (Rect.unit (s := S2048x2048) ![o, 0] S1024x2048.size h).idx (ix2 k j) = ix2 i j' := by
    funext a
    apply Fin.ext
    rw [Rect.idx_unit_val]
    fin_cases a <;> simp [hi, hj]
  rw [hx]
  blk_ext [iblk, e7]

/-- A block of the residual, at an element. -/
theorem blk8_at (c : Dev nD) (t : Fin cfg0.N) (y : S1x512x2048.Idx) (J : S2x16384x2048.Idx)
    (h0 : (J 0).val = (grid0.coords t 0).val) (h1 : (J 1).val = (grid0.coords t 1).val * 512 + (y 1).val) (h2 : (J 2).val = (y 2).val) :
    iblk m c 8 t y = V m c main_arg7 J := by
  obtain ⟨e0, e1, e2, e3, e4, e5, e6, e7, e8, e9, e10⟩ := index0 t
  have y0 : (y 0).val < 1 := (y 0).isLt
  blk_ext [iblk, e8]

/-- A block of the output's gate, at an element. -/
theorem blk9_at (c : Dev nD) (t : Fin cfg0.N) (j j' : Fin 2048) (b : Fin 2) (h0 : b.val = (grid0.coords t 0).val) (hj : j'.val = j.val) :
    iblk m c 9 t (ix3 0 0 j) = V m c main_arg8 (ix3 b 0 j') := by
  obtain ⟨e0, e1, e2, e3, e4, e5, e6, e7, e8, e9, e10⟩ := index0 t
  blk_ext [iblk, e9]

/-- The array the launch leaves is `G`. -/
theorem arr_eq (c : Dev nD) : (dats m 0 c).arrAt 10 cfg0.N = G m c := by
  refine (dats m 0 c).arrAt_eq_of_covers 10 _ ((cfg0.win 10).covers_of_indexMap_surj rfl (by decide) fun β => ?_) fun t hf y => ?_
  · have h0 : (β 0).val < 2 := lt_of_lt_of_eq (β 0).isLt (by decide : (cfg0.win 10).nblk 0 = 2)
    have h1 : (β 1).val < 32 := lt_of_lt_of_eq (β 1).isLt (by decide : (cfg0.win 10).nblk 1 = 32)
    have h2 : (β 2).val < 1 := lt_of_lt_of_eq (β 2).isLt (by decide : (cfg0.win 10).nblk 2 = 1)
    obtain ⟨t, ht⟩ := grid0.coords_surjective (fun | 0 => ⟨(β 0).val, h0⟩ | 1 => ⟨(β 1).val, h1⟩)
    have e4 : win0_10.indexMap (grid0.coords t) = _ := (index0 t).2.2.2.2.2.2.2.2.2.2
    refine ⟨grid0.coords t, fun a => ?_⟩
    rw [show (cfg0.win 10).indexMap (grid0.coords t) = _ from e4, ht]
    fin_cases a
    · rfl
    · rfl
    · exact (Nat.lt_one_iff.mp h2).symm
  · obtain ⟨e0, e1, e2, e3, e4, e5, e6, e7, e8, e9, e10⟩ := index0 t
    blk_simp
    rw [after0_10]
    unfold out0_10
    frame_out
    have y0 : (y 0).val < 1 := (y 0).isLt
    have y1 : (y 1).val < 512 := (y 1).isLt
    have y2 : (y 2).val < 2048 := (y 2).isLt
    have hb : (grid0.coords t 0).val < 2 := (grid0.coords t 0).isLt
    have hi : (grid0.coords t 1).val < 32 := (grid0.coords t 1).isLt
    have a0 : ((((View.whole main_v11).slice (win0_10.rect t)).emb y) 0).val = (grid0.coords t 0).val := by
      blk_simp [e10]
    have a1 : ((((View.whole main_v11).slice (win0_10.rect t)).emb y) 1).val = (grid0.coords t 1).val * 512 + (y 1).val := by
      blk_simp [e10]
    have a2 : ((((View.whole main_v11).slice (win0_10.rect t)).emb y) 2).val = (y 2).val := by
      blk_simp [e10]
    refine (pay1_at _ _ _ _ _ _ _ _ y (pay3_at _ _ _ _ _ _ _ (y 1))).trans ?_
    unfold G
    generalize ((View.whole main_v11).slice (win0_10.rect t)).emb y = J at a0 a1 a2 ⊢
    have b1 := fun k => pay2_at (iblk m c 3 t) (View.ld (iblk m c 4 t) r0_1) (View.ld (iblk m c 4 t) r0_2) (View.ld (iblk m c 4 t) r0_3)
        (iblk m c 0 t) (iblk m c 1 t) (iblk m c 2 t) (y 1) k (fun l => blk4_at m c t 0 _ l k) (fun l => blk4_at m c t 1 _ l k) (fun l => blk4_at m c t 2 _ l k)
    have c1 : ∀ k : Fin 1024, k0_pay2 (iblk m c 3 t) (View.ld (iblk m c 4 t) r0_1) (View.ld (iblk m c 4 t) r0_2) (View.ld (iblk m c 4 t) r0_3)
        (iblk m c 0 t) (iblk m c 1 t) (iblk m c 2 t) (ix2 (y 1) k) = att m c (J 0) (J 1) k := by
      intro k
      refine (b1 k).trans ?_
      unfold att
      rw [blk0_at m c t _ _ _ _ a0 a1, blk1_at m c t _ _ _ _ a0 a1, blk2_at m c t _ _ _ _ a0 a1, blk3_at m c t _ _ _ _ ⟨2816 + (3 * (k.val / 64) + 0), by omega⟩ a0 a1 rfl,
        blk3_at m c t _ _ _ _ ⟨2816 + (3 * (k.val / 64) + 1), by omega⟩ a0 a1 rfl, blk3_at m c t _ _ _ _ ⟨2816 + (3 * (k.val / 64) + 2), by omega⟩ a0 a1 rfl]
    have c2 : (fun k : Fin 1024 => k0_pay2 (iblk m c 3 t) (View.ld (iblk m c 4 t) r0_1) (View.ld (iblk m c 4 t) r0_2) (View.ld (iblk m c 4 t) r0_3)
        (iblk m c 0 t) (iblk m c 1 t) (iblk m c 2 t) (ix2 (y 1) k)) = fun k => att m c (J 0) (J 1) k := funext c1
    rw [blk8_at m c t y J a0 a1 a2, blk9_at m c t (y 2) (J 2) (J 0) a0 a2]
    have c3 : (fun k : Fin 1024 => iblk m c 5 t (ix2 0 k)) = fun k => V m c main_v10 (ix2 0 k) := funext fun k => blk5_at m c t k
    have c4 : (fun k : Fin 1024 => iblk m c 6 t (ix3 0 (y 1) k)) = fun k => V m c main_arg5 (ix3 (J 0) (J 1) k) := funext fun k => blk6_at m c t _ k _ _ a0 a1
    have c5 : (fun k : Fin 1024 => View.ld (iblk m c 7 t) r0_6 (ix2 k (y 2))) = fun k => V m c main_v0 (ix2 ⟨k.val, by omega⟩ (J 2)) :=
      funext fun k => blk7_at m c t 0 _ k _ _ _ (Nat.zero_add _).symm a2
    have c6 : (fun k : Fin 1024 => View.ld (iblk m c 7 t) r0_7 (ix2 k (y 2))) = fun k => V m c main_v0 (ix2 ⟨1024 + k.val, by omega⟩ (J 2)) :=
      funext fun k => blk7_at m c t 1024 _ k _ _ _ rfl a2
    exact congr (congr (congr (congr (congrArg (MixMath.out _ _) c2) c3) c4) c5) c6

end Cert.MixIdeal.Kernel

end
-- ==== Proof.Mix.Ref.lean ====
/- The output projection's reference as a composition of named steps, and each step read at an index. -/
module

public import proofs.«01_k».proof.Proof.Gen.MixRefIdeal.Run
public import proofs.«01_k».proof.Proof.Mix.Math
public import Idealize.ShloMosaic.Lib.Pointwise
public import Idealize.ShloMosaic.Lib.Tactic.WordOmega

@[expose] public section

set_option maxRecDepth 16384

noncomputable section

namespace Cert.MixRefIdeal.Val

open Idealize.ShloMosaic Idealize.ShloMosaic.TcCoe Idealize.ShloMosaic.Tactic Idealize.SL.Sem
open Cert.MixRefIdeal Cert.MixRefIdeal.Gen Cert.MixRefIdeal.Value

variable (m : (ℓ : Loc nD τ sig) → Buf (Elt Ideal) ℓ)

/-- The gates. -/
def gV (p : FVec Ideal S2x16384x4608 .f32) : FVec Ideal S2x16384x48 .f32 :=
  Host.divf (broadcastInDim S2x16384x48 ![] bcast_S_S2x16384x48 (constant S_ .f32 0x3F800000#32)) (addf (broadcastInDim S2x16384x48 ![] bcast_S_S2x16384x48 (constant S_ .f32 0x3F800000#32)) (Host.exp (Host.negf (extractStridedSlice S2x16384x48 ![0, 0, 2816] p slices_S2x16384x4608_S2x16384x48_0_0_2816))))

/-- The gated attention. -/
def aV (oc os ow : FVec Ideal S2x16384x1024 .f32) (g : FVec Ideal S2x16384x48 .f32) : FVec Ideal S2x16384x1024 .f32 :=
  shapeCast S2x16384x1024 (addf (addf
    (mulf (broadcastInDim S2x16384x2x8x64 ![0, 1, 2, 3, 4] bcast_S2x16384x2x8x1_S2x16384x2x8x64_0_1_2_3_4 (extractStridedSlice S2x16384x2x8x1 ![0, 0, 0, 0, 0] (shapeCast S2x16384x2x8x3 g shapeCasts_S2x16384x48_S2x16384x2x8x3) slices_S2x16384x2x8x3_S2x16384x2x8x1_0_0_0_0_0)) (shapeCast S2x16384x2x8x64 oc shapeCasts_S2x16384x1024_S2x16384x2x8x64))
    (mulf (broadcastInDim S2x16384x2x8x64 ![0, 1, 2, 3, 4] bcast_S2x16384x2x8x1_S2x16384x2x8x64_0_1_2_3_4 (extractStridedSlice S2x16384x2x8x1 ![0, 0, 0, 0, 1] (shapeCast S2x16384x2x8x3 g shapeCasts_S2x16384x48_S2x16384x2x8x3) slices_S2x16384x2x8x3_S2x16384x2x8x1_0_0_0_0_1)) (shapeCast S2x16384x2x8x64 os shapeCasts_S2x16384x1024_S2x16384x2x8x64)))
    (mulf (broadcastInDim S2x16384x2x8x64 ![0, 1, 2, 3, 4] bcast_S2x16384x2x8x1_S2x16384x2x8x64_0_1_2_3_4 (extractStridedSlice S2x16384x2x8x1 ![0, 0, 0, 0, 2] (shapeCast S2x16384x2x8x3 g shapeCasts_S2x16384x48_S2x16384x2x8x3) slices_S2x16384x2x8x3_S2x16384x2x8x1_0_0_0_0_2)) (shapeCast S2x16384x2x8x64 ow shapeCasts_S2x16384x1024_S2x16384x2x8x64)))
    shapeCasts_S2x16384x2x8x64_S2x16384x1024

/-- The normalised attention. -/
def nV (a : FVec Ideal S2x16384x1024 .f32) (an : FVec Ideal S1024 .f32) : FVec Ideal S2x16384x1024 .f32 :=
  mulf (mulf a (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf a a) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 an))

/-- The result from the normalised attention. -/
def rV (x : FVec Ideal S2x16384x2048 .f32) (g1 : FVec Ideal S2x1x2048 .f32) (n s : FVec Ideal S2x16384x1024 .f32) (w : FVec Ideal S2048x2048 .f32) : FVec Ideal S2x16384x2048 .f32 :=
  addf x (mulf (broadcastInDim S2x16384x2048 ![0, 1, 2] bcast_S2x1x2048_S2x16384x2048_0_1_2 g1)
    (Host.dotGeneral dot_S2x16384x2048_S2048x2048_S2x16384x2048_2_0_01_1_n_n none
      (concatenate S2x16384x2048 2 [⟨S2x16384x1024, n⟩, ⟨S2x16384x1024, s⟩] concatenates_S2x16384x1024_S2x16384x1024_S2x16384x2048_d2) w))

/-- The reference's result is the composition of these steps. -/
theorem res_eq (c : Dev nD) :
    res_out0 (F := Ideal) m c
      = rV (m ((c.tc : Thread nD τ).loc main_arg7)) (m ((c.tc : Thread nD τ).loc main_arg8))
          (nV (aV (m ((c.tc : Thread nD τ).loc main_arg0)) (m ((c.tc : Thread nD τ).loc main_arg1)) (m ((c.tc : Thread nD τ).loc main_arg2)) (gV (m ((c.tc : Thread nD τ).loc main_arg3))))
            (m ((c.tc : Thread nD τ).loc main_arg4)))
          (m ((c.tc : Thread nD τ).loc main_arg5)) (m ((c.tc : Thread nD τ).loc main_arg6)) := by
  unfold res_out0 res_main_v40 rV nV aV gV
  rfl

/-- A gate at a token is the logistic of its channel. -/
theorem gV_at (p : FVec Ideal S2x16384x4608 .f32) (b : Fin 2) (s : Fin 16384) (j : Fin 48) :
    gV p (ix3 b s j) = Ideal.logistic (p (ix3 b s ⟨2816 + j.val, by omega⟩)) := by
  unfold gV Ideal.logistic
  pointwise

/-- The gated attention at a token and channel. -/
theorem aV_at (oc os ow : FVec Ideal S2x16384x1024 .f32) (g : FVec Ideal S2x16384x48 .f32) (b : Fin 2) (s : Fin 16384) (k : Fin 1024) :
    aV oc os ow g (ix3 b s k) = MixMath.att (g (ix3 b s ⟨3 * (k.val / 64) + 0, by omega⟩)) (g (ix3 b s ⟨3 * (k.val / 64) + 1, by omega⟩)) (g (ix3 b s ⟨3 * (k.val / 64) + 2, by omega⟩))
      (oc (ix3 b s k)) (os (ix3 b s k)) (ow (ix3 b s k)) := by
  unfold aV MixMath.att
  pointwise
  have e : k.val / 512 * 24 + k.val / 64 % 8 * 3 = 3 * (k.val / 64) := by omega
  simp only [e]

/-- The normalised attention at a token and channel. -/
theorem nV_at (a : FVec Ideal S2x16384x1024 .f32) (an : FVec Ideal S1024 .f32) (b : Fin 2) (s : Fin 16384) (k : Fin 1024) :
    nV a an (ix3 b s k) = MixMath.nrm (fun k => a (ix3 b s k)) (fun k => an (ix1 k)) k := by
  unfold nV MixMath.nrm
  pointwise

/-- The result at an index. -/
theorem rV_at (x : FVec Ideal S2x16384x2048 .f32) (g1 : FVec Ideal S2x1x2048 .f32) (n s : FVec Ideal S2x16384x1024 .f32) (w : FVec Ideal S2048x2048 .f32) (b : Fin 2) (t : Fin 16384) (j : Fin 2048) :
    rV x g1 n s w (ix3 b t j) = x (ix3 b t j) + g1 (ix3 b 0 j) * (∑ k : Fin 1024, n (ix3 b t k) * w (ix2 ⟨k.val, by omega⟩ j) + ∑ k : Fin 1024, s (ix3 b t k) * w (ix2 ⟨1024 + k.val, by omega⟩ j)) := by
  unfold rV
  pointwise

end Cert.MixRefIdeal.Val

end
-- ==== Proof.Mix.Claims.lean ====
/- The claims of the output projection: its reference's frame, its idealization, and its equality with its reference. -/
module

public import proofs.«01_k».proof.Defs
public import proofs.«01_k».proof.Proof.Gen.Mix.Frame
public import proofs.«01_k».proof.Proof.Mix.Kernel
public import proofs.«01_k».proof.Proof.Mix.Ref
public import Idealize.ShloMosaic.Lib.Quiescent

@[expose] public section

set_option maxRecDepth 16384

noncomputable section

namespace Cert.MixClaims

open Idealize.ShloMosaic Idealize.ShloMosaic.TcCoe Idealize.SL.Sem

/-- The reference runs, keeps its arguments, and ends with its counters at zero. -/
theorem frame_ref : Cert.quiescent_MixRefIdeal (hMixRefIdeal := Cert.MixRefIdeal.Gen.facts) := fun m g _ =>
  (θ_run _ _ _).mono (fun r h => ⟨fun c => (h c).2, sem_eq_zero_of_no_sems (by decide) _⟩) (Cert.MixRefIdeal.Value.run (F := Ideal) m g)

section
open Cert.MixIdeal Cert.MixIdeal.Gen
variable (m : (ℓ : Loc nD τ sig) → Buf (Elt Ideal) ℓ)

/-- The array the launch leaves is the reference's function of the program's arguments. -/
theorem result_eq (c : Dev nD) :
    (dats m 0 c).arrAt 10 cfg0.N
      = Cert.MixRefIdeal.Val.rV (m ((c.tc : Thread nD τ).loc main_arg7)) (m ((c.tc : Thread nD τ).loc main_arg8))
          (Cert.MixRefIdeal.Val.nV (Cert.MixRefIdeal.Val.aV (m ((c.tc : Thread nD τ).loc main_arg0)) (m ((c.tc : Thread nD τ).loc main_arg1)) (m ((c.tc : Thread nD τ).loc main_arg2))
              (Cert.MixRefIdeal.Val.gV (m ((c.tc : Thread nD τ).loc main_arg3))))
            (m ((c.tc : Thread nD τ).loc main_arg4)))
          (m ((c.tc : Thread nD τ).loc main_arg5)) (m ((c.tc : Thread nD τ).loc main_arg6)) := by
  refine (Cert.MixIdeal.Kernel.arr_eq m c).trans (funext fun (i : S2x16384x2048.Idx) => ?_)
  obtain ⟨b, t, j, rfl⟩ : ∃ (b : Fin 2) (t : Fin 16384) (j : Fin 2048), i = ix3 b t j := ⟨i 0, i 1, i 2, by funext a; fin_cases a <;> rfl⟩
  refine Eq.trans ?_ (Cert.MixRefIdeal.Val.rV_at _ _ _ _ _ b t j).symm
  unfold Cert.MixIdeal.Kernel.G Cert.MixIdeal.Kernel.att MixMath.out
  have hw : (V m c main_v0 : S2048x2048.Idx → EReal) = m ((c.tc : Thread nD τ).loc main_arg6) := by
    funext (i : S2048x2048.Idx)
    obtain ⟨p, q, rfl⟩ : ∃ (p q : Fin 2048), i = ix2 p q := ⟨i 0, i 1, by funext a; fin_cases a <;> rfl⟩
    exact Cert.MixIdeal.Kernel.w_at m c p q
  have han : (fun k : Fin 1024 => (V m c main_v10 (ix2 0 k) : EReal)) = fun k => (m ((c.tc : Thread nD τ).loc main_arg4) : S1024.Idx → EReal) (ix1 k) :=
    funext fun k => Cert.MixIdeal.Kernel.an_at m c k
  rw [han, hw, V_main_arg0, V_main_arg1, V_main_arg2, V_main_arg3, V_main_arg5, V_main_arg7, V_main_arg8]
  simp only [Cert.MixRefIdeal.Val.nV_at, Cert.MixRefIdeal.Val.aV_at, Cert.MixRefIdeal.Val.gV_at]
  rfl
end

/-- The kernel and the reference end with equal results. -/
theorem algebraic : Cert.algebraic_MixIdeal_MixRefIdeal
    (hMixIdeal := Cert.MixIdeal.Gen.facts) (hMixRefIdeal := Cert.MixRefIdeal.Gen.facts) := by
  intro m g m' g' hp ha
  refine ⟨fun c => (Cert.MixIdeal.Gen.dats m 0 c).arrAt 10 Cert.MixIdeal.cfg0.N, Cert.MixIdeal.Value.run_blocks (F := Ideal) m g, ?_⟩
  refine (θ_run _ _ _).mono (fun r h c => ⟨(h c).1.trans ?_, (h c).2⟩) (Cert.MixRefIdeal.Value.run (F := Ideal) m' g')
  obtain ⟨a0, a1, a2, a3, a4, a5, a6, a7, a8⟩ := ha c
  refine (Cert.MixRefIdeal.Val.res_eq m' c).trans ?_
  rw [a0, a1, a2, a3, a4, a5, a6, a7, a8]
  exact (result_eq m c).symm

end Cert.MixClaims

end
-- ==== Proof.Proj.Body.lean ====
/- The in-projection's launch at every grid point: what its body leaves in the carried scratch and in its result's block. -/
module

public import proofs.«01_k».proof.Proof.Gen.Proj.Frame
public import proofs.«01_k».proof.Proof.Gen.Proj.Skeleton
public import Idealize.ShloMosaic.Lib.Pipeline.Frame
public import Idealize.ShloMosaic.Lib.Pipeline.ValueKit
public import Idealize.ShloMosaic.Lib.VecWindow
public import Idealize.ShloMosaic.Lib.Tactic

@[expose] public section

set_option maxRecDepth 16384

noncomputable section

namespace Cert.Proj.Hand

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch that carries the normalised tile from one point to the next. -/
abbrev scM : Memref sig .tc .vmem S1024x2048 .bf16 := Memref.whole cc0_scratch0

set_option maxHeartbeats 1000000 in
/-- The body at a tile's first point: it normalises the tile into the scratch and multiplies it by the weights' block. -/
theorem kernel_first (c : Dev nD) (E : Set ℕ) (i : grid0.Coords) (hc : k0_cond1 i = 1#1) (arg3 : Memref sig .tc .vmem S1x1024x2048 .f32) (harg3 : arg3.IsWhole)
    (arg4 : Memref sig .tc .vmem S1x2048 .f32) (harg4 : arg4.IsWhole) (arg5 : Memref sig .tc .vmem S1x1x2048 .f32) (harg5 : arg5.IsWhole)
    (arg6 : Memref sig .tc .vmem S1x1x2048 .f32) (harg6 : arg6.IsWhole) (arg7 : Memref sig .tc .vmem S2048x512 .bf16) (harg7 : arg7.IsWhole)
    (arg8 : Memref sig .tc .vmem S1x1024x512 .f32) (harg8 : arg8.IsWhole) (arg9 : Memref sig .tc .vmem S1x1024x2048 .bf16) (harg9 : arg9.IsWhole)
    (arg10 : Memref sig .tc .vmem S1024x2048 .bf16) (harg10 : arg10.IsWhole)
    (x0 : Vec F S1x1024x2048 .f32) (x1 : Vec F S1x2048 .f32) (x2 : Vec F S1x1x2048 .f32) (x3 : Vec F S1x1x2048 .f32) (x4 : Vec F S2048x512 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (k0_pay4 (k0_pay2 x0 x1 x2 x3) x4) ∗ (∃ d, owns (c : Thread nD τ) arg9 fullShare d)
            ∗ owns (c : Thread nD τ) arg10 fullShare (k0_pay2 x0 x1 x2 x3)) -∗ K ⟨⟩))
      ⊢ wp frame (wpE (defs₀ (F := F)) Variants.none c none) E (cc0_norm_proj i arg3 harg3 arg4 harg4 arg5 harg5 arg6 harg6 arg7 harg7 arg8 harg8 arg9 harg9 arg10 harg10) K := by
  simp only [cc0_norm_proj_eq_skeleton]; unfold cc0_norm_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := sl_exact hc)
  sl_step
  iapply Hk
  have e0 : View.readAt (Elt F) arg3.view (Rect.unit (s := S1x1024x2048) ![0, 0, 0] S1x1024x2048.size inb_S1x1024x2048_S1x1024x2048_0_0_0).toLoadRect f0 = arg3.view.read (Elt F) f0 :=
    View.ld_unit_lit (S := S1x1024x2048) _ (arg3.view.read (Elt F) f0) (by decide)
  have e1 : View.readAt (Elt F) arg4.view (Rect.unit (s := S1x2048) ![0, 0] S1x2048.size inb_S1x2048_S1x2048_0_0).toLoadRect f1 = arg4.view.read (Elt F) f1 :=
    View.ld_unit_lit (S := S1x2048) _ (arg4.view.read (Elt F) f1) (by decide)
  have e2 : View.readAt (Elt F) arg5.view (Rect.unit (s := S1x1x2048) ![0, 0, 0] S1x1x2048.size inb_S1x1x2048_S1x1x2048_0_0_0).toLoadRect f2 = arg5.view.read (Elt F) f2 :=
    View.ld_unit_lit (S := S1x1x2048) _ (arg5.view.read (Elt F) f2) (by decide)
  have e3 : View.readAt (Elt F) arg6.view (Rect.unit (s := S1x1x2048) ![0, 0, 0] S1x1x2048.size inb_S1x1x2048_S1x1x2048_0_0_0).toLoadRect f3 = arg6.view.read (Elt F) f3 :=
    View.ld_unit_lit (S := S1x1x2048) _ (arg6.view.read (Elt F) f3) (by decide)
  have e4 : View.readAt (Elt F) arg7.view (Rect.unit (s := S2048x512) ![0, 0] S2048x512.size inb_S2048x512_S2048x512_0_0).toLoadRect f4 = arg7.view.read (Elt F) f4 :=
    View.ld_unit_lit (S := S2048x512) _ (arg7.view.read (Elt F) f4) (by decide)
  have hp : kernel_first.sl.H7_1 c arg3 arg4 arg5 arg6 f0 f1 f2 f3
      = [⟨Rect.unit (s := S1024x2048) ![0, 0] S1024x2048.size inb_S1024x2048_S1024x2048_0_0, k0_pay2 (arg3.view.read (Elt F) f0) (arg4.view.read (Elt F) f1) (arg5.view.read (Elt F) f2) (arg6.view.read (Elt F) f3)⟩] := by
    unfold kernel_first.sl.H7_1
    rw [e0, e1, e2, e3]
  have hv : kernel_first.sl.v3 c arg3 arg4 arg5 arg6 arg10 f0 f1 f2 f3
      = k0_pay2 (arg3.view.read (Elt F) f0) (arg4.view.read (Elt F) f1) (arg5.view.read (Elt F) f2) (arg6.view.read (Elt F) f3) := by
    unfold kernel_first.sl.v3
    rw [hp]
    exact View.readCov_unit_lit _ _ _ (by decide)
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [hv, e4]
    exact View.read_writes_full _ _ _ _ _
  isplitl [H6]
  · iexists _, _; isplitr
    swap; · iexact H6
    ipureintro; rfl
  iexists _; isplitr
  swap; · iexact H7
  ipureintro
  rw [hp]
  exact View.read_writes_full _ _ _ _ _

set_option maxHeartbeats 1000000 in
/-- The body at a tile's later points: it multiplies the tile the scratch carries by the weights' block. -/
theorem kernel_later (c : Dev nD) (E : Set ℕ) (i : grid0.Coords) (hc : ¬ k0_cond1 i = 1#1) (arg3 : Memref sig .tc .vmem S1x1024x2048 .f32) (harg3 : arg3.IsWhole)
    (arg4 : Memref sig .tc .vmem S1x2048 .f32) (harg4 : arg4.IsWhole) (arg5 : Memref sig .tc .vmem S1x1x2048 .f32) (harg5 : arg5.IsWhole)
    (arg6 : Memref sig .tc .vmem S1x1x2048 .f32) (harg6 : arg6.IsWhole) (arg7 : Memref sig .tc .vmem S2048x512 .bf16) (harg7 : arg7.IsWhole)
    (arg8 : Memref sig .tc .vmem S1x1024x512 .f32) (harg8 : arg8.IsWhole) (arg9 : Memref sig .tc .vmem S1x1024x2048 .bf16) (harg9 : arg9.IsWhole)
    (arg10 : Memref sig .tc .vmem S1024x2048 .bf16) (harg10 : arg10.IsWhole)
    (x4 : Vec F S2048x512 .bf16) (x7 : Vec F S1024x2048 .bf16) (K : PUnit → sProp 𝕄) :
    iprop(owns (c : Thread nD τ) arg7 fullShare x4
        ∗ (∃ d, owns (c : Thread nD τ) arg8 fullShare d) ∗ owns (c : Thread nD τ) arg10 fullShare x7
        ∗ (iprop(owns (c : Thread nD τ) arg7 fullShare x4
            ∗ owns (c : Thread nD τ) arg8 fullShare (k0_pay4 x7 x4)
            ∗ owns (c : Thread nD τ) arg10 fullShare x7) -∗ K ⟨⟩))
      ⊢ wp frame (wpE (defs₀ (F := F)) Variants.none c none) E (cc0_norm_proj i arg3 harg3 arg4 harg4 arg5 harg5 arg6 harg6 arg7 harg7 arg8 harg8 arg9 harg9 arg10 harg10) K := by
  simp only [cc0_norm_proj_eq_skeleton]; unfold cc0_norm_proj_skel
  unfold owns
  iintro ⟨⟨%f4, %hf4, H4⟩, ⟨%d5, %f5, -, H5⟩, ⟨%f7, %hf7, H7⟩, Hk⟩
  subst hf4 hf7
  sl_exec (disch := sl_exact hc)
  sl_step
  iapply Hk
  have e4 : View.readAt (Elt F) arg7.view (Rect.unit (s := S2048x512) ![0, 0] S2048x512.size inb_S2048x512_S2048x512_0_0).toLoadRect f4 = arg7.view.read (Elt F) f4 :=
    View.ld_unit_lit (S := S2048x512) _ (arg7.view.read (Elt F) f4) (by decide)
  have e7 : View.readAt (Elt F) arg10.view (Rect.unit (s := S1024x2048) ![0, 0] S1024x2048.size inb_S1024x2048_S1024x2048_0_0).toLoadRect f7 = arg10.view.read (Elt F) f7 :=
    View.ld_unit_lit (S := S1024x2048) _ (arg10.view.read (Elt F) f7) (by decide)
  isplitl [H4]
  · iexists f4; isplitr; · ipureintro; rfl
    iexact H4
  isplitl [H5]
  · iexists _; isplitr
    swap; · iexact H5
    ipureintro
    rw [e4, e7]
    exact View.read_writes_full _ _ _ _ _
  iexists f7; isplitr; · ipureintro; rfl
  iexact H7

/-- The points at which a tile is entered. -/
theorem cond_iff : ∀ t : Fin grid0.N, k0_cond1 (grid0.coords t) = 1#1 ↔ t.val % 9 = 0 := by
  decide +kernel

/-- The invariant the launch starts from: the scratch at anything and the generator's register at some state. -/
theorem PhiA_eq (c : Dev nD) :
    (Pipeline.ΦA spec0 c : sProp 𝕄) = iprop((∃ d, owns (c : Thread nD τ) scM fullShare d) ∗ ∃ r, prngReg c r) := by
  unfold Pipeline.ΦA
  rw [scopedRest0_eq]; simp only [scM, owns_whole]; rfl

/-- The normalised tile of a point. -/
def tile (c : Dev nD) (t : Fin cfg0.N) : Vec F S1024x2048 .bf16 :=
  k0_pay2 (iblk m c 0 t) (iblk m c 1 t) (iblk m c 2 t) (iblk m c 3 t)

/-- What is carried to a point: within a tile, the tile of the point before. -/
def carried (c : Dev nD) (t : Fin (cfg0.N + 1)) : sProp 𝕄 :=
  if h : t.val % 9 = 0 then Pipeline.ΦA spec0 c
  else iprop(owns (c : Thread nD τ) scM fullShare (tile m c ⟨t.val - 1, by have := t.isLt; omega⟩) ∗ ∃ r, prngReg c r)

/-- What is forgotten: the normalised tile the launch also writes out. -/
def forgets0 : Fin 7 → Bool := fun w => w.val == 6

/-- The launch's arrays, and what its body leaves in each window's buffer at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay4 (tile m c t) (iblk m c 4 t)
    | ⟨6, h⟩ => Pipeline.Dat.unnamed (cfg := cfg0) ⟨6, h⟩ t
  Φ t := carried m c t
  q _ := fullShare
  owed _ := 0

/-- The arrays are the ones the launch finds. -/
theorem A_eq (c : Dev nD) (w : Fin cfg0.W) : (dats m 0 c).A w = V m c (Pipeline.arrRef spec0 w) := by
  dsimp only [dats]

/-- The body leaves the rows' block as it was; -/
theorem after0_0 (c : Dev nD) (t : Fin cfg0.N) : (dats m 0 c).after 0 t = iblk m c 0 t := by dsimp only [dats]
/-- the norm's weights; -/
theorem after0_1 (c : Dev nD) (t : Fin cfg0.N) : (dats m 0 c).after 1 t = iblk m c 1 t := by dsimp only [dats]
/-- the scales' block; -/
theorem after0_2 (c : Dev nD) (t : Fin cfg0.N) : (dats m 0 c).after 2 t = iblk m c 2 t := by dsimp only [dats]
/-- the shifts' block; -/
theorem after0_3 (c : Dev nD) (t : Fin cfg0.N) : (dats m 0 c).after 3 t = iblk m c 3 t := by dsimp only [dats]
/-- the weights' block; -/
theorem after0_4 (c : Dev nD) (t : Fin cfg0.N) : (dats m 0 c).after 4 t = iblk m c 4 t := by dsimp only [dats]
/-- and in the result's block it leaves the tile times the weights' block. -/
theorem after0_5 (c : Dev nD) (t : Fin cfg0.N) : (dats m 0 c).after 5 t = k0_pay4 (tile m c t) (iblk m c 4 t) := by dsimp only [dats]

/-- The body finds the rows' block, -/
theorem before0_0 (c : Dev nD) (t : Fin cfg0.N) (d) : (dats m 0 c).before 0 t d = iblk m c 0 t :=
  before0_0_of m (dats m 0 c) (A_eq m c 0) (after0_0 m c) t d
/-- the norm's weights, -/
theorem before0_1 (c : Dev nD) (t : Fin cfg0.N) (d) : (dats m 0 c).before 1 t d = iblk m c 1 t :=
  before0_1_of m (dats m 0 c) (A_eq m c 1) (after0_1 m c) t d
/-- the scales' block, -/
theorem before0_2 (c : Dev nD) (t : Fin cfg0.N) (d) : (dats m 0 c).before 2 t d = iblk m c 2 t :=
  before0_2_of m (dats m 0 c) (A_eq m c 2) (after0_2 m c) t d
/-- the shifts' block, -/
theorem before0_3 (c : Dev nD) (t : Fin cfg0.N) (d) : (dats m 0 c).before 3 t d = iblk m c 3 t :=
  before0_3_of m (dats m 0 c) (A_eq m c 3) (after0_3 m c) t d
/-- and the weights' block. -/
theorem before0_4 (c : Dev nD) (t : Fin cfg0.N) (d) : (dats m 0 c).before 4 t d = iblk m c 4 t :=
  before0_4_of m (dats m 0 c) (A_eq m c 4) (after0_4 m c) t d

/-- An operand fetched only where a tile is entered has, within the tile, the block of the point before. -/
theorem block_kept (c : Dev nD) (w : Fin cfg0.W) (hw : (cfg0.win w).isOut = false) (hl : ∀ i, cfg0.idle w i = false)
    (hclip : ∀ (i : cfg0.grid.Coords) a, (cfg0.win w).clip i a = none)
    (hb : ∀ t d, (dats m 0 c).before w t d = (dats m 0 c).after w t) (t : Fin cfg0.N) (hf : (cfg0.win w).fetch t = false) :
    (dats m 0 c).after w t = (dats m 0 c).after w ⟨t.val - 1, by have := t.isLt; omega⟩ := by
  have d : ((cfg0.win w).block.Idx → Elt F (cfg0.win w).elt) := fun _ => Classical.arbitrary _
  rw [← hb t d, Dat.before_unfetched_in _ w hw t hf hl]
  unfold Dat.kept
  rw [Pipeline.fill_of_clip_none w _ (hclip _) d ((dats m 0 c).after w _), Window.fill_cut]

/-- Within a tile the normalised tile is the one of the point before. -/
theorem tile_kept (c : Dev nD) (t : Fin cfg0.N) (h : t.val % 9 ≠ 0) : tile m c t = tile m c ⟨t.val - 1, by have := t.isLt; omega⟩ := by
  have f0 : (cfg0.win 0).fetch t = false := by rw [Bool.eq_false_iff]; exact fun hh => h ((fetch0_0 t).mp hh)
  have f1 : (cfg0.win 1).fetch t = false := by rw [Bool.eq_false_iff]; intro hh; have := (fetch0_1 t).mp hh; omega
  have f2 : (cfg0.win 2).fetch t = false := by rw [Bool.eq_false_iff]; intro hh; have := (fetch0_2 t).mp hh; omega
  have f3 : (cfg0.win 3).fetch t = false := by rw [Bool.eq_false_iff]; intro hh; have := (fetch0_3 t).mp hh; omega
  have e0 := block_kept m c 0 rfl (fun _ => rfl) (fun _ _ => rfl) (fun t d => (before0_0 m c t d).trans (after0_0 m c t).symm) t f0
  have e1 := block_kept m c 1 rfl (fun _ => rfl) (fun _ _ => rfl) (fun t d => (before0_1 m c t d).trans (after0_1 m c t).symm) t f1
  have e2 := block_kept m c 2 rfl (fun _ => rfl) (fun _ _ => rfl) (fun t d => (before0_2 m c t d).trans (after0_2 m c t).symm) t f2
  have e3 := block_kept m c 3 rfl (fun _ => rfl) (fun _ _ => rfl) (fun t d => (before0_3 m c t d).trans (after0_3 m c t).symm) t f3
  rw [after0_0, after0_0] at e0
  rw [after0_1, after0_1] at e1
  rw [after0_2, after0_2] at e2
  rw [after0_3, after0_3] at e3
  unfold tile
  rw [e0, e1, e2, e3]

/-- The scratch at a point's tile is what is carried to the next point. -/
theorem carried_succ (c : Dev nD) (t : Fin cfg0.N) :
    iprop(owns (c : Thread nD τ) scM fullShare (tile m c t) ∗ ∃ r, prngReg c r) ⊢ (carried m c t.succ : sProp 𝕄) := by
  unfold carried
  split
  · rw [PhiA_eq]
    iintro ⟨H, Hg⟩
    isplitl [H]; · iexists _; iexact H
    iexact Hg
  · exact .rfl

/-- Nothing in particular is carried to the first point, -/
theorem carried_first (c : Dev nD) : (carried m c 0 : sProp 𝕄) = Pipeline.ΦA spec0 c := by
  unfold carried; exact dif_pos (by decide)

/-- nor past the last. -/
theorem carried_last (c : Dev nD) : (carried m c (Fin.last cfg0.N) : sProp 𝕄) = Pipeline.ΦA spec0 c := by
  unfold carried; exact dif_pos (by decide)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = carried m c t.succ from rfl, show (dats m 0 c).Φ t.castSucc = carried m c t.castSucc from rfl,
    show (dats m 0 c).owesAt () t.succ = (dats m 0 c).owesAt () t.castSucc from rfl,
    after0_0, after0_1, after0_2, after0_3, after0_4, after0_5]
  by_cases h : t.val % 9 = 0
  · rw [show (carried m c t.castSucc : sProp 𝕄) = Pipeline.ΦA spec0 c from dif_pos h, PhiA_eq]
    iintro ⟨⟨Hs, Hg⟩, Ho, ⟨%d0, H0⟩, ⟨%d1, H1⟩, ⟨%d2, H2⟩, ⟨%d3, H3⟩, ⟨%d4, H4⟩, ⟨%d5, H5⟩, H6⟩
    iapply (kernel_first c Set.univ (grid0.coords t) ((cond_iff t).mpr h) _ _ _ _ _ _ _ _ _ _ _ _ _ _ _ _ (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [Hs]; · iexact Hs
    iintro ⟨H0, H1, H2, H3, H4, H5, H6, Hs⟩
    isplitl [Hs Hg]
    · iapply (carried_succ m c t)
      isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (carried m c t.castSucc : sProp 𝕄) = iprop(owns (c : Thread nD τ) scM fullShare (tile m c ⟨t.val - 1, by have := t.isLt; omega⟩) ∗ ∃ r, prngReg c r) from dif_neg h,
      ← tile_kept m c t h]
    iintro ⟨⟨Hs, Hg⟩, Ho, ⟨%d0, H0⟩, ⟨%d1, H1⟩, ⟨%d2, H2⟩, ⟨%d3, H3⟩, ⟨%d4, H4⟩, ⟨%d5, H5⟩, H6⟩
    iapply (kernel_later c Set.univ (grid0.coords t) (fun hh => h ((cond_iff t).mp hh)) _ _ _ _ _ _ _ _ _ _ _ _ _ _ _ _ (iblk m c 4 t) (tile m c t) _)
    isplitl [H4]; · iexact H4
    isplitl [H5]; · iexists _; iexact H5
    isplitl [Hs]; · iexact Hs
    iintro ⟨H4, H5, Hs⟩
    isplitl [Hs Hg]
    · iapply (carried_succ m c t)
      isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at a point is the body at the point. -/
theorem defs₀_row (t : Fin cfg0.N) :
    defs₀ (F := F) .tc cfg0.body (cfg0.bodyArgs t (cfg0.slots t)) = bodyAt0 t := by
  unfold defs₀; rw [Defs.onTc_tc]

/-- The launch's body obligation, the written-out tile forgotten. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The run: every array at what the launch leaves in it, the written-out tile at anything, and every counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun c => Entails.of_eq (carried_first m c).symm) (hout := fun c => Entails.of_eq (carried_last m c))

/-- What the run says: the arguments unchanged, the counters at zero, and the result's array at what the launch leaves in it. -/
theorem run_blocks : θ_run defs (onTc (τ := τ) (main (F := F))) ⟨m, fun _ => 0, ρ⟩ (fun r => (∀ c : Dev nD,
      r.2.mem ((c.tc : Thread nD τ).loc main_v2_0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨((dats m 0 c).toRForget_arrAt_iff (fgt := forgets0) (w := 5) rfl _ _).mp ((h.1 c).1 5),
      (Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      ((h.1 c).2 main_arg4 (Pipeline.mem_restRefs_of main_arg4 (by decide) (by decide))).trans (V_main_arg4 m c)⟩, h.2⟩) (run_main m ρ)

/-- The frame: every run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).2, h.2⟩) (run_blocks m ρ)

end Cert.Proj.Hand
-- ==== Proof.Norm.Math.lean ====
/- The arithmetic of the normalised projections that the kernel and the reference share. -/
module

public import Idealize.ShloMosaic.Lib.Pointwise

@[expose] public section

set_option maxRecDepth 16384

noncomputable section

namespace Cert.NormMath

open Idealize.ShloMosaic

/-- A channel of a row divided by its root mean square, weighted, scaled and shifted. -/
def ada (x nw sc sh : Fin 2048 → EReal) (k : Fin 2048) : EReal :=
  x k * Ideal.rsqrt (Ideal.div (∑ i, x i * x i) (Ideal.ofBits FTy.f32 1157627904#32) + Ideal.ofBits FTy.f32 897988541#32) * nw k * (Ideal.ofBits FTy.f32 1065353216#32 + sc k) + sh k

/-- An element of the projection of such a row. -/
def out (x nw sc sh w : Fin 2048 → EReal) : EReal := ∑ k, ada x nw sc sh k * w k

end Cert.NormMath

end
-- ==== Proof.Proj.Kernel.lean ====
/- What the in-projection's launch leaves in its result's array, element by element. -/
module

public import proofs.«01_k».proof.Proof.Proj.Body
public import proofs.«01_k».proof.Proof.Norm.Math
public import Idealize.ShloMosaic.Lib.Pointwise
public import Idealize.ShloMosaic.Lib.Pipeline.ValueKit
public import Idealize.ShloMosaic.Lib.Pipeline.Covers
public import Idealize.ShloMosaic.Lib.StableHlo.ReadAt
public import Idealize.ShloMosaic.Lib.Tactic.WordOmega

@[expose] public section

set_option maxRecDepth 16384

noncomputable section

namespace Cert.Proj.Kernel

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Cert.Proj.Gen Cert.Proj.Hand

/-- The kernel's normalised tile at an element. -/
theorem pay2_at (v10 : Vec Ideal S1x1024x2048 .f32) (v22 : Vec Ideal S1x2048 .f32) (v26 v32 : Vec Ideal S1x1x2048 .f32) (r : Fin 1024) (k : Fin 2048) :
    k0_pay2 (F := Ideal) v10 v22 v26 v32 (ix2 r k)
      = NormMath.ada (fun k => v10 (ix3 0 r k)) (fun k => v22 (ix2 0 k)) (fun k => v26 (ix3 0 0 k)) (fun k => v32 (ix3 0 0 k)) k := by
  unfold k0_pay2 k0_pay1 NormMath.ada
  pointwise

/-- The kernel's result of one block at an element. -/
theorem pay4_at (v3 : Vec Ideal S1024x2048 .bf16) (v4 : Vec Ideal S2048x512 .bf16) (j : S1x1024x512.Idx) :
    k0_pay4 (F := Ideal) v3 v4 j = ∑ k : Fin 2048, v3 (ix2 (j 1) k) * v4 (ix2 k (j 2)) := by
  unfold k0_pay4
  pointwise

variable (m : (ℓ : Loc nD τ sig) → Buf (Elt Ideal) ℓ)

/-- The weights as the launch finds them. -/
theorem w_at (c : Dev nD) (i : Fin 2048) (j : Fin 4608) : V m c main_v0 (ix2 i j) = (m ((c : Thread nD τ).loc main_arg4) : S2048x4608.Idx → EReal) (ix2 i j) := by
  unfold V
  after_reads_at

/-- The norm's weights as the launch finds them. -/
theorem nw_at (c : Dev nD) (k : Fin 2048) : V m c main_v1 (ix2 0 k) = (m ((c : Thread nD τ).loc main_arg1) : S2048.Idx → EReal) (ix1 k) := by
  unfold V
  after_reads_at

/-- The blocks each window reads or writes at a grid point. -/
theorem index0 : ∀ t : Fin grid0.N,
    win0_0.index t = ![(grid0.coords t 0).val, (grid0.coords t 1).val, 0]
    ∧ win0_1.index t = ![0, 0]
    ∧ win0_2.index t = ![(grid0.coords t 0).val, 0, 0]
    ∧ win0_3.index t = ![(grid0.coords t 0).val, 0, 0]
    ∧ win0_4.index t = ![0, (grid0.coords t 2).val]
    ∧ win0_5.index t = ![(grid0.coords t 0).val, (grid0.coords t 1).val, (grid0.coords t 2).val] := by
  decide +kernel

/-- The launch's result at an index, from the arrays it reads. -/
def G (c : Dev nD) : S2x16384x4608.Idx → EReal := fun i =>
  NormMath.out (fun k => V m c main_arg0 (ix3 (i 0) (i 1) k)) (fun k => V m c main_v1 (ix2 0 k)) (fun k => V m c main_arg2 (ix3 (i 0) 0 k))
    (fun k => V m c main_arg3 (ix3 (i 0) 0 k)) (fun k => V m c main_v0 (ix2 k (i 2)))

/-- A block of the rows, at an element. -/
theorem blk0_at (c : Dev nD) (t : Fin cfg0.N) (r : Fin 1024) (k : Fin 2048) (b : Fin 2) (s : Fin 16384)
    (h0 : b.val = (grid0.coords t 0).val) (h1 : s.val = (grid0.coords t 1).val * 1024 + r.val) :
    iblk m c 0 t (ix3 0 r k) = V m c main_arg0 (ix3 b s k) := by
  obtain ⟨e0, e1, e2, e3, e4, e5⟩ := index0 t
  blk_ext [iblk, e0]

/-- The norm's weights in a block, at an element. -/
theorem blk1_at (c : Dev nD) (t : Fin cfg0.N) (k : Fin 2048) : iblk m c 1 t (ix2 0 k) = V m c main_v1 (ix2 0 k) := by
  obtain ⟨e0, e1, e2, e3, e4, e5⟩ := index0 t
  blk_ext [iblk, e1]

/-- A block of the scales, at an element. -/
theorem blk2_at (c : Dev nD) (t : Fin cfg0.N) (k : Fin 2048) (b : Fin 2) (h0 : b.val = (grid0.coords t 0).val) :
    iblk m c 2 t (ix3 0 0 k) = V m c main_arg2 (ix3 b 0 k) := by
  obtain ⟨e0, e1, e2, e3, e4, e5⟩ := index0 t
  blk_ext [iblk, e2]

/-- A block of the shifts, at an element. -/
theorem blk3_at (c : Dev nD) (t : Fin cfg0.N) (k : Fin 2048) (b : Fin 2) (h0 : b.val = (grid0.coords t 0).val) :
    iblk m c 3 t (ix3 0 0 k) = V m c main_arg3 (ix3 b 0 k) := by
  obtain ⟨e0, e1, e2, e3, e4, e5⟩ := index0 t
  blk_ext [iblk, e3]

/-- A block of the weights, at an element. -/
theorem blk4_at (c : Dev nD) (t : Fin cfg0.N) (k : Fin 2048) (j : Fin 512) (n : Fin 4608) (h0 : n.val = (grid0.coords t 2).val * 512 + j.val) :
    iblk m c 4 t (ix2 k j) = V m c main_v0 (ix2 k n) := by
  obtain ⟨e0, e1, e2, e3, e4, e5⟩ := index0 t
  blk_ext [iblk, e4]

/-- The array the launch leaves is `G`. -/
theorem arr_eq (c : Dev nD) : (dats m 0 c).arrAt 5 cfg0.N = G m c := by
  refine (dats m 0 c).arrAt_eq_of_covers 5 _ ((cfg0.win 5).covers_of_indexMap_surj rfl (by decide) fun β => ?_) fun t hf y => ?_
  · have h0 : (β 0).val < 2 := lt_of_lt_of_eq (β 0).isLt (by decide : (cfg0.win 5).nblk 0 = 2)
    have h1 : (β 1).val < 16 := lt_of_lt_of_eq (β 1).isLt (by decide : (cfg0.win 5).nblk 1 = 16)
    have h2 : (β 2).val < 9 := lt_of_lt_of_eq (β 2).isLt (by decide : (cfg0.win 5).nblk 2 = 9)
    obtain ⟨t, ht⟩ := grid0.coords_surjective (fun | 0 => ⟨(β 0).val, h0⟩ | 1 => ⟨(β 1).val, h1⟩ | 2 => ⟨(β 2).val, h2⟩)
    have e4 : win0_5.indexMap (grid0.coords t) = _ := (index0 t).2.2.2.2.2
    refine ⟨grid0.coords t, fun a => ?_⟩
    rw [show (cfg0.win 5).indexMap (grid0.coords t) = _ from e4, ht]
    fin_cases a <;> rfl
  · obtain ⟨e0, e1, e2, e3, e4, e5⟩ := index0 t
    blk_simp
    rw [after0_5]
    have y0 : (y 0).val < 1 := (y 0).isLt
    have y1 : (y 1).val < 1024 := (y 1).isLt
    have y2 : (y 2).val < 512 := (y 2).isLt
    have hb : (grid0.coords t 0).val < 2 := (grid0.coords t 0).isLt
    have hi : (grid0.coords t 1).val < 16 := (grid0.coords t 1).isLt
    have hj : (grid0.coords t 2).val < 9 := (grid0.coords t 2).isLt
    have a0 : ((((View.whole main_v2_0).slice (win0_5.rect t)).emb y) 0).val = (grid0.coords t 0).val := by
      blk_simp [e5]
    have a1 : ((((View.whole main_v2_0).slice (win0_5.rect t)).emb y) 1).val = (grid0.coords t 1).val * 1024 + (y 1).val := by
      blk_simp [e5]
    have a2 : ((((View.whole main_v2_0).slice (win0_5.rect t)).emb y) 2).val = (grid0.coords t 2).val * 512 + (y 2).val := by
      blk_simp [e5]
    refine (pay4_at _ _ y).trans ?_
    unfold G NormMath.out
    generalize ((View.whole main_v2_0).slice (win0_5.rect t)).emb y = J at a0 a1 a2 ⊢
    have c0 : (fun k : Fin 2048 => iblk m c 0 t (ix3 0 (y 1) k)) = fun k => V m c main_arg0 (ix3 (J 0) (J 1) k) := funext fun k => blk0_at m c t _ k _ _ a0 a1
    have c1 : (fun k : Fin 2048 => iblk m c 1 t (ix2 0 k)) = fun k => V m c main_v1 (ix2 0 k) := funext fun k => blk1_at m c t k
    have c2 : (fun k : Fin 2048 => iblk m c 2 t (ix3 0 0 k)) = fun k => V m c main_arg2 (ix3 (J 0) 0 k) := funext fun k => blk2_at m c t k _ a0
    have c3 : (fun k : Fin 2048 => iblk m c 3 t (ix3 0 0 k)) = fun k => V m c main_arg3 (ix3 (J 0) 0 k) := funext fun k => blk3_at m c t k _ a0
    refine Finset.sum_congr rfl fun k _ => ?_
    refine congrArg₂ (fun a b : EReal => a * b) ?_ (blk4_at m c t k (y 2) (J 2) a2)
    unfold tile
    exact (pay2_at _ _ _ _ (y 1) k).trans (congrFun (congr (congr (congr (congrArg NormMath.ada c0) c1) c2) c3) k)

end Cert.Proj.Kernel

end
-- ==== Proof.Proj.Ref.lean ====
/- The reference's in-projection, element by element. -/
module

public import proofs.«01_k».proof.Proof.Gen.ProjRefIdeal
public import proofs.«01_k».proof.Proof.Gen.ProjRefIdeal.Run
public import proofs.«01_k».proof.Proof.Norm.Math
public import Idealize.ShloMosaic.Lib.Pointwise

@[expose] public section

set_option maxRecDepth 16384

noncomputable section

namespace Cert.ProjRefIdeal.Value

open Cert.ProjRefIdeal Cert.ProjRefIdeal.Gen Idealize.ShloMosaic Idealize.ShloMosaic.TcCoe

/-- The factor each row is multiplied by. -/
def rV (x : FVec Ideal S2x16384x2048 .f32) : FVec Ideal S2x16384x1 .f32 :=
  Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))

/-- The rows normalised, weighted, scaled and shifted. -/
def hV (x : FVec Ideal S2x16384x2048 .f32) (nw : FVec Ideal S2048 .f32) (sc sh : FVec Ideal S2x1x2048 .f32) : FVec Ideal S2x16384x2048 .f32 :=
  addf (mulf (mulf (mulf x (broadcastInDim S2x16384x2048 ![0, 1, 2] bcast_S2x16384x1_S2x16384x2048_0_1_2 (rV x))) (broadcastInDim S2x16384x2048 ![0, 1, 2] bcast_S1x1x2048_S2x16384x2048_0_1_2 (broadcastInDim S1x1x2048 ![2] bcast_S2048_S1x1x2048_2 nw))) (broadcastInDim S2x16384x2048 ![0, 1, 2] bcast_S2x1x2048_S2x16384x2048_0_1_2 (addf (broadcastInDim S2x1x2048 ![] bcast_S_S2x1x2048 (constant S_ .f32 0x3F800000#32)) sc))) (broadcastInDim S2x16384x2048 ![0, 1, 2] bcast_S2x1x2048_S2x16384x2048_0_1_2 sh)

/-- The reference's result. -/
def res (x : FVec Ideal S2x16384x2048 .f32) (nw : FVec Ideal S2048 .f32) (sc sh : FVec Ideal S2x1x2048 .f32) (w : FVec Ideal S2048x4608 .f32) : FVec Ideal S2x16384x4608 .f32 := Host.dotGeneral dot_S2x16384x2048_S2048x4608_S2x16384x4608_2_0_01_1_n_n none (hV x nw sc sh) w

/-- The factor of a row. -/
theorem rV_at (x : FVec Ideal S2x16384x2048 .f32) (b : Fin 2) (s : Fin 16384) : rV x (ix3 b s 0) =
    Ideal.rsqrt (Ideal.div (∑ i : Fin 2048, x (ix3 b s i) * x (ix3 b s i)) (Ideal.ofBits FTy.f32 1157627904#32) + Ideal.ofBits FTy.f32 897988541#32) := by
  unfold rV
  pointwise

/-- A row's channel after the normalisation. -/
theorem hV_at (x : FVec Ideal S2x16384x2048 .f32) (nw : FVec Ideal S2048 .f32) (sc sh : FVec Ideal S2x1x2048 .f32) (b : Fin 2) (s : Fin 16384) (k : Fin 2048) : hV x nw sc sh (ix3 b s k) =
    NormMath.ada (fun k => x (ix3 b s k)) (fun k => nw (ix1 k)) (fun k => sc (ix3 b 0 k)) (fun k => sh (ix3 b 0 k)) k := by
  unfold hV NormMath.ada
  pointwise
  rw [rV_at]

/-- The reference's result at an index. -/
theorem res_at (x : FVec Ideal S2x16384x2048 .f32) (nw : FVec Ideal S2048 .f32) (sc sh : FVec Ideal S2x1x2048 .f32) (w : FVec Ideal S2048x4608 .f32) (i : S2x16384x4608.Idx) : res x nw sc sh w i =
    NormMath.out (fun k => x (ix3 (i 0) (i 1) k)) (fun k => nw (ix1 k)) (fun k => sc (ix3 (i 0) 0 k)) (fun k => sh (ix3 (i 0) 0 k)) (fun k => w (ix2 k (i 2))) := by
  unfold res NormMath.out
  pointwise
  exact Finset.sum_congr rfl fun k _ => congrArg (fun a : EReal => a * w (ix2 k (i 2))) (hV_at x nw sc sh (i 0) (i 1) k)

end Cert.ProjRefIdeal.Value

end
-- ==== Proof.Proj.Claims.lean ====
/- The claims of the in-projection: its frames, and its equality with its reference. -/
module

public import proofs.«01_k».proof.Defs
public import proofs.«01_k».proof.Proof.Gen.ProjIdeal
public import proofs.«01_k».proof.Proof.Proj.Body
public import proofs.«01_k».proof.Proof.Proj.Kernel
public import proofs.«01_k».proof.Proof.Proj.Ref
public import Idealize.ShloMosaic.Lib.Quiescent

@[expose] public section

set_option maxRecDepth 16384

noncomputable section

namespace Cert.ProjClaims

open Idealize.ShloMosaic Idealize.ShloMosaic.TcCoe Idealize.SL.Sem

attribute [local instance] Cert.Proj.Gen.facts Cert.ProjIdeal.Gen.facts

/-- The kernel and its idealization have the same launch bodies. -/
theorem bodies_eq : Cert.ProjIdeal.defs₀ (F := Ideal) = Cert.Proj.defs₀ (F := Ideal) := by
  unfold Cert.ProjIdeal.defs₀ Cert.Proj.defs₀
  refine congrArg (Defs.onTc (sig := Cert.Proj.sig) (Λ := Cert.Proj.Λ₀)) ?_
  funext l x
  match l, x with
  | 0, (t, s) => rfl

/-- The kernel and its idealization have the same launches. -/
theorem defs_eq : Cert.ProjIdeal.defs (F := Ideal) = Cert.Proj.defs (F := Ideal) := by
  unfold Cert.ProjIdeal.defs Cert.Proj.defs
  exact congrArg (Pipeline.defs (Cert.Proj.pcfgs (F := Ideal))) bodies_eq

/-- The kernel and its idealization have the same host program. -/
theorem main_eq : Cert.ProjIdeal.main (F := Ideal) = Cert.Proj.main (F := Ideal) := rfl

/-- What holds of the kernel's runs over the extended reals holds of its idealization's runs. -/
theorem transfer (m : (ℓ : Loc Cert.Proj.nD Cert.Proj.τ Cert.Proj.sig) → Buf (Elt Ideal) ℓ) (g : Dev Cert.Proj.nD → PrngReg) {Q : _ → Prop}
    (h : θ_run (Cert.Proj.defs (F := Ideal)) (onTc (τ := Cert.Proj.τ) (Cert.Proj.main (F := Ideal))) ⟨m, fun _ => 0, g⟩ Q) :
    θ_run (Cert.ProjIdeal.defs (F := Ideal)) (onTc (τ := Cert.ProjIdeal.τ) (Cert.ProjIdeal.main (F := Ideal))) ⟨m, fun _ => 0, g⟩ Q := by
  rw [defs_eq, main_eq]
  exact h

/-- The kernel runs, keeps its arguments, and ends with its counters at zero. -/
theorem frame : Cert.quiescent_Proj (hProj := Cert.Proj.Gen.facts) :=
  fun m g _ => Cert.Proj.Hand.frame (F := Bits) m g

/-- The idealization runs, keeps its arguments, and ends with its counters at zero. -/
theorem frame_ideal : Cert.quiescent_ProjIdeal (hProjIdeal := Cert.ProjIdeal.Gen.facts) :=
  fun m g _ => transfer m g (Cert.Proj.Hand.frame (F := Ideal) m g)

/-- The reference runs, keeps its arguments, and ends with its counters at zero. -/
theorem frame_ref : Cert.quiescent_ProjRefIdeal (hProjRefIdeal := Cert.ProjRefIdeal.Gen.facts) := fun m g _ =>
  (θ_run _ _ _).mono (fun r h => ⟨fun c => (h c).2, sem_eq_zero_of_no_sems (by decide) _⟩) (Cert.ProjRefIdeal.Value.run (F := Ideal) m g)

section
open Cert.Proj Cert.Proj.Gen
variable (m : (ℓ : Loc nD τ sig) → Buf (Elt Ideal) ℓ)

/-- The array the launch leaves is the reference's function of the program's arguments. -/
theorem result_eq (c : Dev nD) :
    (Cert.Proj.Hand.dats m 0 c).arrAt 5 cfg0.N
      = Cert.ProjRefIdeal.Value.res (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (Cert.Proj.Kernel.arr_eq m c).trans (funext fun (i : S2x16384x4608.Idx) => ?_)
  refine Eq.trans ?_ (Cert.ProjRefIdeal.Value.res_at _ _ _ _ _ i).symm
  unfold Cert.Proj.Kernel.G
  have hn : (fun k : Fin 2048 => (V m c main_v1 (ix2 0 k) : EReal)) = fun k => (m ((c.tc : Thread nD τ).loc main_arg1) : S2048.Idx → EReal) (ix1 k) :=
    funext fun k => Cert.Proj.Kernel.nw_at m c k
  have hw : (fun k : Fin 2048 => (V m c main_v0 (ix2 k (i 2)) : EReal)) = fun k => (m ((c.tc : Thread nD τ).loc main_arg4) : S2048x4608.Idx → EReal) (ix2 k (i 2)) :=
    funext fun k => Cert.Proj.Kernel.w_at m c k (i 2)
  rw [hn, hw, V_main_arg0, V_main_arg2, V_main_arg3]
end

/-- The kernel and the reference end with equal results. -/
theorem algebraic : Cert.algebraic_ProjIdeal_ProjRefIdeal
    (hProjIdeal := Cert.ProjIdeal.Gen.facts) (hProjRefIdeal := Cert.ProjRefIdeal.Gen.facts) := by
  intro m g m' g' hp ha
  refine ⟨fun c => (Cert.Proj.Hand.dats (F := Ideal) m 0 c).arrAt 5 Cert.Proj.cfg0.N,
    transfer m g ((θ_run _ _ _).mono (fun r h => h.1) (Cert.Proj.Hand.run_blocks (F := Ideal) m g)), ?_⟩
  refine (θ_run _ _ _).mono (fun r h c => ⟨(h c).1.trans ?_, (h c).2⟩) (Cert.ProjRefIdeal.Value.run (F := Ideal) m' g')
  obtain ⟨a0, a1, a2, a3, a4⟩ := ha c
  rw [a0, a1, a2, a3, a4]
  exact (result_eq m c).symm

end Cert.ProjClaims

end
-- ==== Proof.Query.Body.lean ====
/- The retrieval query's projection's launch at every grid point: what its body leaves in the carried scratch and in its result's block. -/
module

public import proofs.«01_k».proof.Proof.Gen.Query.Frame
public import proofs.«01_k».proof.Proof.Gen.Query.Skeleton
public import Idealize.ShloMosaic.Lib.Pipeline.Frame
public import Idealize.ShloMosaic.Lib.Pipeline.ValueKit
public import Idealize.ShloMosaic.Lib.VecWindow
public import Idealize.ShloMosaic.Lib.Tactic

@[expose] public section

set_option maxRecDepth 16384

noncomputable section

namespace Cert.Query.Hand

open Cert.Query Cert.Query.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch that carries the normalised tile from one point to the next. -/
abbrev scM : Memref sig .tc .vmem S1024x2048 .bf16 := Memref.whole cc0_scratch0

set_option maxHeartbeats 1000000 in
/-- The body at a tile's first point: it normalises the tile into the scratch and multiplies it by the weights' block. -/
theorem kernel_first (c : Dev nD) (E : Set ℕ) (i : grid0.Coords) (hc : k0_cond1 i = 1#1) (arg3 : Memref sig .tc .vmem S1x1024x2048 .f32) (harg3 : arg3.IsWhole)
    (arg4 : Memref sig .tc .vmem S1x2048 .f32) (harg4 : arg4.IsWhole) (arg5 : Memref sig .tc .vmem S1x1x2048 .f32) (harg5 : arg5.IsWhole)
    (arg6 : Memref sig .tc .vmem S1x1x2048 .f32) (harg6 : arg6.IsWhole) (arg7 : Memref sig .tc .vmem S2048x512 .bf16) (harg7 : arg7.IsWhole)
    (arg8 : Memref sig .tc .vmem S1x1024x512 .f32) (harg8 : arg8.IsWhole) (arg9 : Memref sig .tc .vmem S1x1024x2048 .bf16) (harg9 : arg9.IsWhole)
    (arg10 : Memref sig .tc .vmem S1024x2048 .bf16) (harg10 : arg10.IsWhole)
    (x0 : Vec F S1x1024x2048 .f32) (x1 : Vec F S1x2048 .f32) (x2 : Vec F S1x1x2048 .f32) (x3 : Vec F S1x1x2048 .f32) (x4 : Vec F S2048x512 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (k0_pay4 (k0_pay2 x0 x1 x2 x3) x4) ∗ (∃ d, owns (c : Thread nD τ) arg9 fullShare d)
            ∗ owns (c : Thread nD τ) arg10 fullShare (k0_pay2 x0 x1 x2 x3)) -∗ K ⟨⟩))
      ⊢ wp frame (wpE (defs₀ (F := F)) Variants.none c none) E (cc0_norm_proj i arg3 harg3 arg4 harg4 arg5 harg5 arg6 harg6 arg7 harg7 arg8 harg8 arg9 harg9 arg10 harg10) K := by
  simp only [cc0_norm_proj_eq_skeleton]; unfold cc0_norm_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := sl_exact hc)
  sl_step
  iapply Hk
  have e0 : View.readAt (Elt F) arg3.view (Rect.unit (s := S1x1024x2048) ![0, 0, 0] S1x1024x2048.size inb_S1x1024x2048_S1x1024x2048_0_0_0).toLoadRect f0 = arg3.view.read (Elt F) f0 :=
    View.ld_unit_lit (S := S1x1024x2048) _ (arg3.view.read (Elt F) f0) (by decide)
  have e1 : View.readAt (Elt F) arg4.view (Rect.unit (s := S1x2048) ![0, 0] S1x2048.size inb_S1x2048_S1x2048_0_0).toLoadRect f1 = arg4.view.read (Elt F) f1 :=
    View.ld_unit_lit (S := S1x2048) _ (arg4.view.read (Elt F) f1) (by decide)
  have e2 : View.readAt (Elt F) arg5.view (Rect.unit (s := S1x1x2048) ![0, 0, 0] S1x1x2048.size inb_S1x1x2048_S1x1x2048_0_0_0).toLoadRect f2 = arg5.view.read (Elt F) f2 :=
    View.ld_unit_lit (S := S1x1x2048) _ (arg5.view.read (Elt F) f2) (by decide)
  have e3 : View.readAt (Elt F) arg6.view (Rect.unit (s := S1x1x2048) ![0, 0, 0] S1x1x2048.size inb_S1x1x2048_S1x1x2048_0_0_0).toLoadRect f3 = arg6.view.read (Elt F) f3 :=
    View.ld_unit_lit (S := S1x1x2048) _ (arg6.view.read (Elt F) f3) (by decide)
  have e4 : View.readAt (Elt F) arg7.view (Rect.unit (s := S2048x512) ![0, 0] S2048x512.size inb_S2048x512_S2048x512_0_0).toLoadRect f4 = arg7.view.read (Elt F) f4 :=
    View.ld_unit_lit (S := S2048x512) _ (arg7.view.read (Elt F) f4) (by decide)
  have hp : kernel_first.sl.H7_1 c arg3 arg4 arg5 arg6 f0 f1 f2 f3
      = [⟨Rect.unit (s := S1024x2048) ![0, 0] S1024x2048.size inb_S1024x2048_S1024x2048_0_0, k0_pay2 (arg3.view.read (Elt F) f0) (arg4.view.read (Elt F) f1) (arg5.view.read (Elt F) f2) (arg6.view.read (Elt F) f3)⟩] := by
    unfold kernel_first.sl.H7_1
    rw [e0, e1, e2, e3]
  have hv : kernel_first.sl.v3 c arg3 arg4 arg5 arg6 arg10 f0 f1 f2 f3
      = k0_pay2 (arg3.view.read (Elt F) f0) (arg4.view.read (Elt F) f1) (arg5.view.read (Elt F) f2) (arg6.view.read (Elt F) f3) := by
    unfold kernel_first.sl.v3
    rw [hp]
    exact View.readCov_unit_lit _ _ _ (by decide)
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [hv, e4]
    exact View.read_writes_full _ _ _ _ _
  isplitl [H6]
  · iexists _, _; isplitr
    swap; · iexact H6
    ipureintro; rfl
  iexists _; isplitr
  swap; · iexact H7
  ipureintro
  rw [hp]
  exact View.read_writes_full _ _ _ _ _

set_option maxHeartbeats 1000000 in
/-- The body at a tile's later points: it multiplies the tile the scratch carries by the weights' block. -/
theorem kernel_later (c : Dev nD) (E : Set ℕ) (i : grid0.Coords) (hc : ¬ k0_cond1 i = 1#1) (arg3 : Memref sig .tc .vmem S1x1024x2048 .f32) (harg3 : arg3.IsWhole)
    (arg4 : Memref sig .tc .vmem S1x2048 .f32) (harg4 : arg4.IsWhole) (arg5 : Memref sig .tc .vmem S1x1x2048 .f32) (harg5 : arg5.IsWhole)
    (arg6 : Memref sig .tc .vmem S1x1x2048 .f32) (harg6 : arg6.IsWhole) (arg7 : Memref sig .tc .vmem S2048x512 .bf16) (harg7 : arg7.IsWhole)
    (arg8 : Memref sig .tc .vmem S1x1024x512 .f32) (harg8 : arg8.IsWhole) (arg9 : Memref sig .tc .vmem S1x1024x2048 .bf16) (harg9 : arg9.IsWhole)
    (arg10 : Memref sig .tc .vmem S1024x2048 .bf16) (harg10 : arg10.IsWhole)
    (x4 : Vec F S2048x512 .bf16) (x7 : Vec F S1024x2048 .bf16) (K : PUnit → sProp 𝕄) :
    iprop(owns (c : Thread nD τ) arg7 fullShare x4
        ∗ (∃ d, owns (c : Thread nD τ) arg8 fullShare d) ∗ owns (c : Thread nD τ) arg10 fullShare x7
        ∗ (iprop(owns (c : Thread nD τ) arg7 fullShare x4
            ∗ owns (c : Thread nD τ) arg8 fullShare (k0_pay4 x7 x4)
            ∗ owns (c : Thread nD τ) arg10 fullShare x7) -∗ K ⟨⟩))
      ⊢ wp frame (wpE (defs₀ (F := F)) Variants.none c none) E (cc0_norm_proj i arg3 harg3 arg4 harg4 arg5 harg5 arg6 harg6 arg7 harg7 arg8 harg8 arg9 harg9 arg10 harg10) K := by
  simp only [cc0_norm_proj_eq_skeleton]; unfold cc0_norm_proj_skel
  unfold owns
  iintro ⟨⟨%f4, %hf4, H4⟩, ⟨%d5, %f5, -, H5⟩, ⟨%f7, %hf7, H7⟩, Hk⟩
  subst hf4 hf7
  sl_exec (disch := sl_exact hc)
  sl_step
  iapply Hk
  have e4 : View.readAt (Elt F) arg7.view (Rect.unit (s := S2048x512) ![0, 0] S2048x512.size inb_S2048x512_S2048x512_0_0).toLoadRect f4 = arg7.view.read (Elt F) f4 :=
    View.ld_unit_lit (S := S2048x512) _ (arg7.view.read (Elt F) f4) (by decide)
  have e7 : View.readAt (Elt F) arg10.view (Rect.unit (s := S1024x2048) ![0, 0] S1024x2048.size inb_S1024x2048_S1024x2048_0_0).toLoadRect f7 = arg10.view.read (Elt F) f7 :=
    View.ld_unit_lit (S := S1024x2048) _ (arg10.view.read (Elt F) f7) (by decide)
  isplitl [H4]
  · iexists f4; isplitr; · ipureintro; rfl
    iexact H4
  isplitl [H5]
  · iexists _; isplitr
    swap; · iexact H5
    ipureintro
    rw [e4, e7]
    exact View.read_writes_full _ _ _ _ _
  iexists f7; isplitr; · ipureintro; rfl
  iexact H7

/-- The points at which a tile is entered. -/
theorem cond_iff : ∀ t : Fin grid0.N, k0_cond1 (grid0.coords t) = 1#1 ↔ t.val % 4 = 0 := by
  decide +kernel

/-- The invariant the launch starts from: the scratch at anything and the generator's register at some state. -/
theorem PhiA_eq (c : Dev nD) :
    (Pipeline.ΦA spec0 c : sProp 𝕄) = iprop((∃ d, owns (c : Thread nD τ) scM fullShare d) ∗ ∃ r, prngReg c r) := by
  unfold Pipeline.ΦA
  rw [scopedRest0_eq]; simp only [scM, owns_whole]; rfl

/-- The normalised tile of a point. -/
def tile (c : Dev nD) (t : Fin cfg0.N) : Vec F S1024x2048 .bf16 :=
  k0_pay2 (iblk m c 0 t) (iblk m c 1 t) (iblk m c 2 t) (iblk m c 3 t)

/-- What is carried to a point: within a tile, the tile of the point before. -/
def carried (c : Dev nD) (t : Fin (cfg0.N + 1)) : sProp 𝕄 :=
  if h : t.val % 4 = 0 then Pipeline.ΦA spec0 c
  else iprop(owns (c : Thread nD τ) scM fullShare (tile m c ⟨t.val - 1, by have := t.isLt; omega⟩) ∗ ∃ r, prngReg c r)

/-- What is forgotten: the normalised tile the launch also writes out. -/
def forgets0 : Fin 7 → Bool := fun w => w.val == 6

/-- The launch's arrays, and what its body leaves in each window's buffer at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay4 (tile m c t) (iblk m c 4 t)
    | ⟨6, h⟩ => Pipeline.Dat.unnamed (cfg := cfg0) ⟨6, h⟩ t
  Φ t := carried m c t
  q _ := fullShare
  owed _ := 0

/-- The arrays are the ones the launch finds. -/
theorem A_eq (c : Dev nD) (w : Fin cfg0.W) : (dats m 0 c).A w = V m c (Pipeline.arrRef spec0 w) := by
  dsimp only [dats]

/-- The body leaves the rows' block as it was; -/
theorem after0_0 (c : Dev nD) (t : Fin cfg0.N) : (dats m 0 c).after 0 t = iblk m c 0 t := by dsimp only [dats]
/-- the norm's weights; -/
theorem after0_1 (c : Dev nD) (t : Fin cfg0.N) : (dats m 0 c).after 1 t = iblk m c 1 t := by dsimp only [dats]
/-- the scales' block; -/
theorem after0_2 (c : Dev nD) (t : Fin cfg0.N) : (dats m 0 c).after 2 t = iblk m c 2 t := by dsimp only [dats]
/-- the shifts' block; -/
theorem after0_3 (c : Dev nD) (t : Fin cfg0.N) : (dats m 0 c).after 3 t = iblk m c 3 t := by dsimp only [dats]
/-- the weights' block; -/
theorem after0_4 (c : Dev nD) (t : Fin cfg0.N) : (dats m 0 c).after 4 t = iblk m c 4 t := by dsimp only [dats]
/-- and in the result's block it leaves the tile times the weights' block. -/
theorem after0_5 (c : Dev nD) (t : Fin cfg0.N) : (dats m 0 c).after 5 t = k0_pay4 (tile m c t) (iblk m c 4 t) := by dsimp only [dats]

/-- The body finds the rows' block, -/
theorem before0_0 (c : Dev nD) (t : Fin cfg0.N) (d) : (dats m 0 c).before 0 t d = iblk m c 0 t :=
  before0_0_of m (dats m 0 c) (A_eq m c 0) (after0_0 m c) t d
/-- the norm's weights, -/
theorem before0_1 (c : Dev nD) (t : Fin cfg0.N) (d) : (dats m 0 c).before 1 t d = iblk m c 1 t :=
  before0_1_of m (dats m 0 c) (A_eq m c 1) (after0_1 m c) t d
/-- the scales' block, -/
theorem before0_2 (c : Dev nD) (t : Fin cfg0.N) (d) : (dats m 0 c).before 2 t d = iblk m c 2 t :=
  before0_2_of m (dats m 0 c) (A_eq m c 2) (after0_2 m c) t d
/-- the shifts' block, -/
theorem before0_3 (c : Dev nD) (t : Fin cfg0.N) (d) : (dats m 0 c).before 3 t d = iblk m c 3 t :=
  before0_3_of m (dats m 0 c) (A_eq m c 3) (after0_3 m c) t d
/-- and the weights' block. -/
theorem before0_4 (c : Dev nD) (t : Fin cfg0.N) (d) : (dats m 0 c).before 4 t d = iblk m c 4 t :=
  before0_4_of m (dats m 0 c) (A_eq m c 4) (after0_4 m c) t d

/-- An operand fetched only where a tile is entered has, within the tile, the block of the point before. -/
theorem block_kept (c : Dev nD) (w : Fin cfg0.W) (hw : (cfg0.win w).isOut = false) (hl : ∀ i, cfg0.idle w i = false)
    (hclip : ∀ (i : cfg0.grid.Coords) a, (cfg0.win w).clip i a = none)
    (hb : ∀ t d, (dats m 0 c).before w t d = (dats m 0 c).after w t) (t : Fin cfg0.N) (hf : (cfg0.win w).fetch t = false) :
    (dats m 0 c).after w t = (dats m 0 c).after w ⟨t.val - 1, by have := t.isLt; omega⟩ := by
  have d : ((cfg0.win w).block.Idx → Elt F (cfg0.win w).elt) := fun _ => Classical.arbitrary _
  rw [← hb t d, Dat.before_unfetched_in _ w hw t hf hl]
  unfold Dat.kept
  rw [Pipeline.fill_of_clip_none w _ (hclip _) d ((dats m 0 c).after w _), Window.fill_cut]

/-- Within a tile the normalised tile is the one of the point before. -/
theorem tile_kept (c : Dev nD) (t : Fin cfg0.N) (h : t.val % 4 ≠ 0) : tile m c t = tile m c ⟨t.val - 1, by have := t.isLt; omega⟩ := by
  have f0 : (cfg0.win 0).fetch t = false := by rw [Bool.eq_false_iff]; exact fun hh => h ((fetch0_0 t).mp hh)
  have f1 : (cfg0.win 1).fetch t = false := by rw [Bool.eq_false_iff]; intro hh; have := (fetch0_1 t).mp hh; omega
  have f2 : (cfg0.win 2).fetch t = false := by rw [Bool.eq_false_iff]; intro hh; have := (fetch0_2 t).mp hh; omega
  have f3 : (cfg0.win 3).fetch t = false := by rw [Bool.eq_false_iff]; intro hh; have := (fetch0_3 t).mp hh; omega
  have e0 := block_kept m c 0 rfl (fun _ => rfl) (fun _ _ => rfl) (fun t d => (before0_0 m c t d).trans (after0_0 m c t).symm) t f0
  have e1 := block_kept m c 1 rfl (fun _ => rfl) (fun _ _ => rfl) (fun t d => (before0_1 m c t d).trans (after0_1 m c t).symm) t f1
  have e2 := block_kept m c 2 rfl (fun _ => rfl) (fun _ _ => rfl) (fun t d => (before0_2 m c t d).trans (after0_2 m c t).symm) t f2
  have e3 := block_kept m c 3 rfl (fun _ => rfl) (fun _ _ => rfl) (fun t d => (before0_3 m c t d).trans (after0_3 m c t).symm) t f3
  rw [after0_0, after0_0] at e0
  rw [after0_1, after0_1] at e1
  rw [after0_2, after0_2] at e2
  rw [after0_3, after0_3] at e3
  unfold tile
  rw [e0, e1, e2, e3]

/-- The scratch at a point's tile is what is carried to the next point. -/
theorem carried_succ (c : Dev nD) (t : Fin cfg0.N) :
    iprop(owns (c : Thread nD τ) scM fullShare (tile m c t) ∗ ∃ r, prngReg c r) ⊢ (carried m c t.succ : sProp 𝕄) := by
  unfold carried
  split
  · rw [PhiA_eq]
    iintro ⟨H, Hg⟩
    isplitl [H]; · iexists _; iexact H
    iexact Hg
  · exact .rfl

/-- Nothing in particular is carried to the first point, -/
theorem carried_first (c : Dev nD) : (carried m c 0 : sProp 𝕄) = Pipeline.ΦA spec0 c := by
  unfold carried; exact dif_pos (by decide)

/-- nor past the last. -/
theorem carried_last (c : Dev nD) : (carried m c (Fin.last cfg0.N) : sProp 𝕄) = Pipeline.ΦA spec0 c := by
  unfold carried; exact dif_pos (by decide)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = carried m c t.succ from rfl, show (dats m 0 c).Φ t.castSucc = carried m c t.castSucc from rfl,
    show (dats m 0 c).owesAt () t.succ = (dats m 0 c).owesAt () t.castSucc from rfl,
    after0_0, after0_1, after0_2, after0_3, after0_4, after0_5]
  by_cases h : t.val % 4 = 0
  · rw [show (carried m c t.castSucc : sProp 𝕄) = Pipeline.ΦA spec0 c from dif_pos h, PhiA_eq]
    iintro ⟨⟨Hs, Hg⟩, Ho, ⟨%d0, H0⟩, ⟨%d1, H1⟩, ⟨%d2, H2⟩, ⟨%d3, H3⟩, ⟨%d4, H4⟩, ⟨%d5, H5⟩, H6⟩
    iapply (kernel_first c Set.univ (grid0.coords t) ((cond_iff t).mpr h) _ _ _ _ _ _ _ _ _ _ _ _ _ _ _ _ (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [Hs]; · iexact Hs
    iintro ⟨H0, H1, H2, H3, H4, H5, H6, Hs⟩
    isplitl [Hs Hg]
    · iapply (carried_succ m c t)
      isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (carried m c t.castSucc : sProp 𝕄) = iprop(owns (c : Thread nD τ) scM fullShare (tile m c ⟨t.val - 1, by have := t.isLt; omega⟩) ∗ ∃ r, prngReg c r) from dif_neg h,
      ← tile_kept m c t h]
    iintro ⟨⟨Hs, Hg⟩, Ho, ⟨%d0, H0⟩, ⟨%d1, H1⟩, ⟨%d2, H2⟩, ⟨%d3, H3⟩, ⟨%d4, H4⟩, ⟨%d5, H5⟩, H6⟩
    iapply (kernel_later c Set.univ (grid0.coords t) (fun hh => h ((cond_iff t).mp hh)) _ _ _ _ _ _ _ _ _ _ _ _ _ _ _ _ (iblk m c 4 t) (tile m c t) _)
    isplitl [H4]; · iexact H4
    isplitl [H5]; · iexists _; iexact H5
    isplitl [Hs]; · iexact Hs
    iintro ⟨H4, H5, Hs⟩
    isplitl [Hs Hg]
    · iapply (carried_succ m c t)
      isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at a point is the body at the point. -/
theorem defs₀_row (t : Fin cfg0.N) :
    defs₀ (F := F) .tc cfg0.body (cfg0.bodyArgs t (cfg0.slots t)) = bodyAt0 t := by
  unfold defs₀; rw [Defs.onTc_tc]

/-- The launch's body obligation, the written-out tile forgotten. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The run: every array at what the launch leaves in it, the written-out tile at anything, and every counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun c => Entails.of_eq (carried_first m c).symm) (hout := fun c => Entails.of_eq (carried_last m c))

/-- What the run says: the arguments unchanged, the counters at zero, and the result's array at what the launch leaves in it. -/
theorem run_blocks : θ_run defs (onTc (τ := τ) (main (F := F))) ⟨m, fun _ => 0, ρ⟩ (fun r => (∀ c : Dev nD,
      r.2.mem ((c.tc : Thread nD τ).loc main_v2_0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨((dats m 0 c).toRForget_arrAt_iff (fgt := forgets0) (w := 5) rfl _ _).mp ((h.1 c).1 5),
      (Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      ((h.1 c).2 main_arg4 (Pipeline.mem_restRefs_of main_arg4 (by decide) (by decide))).trans (V_main_arg4 m c)⟩, h.2⟩) (run_main m ρ)

/-- The frame: every run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).2, h.2⟩) (run_blocks m ρ)

end Cert.Query.Hand
-- ==== Proof.Query.Kernel.lean ====
/- What the launch of the retrieval query's projection leaves in its result's array, element by element. -/
module

public import proofs.«01_k».proof.Proof.Query.Body
public import proofs.«01_k».proof.Proof.Proj.Kernel
public import proofs.«01_k».proof.Proof.Norm.Math
public import Idealize.ShloMosaic.Lib.Pointwise
public import Idealize.ShloMosaic.Lib.Pipeline.ValueKit
public import Idealize.ShloMosaic.Lib.Pipeline.Covers
public import Idealize.ShloMosaic.Lib.StableHlo.ReadAt
public import Idealize.ShloMosaic.Lib.Tactic.WordOmega

@[expose] public section

set_option maxRecDepth 16384

noncomputable section

namespace Cert.Query.Kernel

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Cert.Query.Gen Cert.Query.Hand

/-- The kernel's normalised tile is the in-projection's. -/
theorem pay2_eq : k0_pay2 (F := Ideal) = Cert.Proj.Gen.k0_pay2 (F := Ideal) := rfl

/-- The kernel's result of one block is the in-projection's. -/
theorem pay4_eq : k0_pay4 (F := Ideal) = Cert.Proj.Gen.k0_pay4 (F := Ideal) := rfl

variable (m : (ℓ : Loc nD τ sig) → Buf (Elt Ideal) ℓ)

/-- The weights as the launch finds them. -/
theorem w_at (c : Dev nD) (i : Fin 2048) (j : Fin 2048) : V m c main_v0 (ix2 i j) = (m ((c : Thread nD τ).loc main_arg4) : S2048x2048.Idx → EReal) (ix2 i j) := by
  unfold V
  after_reads_at

/-- The norm's weights as the launch finds them. -/
theorem nw_at (c : Dev nD) (k : Fin 2048) : V m c main_v1 (ix2 0 k) = (m ((c : Thread nD τ).loc main_arg1) : S2048.Idx → EReal) (ix1 k) := by
  unfold V
  after_reads_at

/-- The blocks each window reads or writes at a grid point. -/
theorem index0 : ∀ t : Fin grid0.N,
    win0_0.index t = ![(grid0.coords t 0).val, (grid0.coords t 1).val, 0]
    ∧ win0_1.index t = ![0, 0]
    ∧ win0_2.index t = ![(grid0.coords t 0).val, 0, 0]
    ∧ win0_3.index t = ![(grid0.coords t 0).val, 0, 0]
    ∧ win0_4.index t = ![0, (grid0.coords t 2).val]
    ∧ win0_5.index t = ![(grid0.coords t 0).val, (grid0.coords t 1).val, (grid0.coords t 2).val] := by
  decide +kernel

/-- The launch's result at an index, from the arrays it reads. -/
def G (c : Dev nD) : S2x16384x2048.Idx → EReal := fun i =>
  NormMath.out (fun k => V m c main_arg0 (ix3 (i 0) (i 1) k)) (fun k => V m c main_v1 (ix2 0 k)) (fun k => V m c main_arg2 (ix3 (i 0) 0 k))
    (fun k => V m c main_arg3 (ix3 (i 0) 0 k)) (fun k => V m c main_v0 (ix2 k (i 2)))

/-- A block of the rows, at an element. -/
theorem blk0_at (c : Dev nD) (t : Fin cfg0.N) (r : Fin 1024) (k : Fin 2048) (b : Fin 2) (s : Fin 16384)
    (h0 : b.val = (grid0.coords t 0).val) (h1 : s.val = (grid0.coords t 1).val * 1024 + r.val) :
    iblk m c 0 t (ix3 0 r k) = V m c main_arg0 (ix3 b s k) := by
  obtain ⟨e0, e1, e2, e3, e4, e5⟩ := index0 t
  blk_ext [iblk, e0]

/-- The norm's weights in a block, at an element. -/
theorem blk1_at (c : Dev nD) (t : Fin cfg0.N) (k : Fin 2048) : iblk m c 1 t (ix2 0 k) = V m c main_v1 (ix2 0 k) := by
  obtain ⟨e0, e1, e2, e3, e4, e5⟩ := index0 t
  blk_ext [iblk, e1]

/-- A block of the scales, at an element. -/
theorem blk2_at (c : Dev nD) (t : Fin cfg0.N) (k : Fin 2048) (b : Fin 2) (h0 : b.val = (grid0.coords t 0).val) :
    iblk m c 2 t (ix3 0 0 k) = V m c main_arg2 (ix3 b 0 k) := by
  obtain ⟨e0, e1, e2, e3, e4, e5⟩ := index0 t
  blk_ext [iblk, e2]

/-- A block of the shifts, at an element. -/
theorem blk3_at (c : Dev nD) (t : Fin cfg0.N) (k : Fin 2048) (b : Fin 2) (h0 : b.val = (grid0.coords t 0).val) :
    iblk m c 3 t (ix3 0 0 k) = V m c main_arg3 (ix3 b 0 k) := by
  obtain ⟨e0, e1, e2, e3, e4, e5⟩ := index0 t
  blk_ext [iblk, e3]

/-- A block of the weights, at an element. -/
theorem blk4_at (c : Dev nD) (t : Fin cfg0.N) (k : Fin 2048) (j : Fin 512) (n : Fin 2048) (h0 : n.val = (grid0.coords t 2).val * 512 + j.val) :
    iblk m c 4 t (ix2 k j) = V m c main_v0 (ix2 k n) := by
  obtain ⟨e0, e1, e2, e3, e4, e5⟩ := index0 t
  blk_ext [iblk, e4]

/-- The array the launch leaves is `G`. -/
theorem arr_eq (c : Dev nD) : (dats m 0 c).arrAt 5 cfg0.N = G m c := by
  refine (dats m 0 c).arrAt_eq_of_covers 5 _ ((cfg0.win 5).covers_of_indexMap_surj rfl (by decide) fun β => ?_) fun t hf y => ?_
  · have h0 : (β 0).val < 2 := lt_of_lt_of_eq (β 0).isLt (by decide : (cfg0.win 5).nblk 0 = 2)
    have h1 : (β 1).val < 16 := lt_of_lt_of_eq (β 1).isLt (by decide : (cfg0.win 5).nblk 1 = 16)
    have h2 : (β 2).val < 4 := lt_of_lt_of_eq (β 2).isLt (by decide : (cfg0.win 5).nblk 2 = 4)
    obtain ⟨t, ht⟩ := grid0.coords_surjective (fun | 0 => ⟨(β 0).val, h0⟩ | 1 => ⟨(β 1).val, h1⟩ | 2 => ⟨(β 2).val, h2⟩)
    have e4 : win0_5.indexMap (grid0.coords t) = _ := (index0 t).2.2.2.2.2
    refine ⟨grid0.coords t, fun a => ?_⟩
    rw [show (cfg0.win 5).indexMap (grid0.coords t) = _ from e4, ht]
    fin_cases a <;> rfl
  · obtain ⟨e0, e1, e2, e3, e4, e5⟩ := index0 t
    blk_simp
    rw [after0_5]
    have y0 : (y 0).val < 1 := (y 0).isLt
    have y1 : (y 1).val < 1024 := (y 1).isLt
    have y2 : (y 2).val < 512 := (y 2).isLt
    have hb : (grid0.coords t 0).val < 2 := (grid0.coords t 0).isLt
    have hi : (grid0.coords t 1).val < 16 := (grid0.coords t 1).isLt
    have hj : (grid0.coords t 2).val < 4 := (grid0.coords t 2).isLt
    have a0 : ((((View.whole main_v2_0).slice (win0_5.rect t)).emb y) 0).val = (grid0.coords t 0).val := by
      blk_simp [e5]
    have a1 : ((((View.whole main_v2_0).slice (win0_5.rect t)).emb y) 1).val = (grid0.coords t 1).val * 1024 + (y 1).val := by
      blk_simp [e5]
    have a2 : ((((View.whole main_v2_0).slice (win0_5.rect t)).emb y) 2).val = (grid0.coords t 2).val * 512 + (y 2).val := by
      blk_simp [e5]
    rw [pay4_eq]
    refine (Cert.Proj.Kernel.pay4_at _ _ y).trans ?_
    unfold G NormMath.out
    generalize ((View.whole main_v2_0).slice (win0_5.rect t)).emb y = J at a0 a1 a2 ⊢
    have c0 : (fun k : Fin 2048 => iblk m c 0 t (ix3 0 (y 1) k)) = fun k => V m c main_arg0 (ix3 (J 0) (J 1) k) := funext fun k => blk0_at m c t _ k _ _ a0 a1
    have c1 : (fun k : Fin 2048 => iblk m c 1 t (ix2 0 k)) = fun k => V m c main_v1 (ix2 0 k) := funext fun k => blk1_at m c t k
    have c2 : (fun k : Fin 2048 => iblk m c 2 t (ix3 0 0 k)) = fun k => V m c main_arg2 (ix3 (J 0) 0 k) := funext fun k => blk2_at m c t k _ a0
    have c3 : (fun k : Fin 2048 => iblk m c 3 t (ix3 0 0 k)) = fun k => V m c main_arg3 (ix3 (J 0) 0 k) := funext fun k => blk3_at m c t k _ a0
    refine Finset.sum_congr rfl fun k _ => ?_
    refine congrArg₂ (fun a b : EReal => a * b) ?_ (blk4_at m c t k (y 2) (J 2) a2)
    unfold tile
    rw [pay2_eq]
    exact (Cert.Proj.Kernel.pay2_at _ _ _ _ (y 1) k).trans (congrFun (congr (congr (congr (congrArg NormMath.ada c0) c1) c2) c3) k)

end Cert.Query.Kernel

end
-- ==== Proof.Query.Ref.lean ====
/- The reference's retrieval query projection, element by element. -/
module

public import proofs.«01_k».proof.Proof.Gen.QueryRefIdeal
public import proofs.«01_k».proof.Proof.Gen.QueryRefIdeal.Run
public import proofs.«01_k».proof.Proof.Proj.Ref
public import Idealize.ShloMosaic.Lib.Pointwise

@[expose] public section

set_option maxRecDepth 16384

noncomputable section

namespace Cert.QueryRefIdeal.Value

open Cert.QueryRefIdeal Cert.QueryRefIdeal.Gen Idealize.ShloMosaic Idealize.ShloMosaic.TcCoe

/-- The reference's result. -/
def res (x : FVec Ideal S2x16384x2048 .f32) (nw : FVec Ideal S2048 .f32) (sc sh : FVec Ideal S2x1x2048 .f32) (w : FVec Ideal S2048x2048 .f32) : FVec Ideal S2x16384x2048 .f32 := Host.dotGeneral dot_S2x16384x2048_S2048x2048_S2x16384x2048_2_0_01_1_n_n none (Cert.ProjRefIdeal.Value.hV x nw sc sh) w

/-- The reference's result at an index. -/
theorem res_at (x : FVec Ideal S2x16384x2048 .f32) (nw : FVec Ideal S2048 .f32) (sc sh : FVec Ideal S2x1x2048 .f32) (w : FVec Ideal S2048x2048 .f32) (i : S2x16384x2048.Idx) : res x nw sc sh w i =
    NormMath.out (fun k => x (ix3 (i 0) (i 1) k)) (fun k => nw (ix1 k)) (fun k => sc (ix3 (i 0) 0 k)) (fun k => sh (ix3 (i 0) 0 k)) (fun k => w (ix2 k (i 2))) := by
  unfold res NormMath.out
  pointwise
  exact Finset.sum_congr rfl fun k _ => congrArg (fun a : EReal => a * w (ix2 k (i 2))) (Cert.ProjRefIdeal.Value.hV_at x nw sc sh (i 0) (i 1) k)

end Cert.QueryRefIdeal.Value

end
-- ==== Proof.Query.Claims.lean ====
/- The claims of the retrieval query's projection: its frames, and its equality with its reference. -/
module

public import proofs.«01_k».proof.Defs
public import proofs.«01_k».proof.Proof.Gen.QueryIdeal
public import proofs.«01_k».proof.Proof.Query.Body
public import proofs.«01_k».proof.Proof.Query.Kernel
public import proofs.«01_k».proof.Proof.Query.Ref
public import Idealize.ShloMosaic.Lib.Quiescent

@[expose] public section

set_option maxRecDepth 16384

noncomputable section

namespace Cert.QueryClaims

open Idealize.ShloMosaic Idealize.ShloMosaic.TcCoe Idealize.SL.Sem

attribute [local instance] Cert.Query.Gen.facts Cert.QueryIdeal.Gen.facts

/-- The kernel and its idealization have the same launch bodies. -/
theorem bodies_eq : Cert.QueryIdeal.defs₀ (F := Ideal) = Cert.Query.defs₀ (F := Ideal) := by
  unfold Cert.QueryIdeal.defs₀ Cert.Query.defs₀
  refine congrArg (Defs.onTc (sig := Cert.Query.sig) (Λ := Cert.Query.Λ₀)) ?_
  funext l x
  match l, x with
  | 0, (t, s) => rfl

/-- The kernel and its idealization have the same launches. -/
theorem defs_eq : Cert.QueryIdeal.defs (F := Ideal) = Cert.Query.defs (F := Ideal) := by
  unfold Cert.QueryIdeal.defs Cert.Query.defs
  exact congrArg (Pipeline.defs (Cert.Query.pcfgs (F := Ideal))) bodies_eq

/-- The kernel and its idealization have the same host program. -/
theorem main_eq : Cert.QueryIdeal.main (F := Ideal) = Cert.Query.main (F := Ideal) := rfl

/-- What holds of the kernel's runs over the extended reals holds of its idealization's runs. -/
theorem transfer (m : (ℓ : Loc Cert.Query.nD Cert.Query.τ Cert.Query.sig) → Buf (Elt Ideal) ℓ) (g : Dev Cert.Query.nD → PrngReg) {Q : _ → Prop}
    (h : θ_run (Cert.Query.defs (F := Ideal)) (onTc (τ := Cert.Query.τ) (Cert.Query.main (F := Ideal))) ⟨m, fun _ => 0, g⟩ Q) :
    θ_run (Cert.QueryIdeal.defs (F := Ideal)) (onTc (τ := Cert.QueryIdeal.τ) (Cert.QueryIdeal.main (F := Ideal))) ⟨m, fun _ => 0, g⟩ Q := by
  rw [defs_eq, main_eq]
  exact h

/-- The kernel runs, keeps its arguments, and ends with its counters at zero. -/
theorem frame : Cert.quiescent_Query (hQuery := Cert.Query.Gen.facts) :=
  fun m g _ => Cert.Query.Hand.frame (F := Bits) m g

/-- The idealization runs, keeps its arguments, and ends with its counters at zero. -/
theorem frame_ideal : Cert.quiescent_QueryIdeal (hQueryIdeal := Cert.QueryIdeal.Gen.facts) :=
  fun m g _ => transfer m g (Cert.Query.Hand.frame (F := Ideal) m g)

/-- The reference runs, keeps its arguments, and ends with its counters at zero. -/
theorem frame_ref : Cert.quiescent_QueryRefIdeal (hQueryRefIdeal := Cert.QueryRefIdeal.Gen.facts) := fun m g _ =>
  (θ_run _ _ _).mono (fun r h => ⟨fun c => (h c).2, sem_eq_zero_of_no_sems (by decide) _⟩) (Cert.QueryRefIdeal.Value.run (F := Ideal) m g)

section
open Cert.Query Cert.Query.Gen
variable (m : (ℓ : Loc nD τ sig) → Buf (Elt Ideal) ℓ)

/-- The array the launch leaves is the reference's function of the program's arguments. -/
theorem result_eq (c : Dev nD) :
    (Cert.Query.Hand.dats m 0 c).arrAt 5 cfg0.N
      = Cert.QueryRefIdeal.Value.res (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (Cert.Query.Kernel.arr_eq m c).trans (funext fun (i : S2x16384x2048.Idx) => ?_)
  refine Eq.trans ?_ (Cert.QueryRefIdeal.Value.res_at _ _ _ _ _ i).symm
  unfold Cert.Query.Kernel.G
  have hn : (fun k : Fin 2048 => (V m c main_v1 (ix2 0 k) : EReal)) = fun k => (m ((c.tc : Thread nD τ).loc main_arg1) : S2048.Idx → EReal) (ix1 k) :=
    funext fun k => Cert.Query.Kernel.nw_at m c k
  have hw : (fun k : Fin 2048 => (V m c main_v0 (ix2 k (i 2)) : EReal)) = fun k => (m ((c.tc : Thread nD τ).loc main_arg4) : S2048x2048.Idx → EReal) (ix2 k (i 2)) :=
    funext fun k => Cert.Query.Kernel.w_at m c k (i 2)
  rw [hn, hw, V_main_arg0, V_main_arg2, V_main_arg3]
end

/-- The kernel and the reference end with equal results. -/
theorem algebraic : Cert.algebraic_QueryIdeal_QueryRefIdeal
    (hQueryIdeal := Cert.QueryIdeal.Gen.facts) (hQueryRefIdeal := Cert.QueryRefIdeal.Gen.facts) := by
  intro m g m' g' hp ha
  refine ⟨fun c => (Cert.Query.Hand.dats (F := Ideal) m 0 c).arrAt 5 Cert.Query.cfg0.N,
    transfer m g ((θ_run _ _ _).mono (fun r h => h.1) (Cert.Query.Hand.run_blocks (F := Ideal) m g)), ?_⟩
  refine (θ_run _ _ _).mono (fun r h c => ⟨(h c).1.trans ?_, (h c).2⟩) (Cert.QueryRefIdeal.Value.run (F := Ideal) m' g')
  obtain ⟨a0, a1, a2, a3, a4⟩ := ha c
  rw [a0, a1, a2, a3, a4]
  exact (result_eq m c).symm

end Cert.QueryClaims

end
-- ==== Proof.Cmp.Run.lean ====
/- The run of the idealized compressed-attention program, with the array it returns. The launch set-up is the generated frame's. -/
module

public import proofs.«01_k».proof.Proof.Gen.CmpIdeal.Frame

@[expose] public section

set_option maxRecDepth 16384

noncomputable section

namespace Cert.CmpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CmpIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the program ends with the result array at the last boundary's contents and the arguments as launched. -/
theorem run : θ_run defs (onTc (τ := τ) (main (F := F))) ⟨m, fun _ => 0, ρ⟩ (fun r => ∀ c : Dev nD,
      r.2.mem ((c.tc : Thread nD τ).loc main_v105_0) = Gen.W7 m ρ c (Proc.devRef .tc main_v105_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => (fun c =>
      ⟨h c _ (mem_uc main_v105_0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩))

end Cert.CmpIdeal.Run

end
-- ==== Proof.Cmp.Wide.lean ====
/- The compressed-attention kernel's arithmetic at any number of far keys: scores, weights and the weighted sum, element by element. -/
module

public import Idealize.ShloMosaic.Lib.Pointwise
public import Idealize.ShloMosaic.Lib.ValueIdx
public import Idealize.ShloMosaic.Lib.Pipeline.ValueKit

@[expose] public section

set_option maxRecDepth 16384

noncomputable section

namespace Cert.CmpIdeal.Pay

open Idealize.ShloMosaic Idealize.ShloMosaic.TcCoe Idealize.ShloMosaic.Tactic

/-- The largest of the far and the near scores. -/
def mx {W : ℕ} (s : Fin W → EReal) (t : Fin 128 → EReal) : EReal := max (Finset.univ.fold max ⊥ s) (Finset.univ.fold max ⊥ t)

/-- The sum of the far and the near weights. -/
def den {W : ℕ} (s : Fin W → EReal) (t : Fin 128 → EReal) : EReal :=
  ∑ n, Ideal.exp (s n - mx s t) + ∑ n, Ideal.exp (t n - mx s t)

/-- The masked, normalized weights over the far and the near values. -/
def comb {W : ℕ} (k : Fin W → BitVec 1) (s v : Fin W → EReal) (k' : Fin 128 → BitVec 1) (t v' : Fin 128 → EReal) : EReal :=
  ∑ n, (Scalar.select (k n) (Ideal.div (Ideal.exp (s n - mx s t)) (den s t) * v n) (0 : EReal) : EReal)
    + ∑ n, (Scalar.select (k' n) (Ideal.div (Ideal.exp (t n - mx s t)) (den s t) * v' n) (0 : EReal) : EReal)

/-- The bit of a far key: it lies before the near keys of the block of queries. -/
def fbit (qb n : ℕ) : BitVec 1 := if n + 120 < 8 * qb then 1#1 else 0#1

/-- The bit of a near column: it holds a key, and its bias is not the mask. -/
def nbit (qb : ℕ) (tb : Fin 128 → EReal) (n : Fin 128) : BitVec 1 := if 120 ≤ 8 * qb + n.val ∧ ⊥ < tb n then 1#1 else 0#1

/-- A far key's score. -/
def sF {W : ℕ} (qb : ℕ) (q : Fin 64 → EReal) (k : Fin W → Fin 64 → EReal) (f : EReal) (n : Fin W) : EReal :=
  Scalar.select (fbit qb n.val) (∑ d, q d * k n d + f) ⊥

/-- A near column's score. -/
def sN (qb : ℕ) (q : Fin 64 → EReal) (k : Fin 128 → Fin 64 → EReal) (tb : Fin 128 → EReal) (n : Fin 128) : EReal :=
  Scalar.select (nbit qb tb n) (∑ d, q d * k n d + tb n) ⊥

/-- One element of the kernel's result. -/
def att {W : ℕ} (qb : ℕ) (q : Fin 64 → EReal) (kF : Fin W → Fin 64 → EReal) (vF : Fin W → EReal) (f : EReal)
    (kN : Fin 128 → Fin 64 → EReal) (vN tb : Fin 128 → EReal) : EReal :=
  comb (fun n => fbit qb n.val) (sF qb q kF f) vF (nbit qb tb) (sN qb q kN tb) vN

theorem ofBits_neg_inf : Ideal.ofBits FTy.f32 4286578688#32 = ⊥ := by
  first | rfl | decide | simp

theorem ofBits_zero : Ideal.ofBits FTy.f32 0#32 = 0 := by
  simp [Ideal.ofBits, Ideal.ieee]

/-- The number of far keys of a block of queries, as the kernel's word. -/
def far (qb : ℕ) : BitVec 32 := Scalar.subi (Scalar.muli (BitVec.ofNat 32 qb) 8#32) 120#32

theorem far_toInt (qb : ℕ) (h : qb < 128) : (far qb).toInt = 8 * (qb : ℤ) - 120 := by
  unfold far Scalar.subi Scalar.muli IntOp.subi IntOp.muli
  simp only [BitVec.toInt_eq_toNat_cond, BitVec.toNat_sub, BitVec.toNat_mul, BitVec.toNat_ofNat]
  omega

theorem neg_far_toInt (qb : ℕ) (h : qb < 128) : (Scalar.subi 0#32 (far qb) : BitVec 32).toInt = 120 - 8 * (qb : ℤ) := by
  unfold far Scalar.subi Scalar.muli IntOp.subi IntOp.muli
  simp only [BitVec.toInt_eq_toNat_cond, BitVec.toNat_sub, BitVec.toNat_mul, BitVec.toNat_ofNat]
  omega

theorem col_toInt (n : ℕ) (h : n < 2048) : (BitVec.ofNat 32 n).toInt = n := by
  simp only [BitVec.toInt_eq_toNat_cond, BitVec.toNat_ofNat]
  omega

/-- The kernel's test for a far key. -/
theorem far_test (qb : ℕ) (h : qb < 128) (n : ℕ) (hn : n < 2048) :
    IntOp.cmpi CmpIPredicate.slt (BitVec.ofNat 32 n) (far qb) = fbit qb n := by
  unfold IntOp.cmpi fbit
  simp only [BitVec.slt, far_toInt qb h, col_toInt n hn]
  by_cases hh : n + 120 < 8 * qb
  · rw [if_pos hh, decide_eq_true (by omega)]; rfl
  · rw [if_neg hh, decide_eq_false (by omega)]; rfl

/-- The kernel's test for a near column. -/
theorem near_test (qb : ℕ) (h : qb < 128) (n : Fin 128) (tb : Fin 128 → EReal) :
    IntOp.andi (IntOp.cmpi CmpIPredicate.sge (BitVec.ofNat 32 n.val) (Scalar.subi 0#32 (far qb))) (if ⊥ < tb n then 1#1 else 0#1) = nbit qb tb n := by
  unfold IntOp.cmpi nbit
  simp only [BitVec.sle, neg_far_toInt qb h, col_toInt n.val (by omega)]
  by_cases hh : 120 ≤ 8 * qb + n.val
  · rw [decide_eq_true (by omega)]
    by_cases h2 : ⊥ < tb n
    · rw [if_pos h2, if_pos ⟨hh, h2⟩]; rfl
    · rw [if_neg h2, if_neg (fun h => h2 h.2)]; rfl
  · rw [decide_eq_false (by omega), if_neg (show ¬ (120 ≤ 8 * qb + n.val ∧ ⊥ < tb n) from fun h => hh h.1)]
    by_cases h2 : ⊥ < tb n
    · rw [if_pos h2]; rfl
    · rw [if_neg h2]; rfl

/-- A matrix's shape. -/
abbrev T (a b : ℕ) : Shape := ⟨2, ![a, b]⟩

/-- The product of two matrices along their rows. -/
abbrev dotNT (a b c : ℕ) (wf : DotDims.WF (T a c) (T b c) (T a b) [1] [1] [0] [0] [] []) : DotDims (T a c) (T b c) (T a b) where
  lhsContracting := [1]
  rhsContracting := [1]
  lhsNonContracting := [0]
  rhsNonContracting := [0]
  lhsBatch := []
  rhsBatch := []
  wf := wf

/-- The product of two matrices. -/
abbrev dotNN (a b c : ℕ) (wf : DotDims.WF (T a c) (T c b) (T a b) [1] [0] [0] [1] [] []) : DotDims (T a c) (T c b) (T a b) where
  lhsContracting := [1]
  rhsContracting := [0]
  lhsNonContracting := [0]
  rhsNonContracting := [1]
  lhsBatch := []
  rhsBatch := []
  wf := wf

/-- The product of two matrices, at an element. -/
theorem dotNN_at (a b c : ℕ) (wf) {φ₁ φ₂ : FTy} (lhs : FVec Ideal (T a c) φ₁) (rhs : FVec Ideal (T c b) φ₂) (acc : FVec Ideal (T a b) .f32) (r : Fin a) (n : Fin b) :
    Ideal.matmul (dotNN a b c wf) lhs rhs acc (ix2 r n) = acc (ix2 r n) + ∑ k : Fin c, lhs (ix2 r k) * rhs (ix2 k n) := by
  refine Ideal.matmul_apply₁_of (dotNN a b c wf) (a := 1) rfl rfl lhs rhs acc (ix2 r n) (fun k => ix2 r k) (fun k => ix2 k n) (fun k => ?_) (fun k => ?_)
  · funext x
    match x with
    | ⟨0, _⟩ => rfl
    | ⟨1, _⟩ => rfl
  · funext x
    match x with
    | ⟨0, _⟩ => rfl
    | ⟨1, _⟩ => rfl

section Wide

variable {W : ℕ} (wfS : DotDims.WF (T 1024 64) (T W 64) (T 1024 W) [1] [1] [0] [0] [] [])
  (hi : (T 1 W).Iotas .tc 32 [1]) (hb1 : (T 1024 1).Broadcasts (T 1024 W)) (hcc : (T 1 W).ShapeCasts (T 1 W)) (hbr : (T 1 W).Broadcasts (T 1024 W))
  (hr : (T 1024 W).Reduces [1] ⟨1, ![1024]⟩) (hr' : (T 1024 128).Reduces [1] ⟨1, ![1024]⟩) (hc : (⟨1, ![1024]⟩ : Shape).ShapeCasts (T 1024 1))
  (hb1' : (T 1024 1).Broadcasts (T 1024 128))
  (wfO : DotDims.WF (T 1024 W) (T W 64) (T 1024 64) [1] [0] [0] [1] [] []) (wfO' : DotDims.WF (T 1024 128) (T 128 64) (T 1024 64) [1] [0] [0] [1] [] [])
  (ho : (T 1024 64).ShapeCasts ⟨3, ![8, 128, 64]⟩) (ho' : (⟨3, ![8, 128, 64]⟩ : Shape).ShapeCasts ⟨5, ![1, 1, 8, 128, 64]⟩)

/-- A load of far keys, as the matrix that the products take. -/
def wKeys (hk : (⟨5, ![1, 1, 1, W, 64]⟩ : Shape).ShapeCasts (T W 64)) (x : FVec Ideal ⟨5, ![1, 1, 1, W, 64]⟩ .f32) : FVec Ideal (T W 64) .bf16 :=
  truncf .bf16 (shapeCast (T W 64) x hk) (by decide)

theorem wKeys_at (hk : (⟨5, ![1, 1, 1, W, 64]⟩ : Shape).ShapeCasts (T W 64)) (x : FVec Ideal ⟨5, ![1, 1, 1, W, 64]⟩ .f32) (n : Fin W) (d : Fin 64) :
    wKeys hk x (ix2 n d) = x (ix5 0 0 0 n d) := by
  unfold wKeys
  pointwise
  refine congrArg x (Shape.reshapeEquiv_eq_of_rowMajor _ ?_)
  rw [rowMajor_val5 (σ0 := W * 64) (σ1 := W * 64) (σ2 := W * 64) (σ3 := 64) _ (by simp) (by simp) (by simp) (by simp),
    rowMajor_val2 (σ0 := 64) _ (by simp)]
  simp

/-- The bits of the far keys. -/
def wBit (f : BitVec 32) : IVec (T 1 W) 1 := cmpi .slt (iota .tc (T 1 W) 32 [1] hi) (broadcast (T 1 W) f)

/-- The far keys' scores. -/
def wScore (f : BitVec 32) (q : FVec Ideal (T 1024 64) .bf16) (k : FVec Ideal (T W 64) .bf16) (x : FVec Ideal (T 1024 1) .f32) (msk : Ideal .f32) : FVec Ideal (T 1024 W) .f32 :=
  select (broadcastTo (T 1024 W) (shapeCast (T 1 W) (wBit hi f) hcc) hbr)
    (addf (matmul (dotNT 1024 W 64 wfS) none q k (constant (T 1024 W) .f32 0x00000000#32)) (broadcastTo (T 1024 W) x hb1))
    (broadcast (T 1024 W) msk)

/-- The largest scores of the rows. -/
def wMax (s : FVec Ideal (T 1024 W) .f32) (t : FVec Ideal (T 1024 128) .f32) : FVec Ideal (T 1024 1) .f32 :=
  maximumf (shapeCast (T 1024 1) (multiReduction .maximumf [1] ⟨1, ![1024]⟩ s 0xFF800000#32 hr (.inl rfl) rfl) hc)
    (shapeCast (T 1024 1) (multiReduction .maximumf [1] ⟨1, ![1024]⟩ t 0xFF800000#32 hr' (.inl rfl) rfl) hc)

/-- The rows' weights before division. -/
def wExp {N : ℕ} (hb : (T 1024 1).Broadcasts (T 1024 N)) (s : FVec Ideal (T 1024 N) .f32) (x : FVec Ideal (T 1024 1) .f32) : FVec Ideal (T 1024 N) .f32 :=
  exp (subf s (broadcastTo (T 1024 N) x hb))

/-- The rows' sums of weights. -/
def wDen (e : FVec Ideal (T 1024 W) .f32) (e' : FVec Ideal (T 1024 128) .f32) : FVec Ideal (T 1024 1) .f32 :=
  addf (shapeCast (T 1024 1) (multiReduction .add [1] ⟨1, ![1024]⟩ e 0x00000000#32 hr (.inl rfl) rfl) hc)
    (shapeCast (T 1024 1) (multiReduction .add [1] ⟨1, ![1024]⟩ e' 0x00000000#32 hr' (.inl rfl) rfl) hc)

/-- The masked weights. -/
def wProb {N : ℕ} (hb : (T 1024 1).Broadcasts (T 1024 N)) (k : IVec (T 1024 N) 1) (e : FVec Ideal (T 1024 N) .f32) (x : FVec Ideal (T 1024 1) .f32) : FVec Ideal (T 1024 N) .f32 :=
  select k (divf e (broadcastTo (T 1024 N) x hb)) (broadcast (T 1024 N) (Scalar.ofBits .f32 0x00000000#32 : Ideal .f32))

/-- The kernel's result from the scores, the bits and the values. -/
def wOut (kf : IVec (T 1 W) 1) (s : FVec Ideal (T 1024 W) .f32) (v : FVec Ideal (T W 64) .bf16)
    (k : IVec (T 1024 128) 1) (t : FVec Ideal (T 1024 128) .f32) (v' : FVec Ideal (T 128 64) .bf16) : FVec Ideal ⟨5, ![1, 1, 8, 128, 64]⟩ .f32 :=
  shapeCast ⟨5, ![1, 1, 8, 128, 64]⟩ (shapeCast ⟨3, ![8, 128, 64]⟩
    (addf
      (matmul (dotNN 1024 64 W wfO) none
        (truncf .bf16 (wProb hb1 (broadcastTo (T 1024 W) (shapeCast (T 1 W) kf hcc) hbr) (wExp hb1 s (wMax hr hr' hc s t))
          (wDen hr hr' hc (wExp hb1 s (wMax hr hr' hc s t)) (wExp hb1' t (wMax hr hr' hc s t)))) (by decide)) v (constant (T 1024 64) .f32 0x00000000#32))
      (matmul (dotNN 1024 64 128 wfO') none
        (truncf .bf16 (wProb hb1' k (wExp hb1' t (wMax hr hr' hc s t))
          (wDen hr hr' hc (wExp hb1 s (wMax hr hr' hc s t)) (wExp hb1' t (wMax hr hr' hc s t)))) (by decide)) v' (constant (T 1024 64) .f32 0x00000000#32))) ho) ho'

/-- The bits of the far keys, at an element. -/
theorem wBit_at (qb : ℕ) (h : qb < 128) (hW : W < 2048) (r : Fin 1024) (n : Fin W) :
    broadcastTo (T 1024 W) (shapeCast (T 1 W) (wBit hi (far qb)) hcc) hbr (ix2 r n) = fbit qb n.val := by
  unfold wBit
  pointwise
  refine Eq.trans (congrArg (fun z => IntOp.cmpi .slt (BitVec.ofNat 32 z) (far qb)) ?_) (far_test qb h n.val (by omega))
  by_cases hw : W = 1
  · subst hw
    have := n.isLt
    simp [Shape.Idx.norm]
  · simp [Shape.Idx.norm, hw]

/-- The far keys' scores at an element. -/
theorem wScore_at (qb : ℕ) (h : qb < 128) (hW : W < 2048) (q : FVec Ideal (T 1024 64) .bf16) (k : FVec Ideal (T W 64) .bf16) (x : FVec Ideal (T 1024 1) .f32) (msk : Ideal .f32) (hm : msk = (⊥ : EReal))
    (r : Fin 1024) (n : Fin W) :
    wScore wfS hi hb1 hcc hbr (far qb) q k x msk (ix2 r n) = sF qb (fun d => q (ix2 r d)) (fun n d => k (ix2 n d)) (x (ix2 r 0)) n := by
  subst hm
  have hB := wBit_at (W := W) hi hcc hbr qb h hW
  unfold wScore
  generalize broadcastTo (T 1024 W) (shapeCast (T 1 W) (wBit hi (far qb)) hcc) hbr = B at hB
  pointwise
  rw [hB]
  unfold sF
  refine congrArg (fun z => Scalar.select _ (z + _) _) (Finset.sum_congr rfl fun y _ => congrArg (fun z => q (ix2 r y) * k z) ?_)
  funext a
  match a with
  | ⟨0, _⟩ => rfl
  | ⟨1, _⟩ => rfl

/-- The kernel's result at an element. -/
theorem wOut_at (qb : ℕ) (h : qb < 128) (hW : W < 2048) (s : FVec Ideal (T 1024 W) .f32) (v : FVec Ideal (T W 64) .bf16)
    (k : IVec (T 1024 128) 1) (t : FVec Ideal (T 1024 128) .f32) (v' : FVec Ideal (T 128 64) .bf16) (g : Fin 8) (r : Fin 128) (d : Fin 64) :
    wOut hb1 hcc hbr hr hr' hc hb1' wfO wfO' ho ho' (wBit hi (far qb)) s v k t v' (ix5 0 0 g r d)
      = comb (fun n => fbit qb n.val) (fun n => s (ix2 ⟨g.val * 128 + r.val, by omega⟩ n)) (fun n => v (ix2 n d))
          (fun n => k (ix2 ⟨g.val * 128 + r.val, by omega⟩ n)) (fun n => t (ix2 ⟨g.val * 128 + r.val, by omega⟩ n)) (fun n => v' (ix2 n d)) := by
  have hB := wBit_at (W := W) hi hcc hbr qb h hW
  unfold wOut wProb wDen wExp wMax
  generalize broadcastTo (T 1024 W) (shapeCast (T 1 W) (wBit hi (far qb)) hcc) hbr = B at hB
  pointwise
  rw [dotNN_at]
  pointwise
  simp only [ofBits_neg_inf, ofBits_zero, hB]
  unfold comb den mx
  rfl

end Wide

end Cert.CmpIdeal.Pay

end
-- ==== Proof.Cmp.Pay.lean ====
/- The compressed-attention kernel's payloads, element by element: one weighted sum over far keys and near keys, at each of the four widths. -/
module

public import proofs.«01_k».proof.Proof.Gen.CmpIdeal.Frame
public import proofs.«01_k».proof.Proof.Cmp.Wide
public import Idealize.ShloMosaic.Lib.Pointwise
public import Idealize.ShloMosaic.Lib.Pipeline.ValueKit

@[expose] public section

set_option maxRecDepth 16384

noncomputable section

namespace Cert.CmpIdeal.Pay

open Idealize.ShloMosaic Idealize.ShloMosaic.TcCoe Idealize.ShloMosaic.Tactic
open Cert.CmpIdeal.Gen

theorem mask_bot : (Named.named (F := Ideal) κ "mask" (φ := .f32) 0xF149F2CA#32) = (⊥ : EReal) := by
  first | rfl | simp [Named.named]

theorem half_bot : (Named.named (F := Ideal) κ "half" (φ := .f32) 0xF0C9F2CA#32) = (⊥ : EReal) := by
  first | rfl | simp [Named.named]

/-- The near columns' bits. -/
theorem pay9_at (qb : ℕ) (h : qb < 128) (x3 : Vec Ideal S1x8x128x128 .f32) (g : Fin 8) (r n : Fin 128) :
    k1_pay9 (F := Ideal) (far qb) x3 (ix2 ⟨g.val * 128 + r.val, by omega⟩ n) = nbit qb (fun n => x3 (ix4 0 g r n)) n := by
  unfold k1_pay9 k1_pay8
  pointwise
  have e1 : (g.val * 128 + r.val) / 128 = g.val := by omega
  have e2 : (g.val * 128 + r.val) % 128 = r.val := by omega
  simp only [e1, e2, half_bot]
  refine Eq.trans ?_ (near_test qb h n _)
  refine congrArg (IntOp.andi _) ?_
  show Ideal.cmp CmpFPredicate.ogt _ _ = _
  simp only [Ideal.cmp]
  by_cases hb : (⊥ : EReal) < x3 (ix4 0 g r n)
  · rw [decide_eq_true hb, if_pos hb]; rfl
  · rw [decide_eq_false hb, if_neg hb]; rfl

/-- The near columns' scores. -/
theorem pay10_at (qb : ℕ) (h : qb < 128) (x0 : Vec Ideal S1x1x8x128x64 .bf16) (kN : Vec Ideal S1x1x1x128x64 .f32) (x3 : Vec Ideal S1x8x128x128 .f32)
    (g : Fin 8) (r n : Fin 128) :
    k1_pay10 (F := Ideal) (far qb) (k1_pay2 x0) (k1_pay4 kN) x3 (ix2 ⟨g.val * 128 + r.val, by omega⟩ n)
      = sN qb (fun d => x0 (ix5 0 0 g r d)) (fun n d => kN (ix5 0 0 0 n d)) (fun n => x3 (ix4 0 g r n)) n := by
  have hk := pay9_at qb h x3 g r n
  unfold k1_pay10 k1_pay8 k1_pay4 k1_pay2
  generalize k1_pay9 (F := Ideal) (far qb) x3 = k at hk
  pointwise
  have e1 : (g.val * 128 + r.val) / 128 = g.val := by omega
  have e2 : (g.val * 128 + r.val) % 128 = r.val := by omega
  simp only [e1, e2, hk, mask_bot]
  rfl

/-- The queries, as the matrix that the products take. -/
theorem q_read (x0 : Vec Ideal S1x1x8x128x64 .bf16) (g : Fin 8) (r : Fin 128) (d : Fin 64) :
    k1_pay2 (F := Ideal) x0 (ix2 ⟨g.val * 128 + r.val, by omega⟩ d) = x0 (ix5 0 0 g r d) := by
  unfold k1_pay2
  pointwise

/-- The far biases, as a column. -/
theorem x_read (x4 : Vec Ideal S1x1024x1 .f32) (r : Fin 1024) :
    shapeCast S1024x1 x4 shapeCasts_S1x1024x1_S1024x1 (ix2 r 0) = x4 (ix3 0 r 0) := by
  pointwise

/-- The near values, as the matrix that the product takes. -/
theorem vN_read (vN : Vec Ideal S1x1x1x128x64 .f32) (n : Fin 128) (d : Fin 64) : k1_pay5 (F := Ideal) vN (ix2 n d) = vN (ix5 0 0 0 n d) := by
  unfold k1_pay5
  pointwise

/-- The kernel's result at any number of far keys: the weighted sum over far and near keys. -/
theorem out_at {W : ℕ} (hW : W < 2048) (wfS : DotDims.WF (T 1024 64) (T W 64) (T 1024 W) [1] [1] [0] [0] [] []) (hi : (T 1 W).Iotas .tc 32 [1])
    (hb : (T 1024 1).Broadcasts (T 1024 W)) (hcc : (T 1 W).ShapeCasts (T 1 W)) (hbr : (T 1 W).Broadcasts (T 1024 W)) (hr : (T 1024 W).Reduces [1] ⟨1, ![1024]⟩)
    (wfO : DotDims.WF (T 1024 W) (T W 64) (T 1024 64) [1] [0] [0] [1] [] []) (hk : (⟨5, ![1, 1, 1, W, 64]⟩ : Shape).ShapeCasts (T W 64))
    (qb : ℕ) (h : qb < 128) (x0 : Vec Ideal S1x1x8x128x64 .bf16) (kF vF : Vec Ideal ⟨5, ![1, 1, 1, W, 64]⟩ .f32) (kN vN : Vec Ideal S1x1x1x128x64 .f32)
    (x3 : Vec Ideal S1x8x128x128 .f32) (x4 : Vec Ideal S1x1024x1 .f32) (g : Fin 8) (r : Fin 128) (d : Fin 64) :
    wOut hb hcc hbr hr reduces_S1024x128_S1024 shapeCasts_S1024_S1024x1 broadcasts_S1024x1_S1024x128 wfO dot_S1024x128_S128x64_S1024x64_1_0_0_1_n_n_wf
        shapeCasts_S1024x64_S8x128x64 shapeCasts_S8x128x64_S1x1x8x128x64 (wBit hi (far qb))
        (wScore wfS hi hb hcc hbr (far qb) (k1_pay2 x0) (wKeys hk kF) (shapeCast S1024x1 x4 shapeCasts_S1x1024x1_S1024x1) (Named.named κ "mask" 0xF149F2CA#32))
        (wKeys hk vF) (k1_pay9 (far qb) x3) (k1_pay10 (far qb) (k1_pay2 x0) (k1_pay4 kN) x3) (k1_pay5 vN) (ix5 0 0 g r d)
      = att qb (fun d => x0 (ix5 0 0 g r d)) (fun n d => kF (ix5 0 0 0 n d)) (fun n => vF (ix5 0 0 0 n d)) (x4 (ix3 0 ⟨g.val * 128 + r.val, by omega⟩ 0))
          (fun n d => kN (ix5 0 0 0 n d)) (fun n => vN (ix5 0 0 0 n d)) (fun n => x3 (ix4 0 g r n)) := by
  refine (wOut_at hi hb hcc hbr hr _ _ _ wfO _ _ _ qb h hW _ _ _ _ _ g r d).trans ?_
  unfold att
  congr 1
  · funext n
    refine (wScore_at wfS hi hb hcc hbr qb h hW _ _ _ _ mask_bot _ n).trans ?_
    simp only [q_read, wKeys_at]
    exact congrArg (fun x => sF qb _ _ x n) (x_read x4 _)
  · funext n; exact wKeys_at hk vF n d
  · funext n; exact pay9_at qb h x3 g r n
  · funext n; exact pay10_at qb h x0 kN x3 g r n
  · funext n; exact vN_read vN n d

/-- The kernel's result, at width 256. -/
theorem out256_at (qb : ℕ) (h : qb < 128) (x0 : Vec Ideal S1x1x8x128x64 .bf16) (kF vF : Vec Ideal S1x1x1x256x64 .f32) (kN vN : Vec Ideal S1x1x1x128x64 .f32)
    (x3 : Vec Ideal S1x8x128x128 .f32) (x4 : Vec Ideal S1x1024x1 .f32) (g : Fin 8) (r : Fin 128) (d : Fin 64) :
    k1_pay66 (F := Ideal) (k1_pay17 (far qb) (k1_pay2 x0) (k1_pay3 vF) (k1_pay4 kN) (k1_pay5 vN) (k1_pay6 (far qb)) (k1_pay7 (far qb) x0 kF x4) x3)
        (ix5 0 0 g r d)
      = att qb (fun d => x0 (ix5 0 0 g r d)) (fun n d => kF (ix5 0 0 0 n d)) (fun n => vF (ix5 0 0 0 n d)) (x4 (ix3 0 ⟨g.val * 128 + r.val, by omega⟩ 0))
          (fun n d => kN (ix5 0 0 0 n d)) (fun n => vN (ix5 0 0 0 n d)) (fun n => x3 (ix4 0 g r n)) :=
  out_at (by decide) dot_S1024x64_S256x64_S1024x256_1_1_0_0_n_n_wf iota_S1x256_d1_w32 broadcasts_S1024x1_S1024x256 shapeCasts_S1x256_S1x256
    broadcasts_S1x256_S1024x256 reduces_S1024x256_S1024 dot_S1024x256_S256x64_S1024x64_1_0_0_1_n_n_wf shapeCasts_S1x1x1x256x64_S256x64
    qb h x0 kF vF kN vN x3 x4 g r d

/-- The kernel's result, at width 512. -/
theorem out512_at (qb : ℕ) (h : qb < 128) (x0 : Vec Ideal S1x1x8x128x64 .bf16) (kF vF : Vec Ideal S1x1x1x512x64 .f32) (kN vN : Vec Ideal S1x1x1x128x64 .f32)
    (x3 : Vec Ideal S1x8x128x128 .f32) (x4 : Vec Ideal S1x1024x1 .f32) (g : Fin 8) (r : Fin 128) (d : Fin 64) :
    k1_pay68 (F := Ideal) (k1_pay33 (far qb) (k1_pay18 x0) (k1_pay19 vF) (k1_pay20 kN) (k1_pay21 vN) (k1_pay22 (far qb)) (k1_pay23 (far qb) x0 kF x4) x3)
        (ix5 0 0 g r d)
      = att qb (fun d => x0 (ix5 0 0 g r d)) (fun n d => kF (ix5 0 0 0 n d)) (fun n => vF (ix5 0 0 0 n d)) (x4 (ix3 0 ⟨g.val * 128 + r.val, by omega⟩ 0))
          (fun n d => kN (ix5 0 0 0 n d)) (fun n => vN (ix5 0 0 0 n d)) (fun n => x3 (ix4 0 g r n)) :=
  out_at (by decide) dot_S1024x64_S512x64_S1024x512_1_1_0_0_n_n_wf iota_S1x512_d1_w32 broadcasts_S1024x1_S1024x512 shapeCasts_S1x512_S1x512
    broadcasts_S1x512_S1024x512 reduces_S1024x512_S1024 dot_S1024x512_S512x64_S1024x64_1_0_0_1_n_n_wf shapeCasts_S1x1x1x512x64_S512x64
    qb h x0 kF vF kN vN x3 x4 g r d

/-- The kernel's result, at width 768. -/
theorem out768_at (qb : ℕ) (h : qb < 128) (x0 : Vec Ideal S1x1x8x128x64 .bf16) (kF vF : Vec Ideal S1x1x1x768x64 .f32) (kN vN : Vec Ideal S1x1x1x128x64 .f32)
    (x3 : Vec Ideal S1x8x128x128 .f32) (x4 : Vec Ideal S1x1024x1 .f32) (g : Fin 8) (r : Fin 128) (d : Fin 64) :
    k1_pay70 (F := Ideal) (k1_pay49 (far qb) (k1_pay34 x0) (k1_pay35 vF) (k1_pay36 kN) (k1_pay37 vN) (k1_pay38 (far qb)) (k1_pay39 (far qb) x0 kF x4) x3)
        (ix5 0 0 g r d)
      = att qb (fun d => x0 (ix5 0 0 g r d)) (fun n d => kF (ix5 0 0 0 n d)) (fun n => vF (ix5 0 0 0 n d)) (x4 (ix3 0 ⟨g.val * 128 + r.val, by omega⟩ 0))
          (fun n d => kN (ix5 0 0 0 n d)) (fun n => vN (ix5 0 0 0 n d)) (fun n => x3 (ix4 0 g r n)) :=
  out_at (by decide) dot_S1024x64_S768x64_S1024x768_1_1_0_0_n_n_wf iota_S1x768_d1_w32 broadcasts_S1024x1_S1024x768 shapeCasts_S1x768_S1x768
    broadcasts_S1x768_S1024x768 reduces_S1024x768_S1024 dot_S1024x768_S768x64_S1024x64_1_0_0_1_n_n_wf shapeCasts_S1x1x1x768x64_S768x64
    qb h x0 kF vF kN vN x3 x4 g r d

/-- The kernel's result, at width 1024. -/
theorem out1024_at (qb : ℕ) (h : qb < 128) (x0 : Vec Ideal S1x1x8x128x64 .bf16) (kF vF : Vec Ideal S1x1x1x1024x64 .f32) (kN vN : Vec Ideal S1x1x1x128x64 .f32)
    (x3 : Vec Ideal S1x8x128x128 .f32) (x4 : Vec Ideal S1x1024x1 .f32) (g : Fin 8) (r : Fin 128) (d : Fin 64) :
    k1_pay72 (F := Ideal) (k1_pay65 (far qb) (k1_pay50 x0) (k1_pay51 vF) (k1_pay52 kN) (k1_pay53 vN) (k1_pay54 (far qb)) (k1_pay55 (far qb) x0 kF x4) x3)
        (ix5 0 0 g r d)
      = att qb (fun d => x0 (ix5 0 0 g r d)) (fun n d => kF (ix5 0 0 0 n d)) (fun n => vF (ix5 0 0 0 n d)) (x4 (ix3 0 ⟨g.val * 128 + r.val, by omega⟩ 0))
          (fun n d => kN (ix5 0 0 0 n d)) (fun n => vN (ix5 0 0 0 n d)) (fun n => x3 (ix4 0 g r n)) :=
  out_at (by decide) dot_S1024x64_S1024x64_S1024x1024_1_1_0_0_n_n_wf iota_S1x1024_d1_w32 broadcasts_S1024x1_S1024x1024 shapeCasts_S1x1024_S1x1024
    broadcasts_S1x1024_S1024x1024 reduces_S1024x1024_S1024 dot_S1024x1024_S1024x64_S1024x64_1_0_0_1_n_n_wf shapeCasts_S1x1x1x1024x64_S1024x64
    qb h x0 kF vF kN vN x3 x4 g r d

end Cert.CmpIdeal.Pay

end
-- ==== Proof.Cmp.Kernel.lean ====
/- What the compressed-attention launch of the idealized kernel leaves in its first result, element by element. -/
module

public import proofs.«01_k».proof.Proof.Cmp.Pay
public import Idealize.ShloMosaic.Lib.Pipeline.Covers

@[expose] public section

set_option maxRecDepth 16384

noncomputable section

namespace Cert.CmpIdeal.Kernel

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Cert.CmpIdeal.Gen Cert.CmpIdeal.Pay

variable (V : (c : Dev nD) → (b : Ref sig .tc) → Buf (Elt Ideal) ((c : Thread nD τ).loc b))

/-- The blocks each window reads or writes at a grid point. -/
theorem index1 : ∀ t : Fin grid1.N,
    win1_0.index t = ![(grid1.coords t 0).val, (grid1.coords t 1).val, 0, (grid1.coords t 2).val, 0]
    ∧ win1_1.index t = ![(grid1.coords t 0).val, 0, (grid1.coords t 1).val, 0, 0]
    ∧ win1_2.index t = ![(grid1.coords t 0).val, 1, (grid1.coords t 1).val, 0, 0]
    ∧ win1_3.index t = ![(grid1.coords t 1).val, 0, 0, 0]
    ∧ win1_4.index t = ![(grid1.coords t 1).val, 0, 0]
    ∧ win1_6.index t = ![(grid1.coords t 0).val, (grid1.coords t 1).val, 0, (grid1.coords t 2).val, 0] := by
  decide +kernel

/-- The last coordinate of a grid point. -/
theorem coord2 : ∀ t : Fin grid1.N, (grid1.coords t 2).val = t.val % 128 := by
  decide +kernel

/-- The launch's first result at an element, with a given number of far keys. -/
def part (W : ℕ) (hW : 120 + W ≤ 1152) (c : Dev nD) (b k : Fin 2) (g : Fin 8) (s : Fin 16384) (e : Fin 64) : EReal :=
  att (W := W) (s.val / 128) (fun d => V c main_v104 (ix5 b k g s d))
    (fun n d => V c main_arg1 (ix5 b 0 k ⟨120 + n.val, by omega⟩ d)) (fun n => V c main_arg1 (ix5 b 1 k ⟨120 + n.val, by omega⟩ e))
    (V c main_v85 (ix3 k ⟨g.val * 128 + s.val % 128, by omega⟩ 0))
    (fun n d => V c main_arg1 (ix5 b 0 k ⟨8 * (s.val / 128) + n.val, by omega⟩ d)) (fun n => V c main_arg1 (ix5 b 1 k ⟨8 * (s.val / 128) + n.val, by omega⟩ e))
    (fun n => V c main_v76 (ix4 k g ⟨s.val % 128, by omega⟩ n))

/-- The launch's first result at an index, from the arrays it reads: the number of far keys grows with the block of queries. -/
def G (c : Dev nD) : S2x2x8x16384x64.Idx → EReal := fun i =>
  if (i 3).val / 128 ≤ 47 then part V 256 (by decide) c (i 0) (i 1) (i 2) (i 3) (i 4)
  else if (i 3).val / 128 ≤ 79 then part V 512 (by decide) c (i 0) (i 1) (i 2) (i 3) (i 4)
  else if (i 3).val / 128 ≤ 111 then part V 768 (by decide) c (i 0) (i 1) (i 2) (i 3) (i 4)
  else part V 1024 (by decide) c (i 0) (i 1) (i 2) (i 3) (i 4)

/-- The query block at a grid point, at an element. -/
theorem blk0_at (c : Dev nD) (t : Fin cfg1.N) (g : Fin 8) (r : Fin 128) (d : Fin 64) (i0 i1 : Fin 2) (i3 : Fin 16384)
    (h0 : i0.val = (grid1.coords t 0).val) (h1 : i1.val = (grid1.coords t 1).val) (h3 : i3.val = (grid1.coords t 2).val * 128 + r.val) :
    iblk1 V c 0 t (ix5 0 0 g r d) = V c main_v104 (ix5 i0 i1 g i3 d) := by
  obtain ⟨e0, -⟩ := index1 t
  blk_ext [iblk1, e0]

/-- Where a load of keys lies in the block. -/
theorem ld_idx (W : ℕ) (f : ℕ) (off : Fin 5 → ℕ) (ho : off = ![0, 0, 0, f, 0]) (n : Fin W) (d : Fin 64) (h) (hn : f + n.val < 1152) :
    (Rect.unit (s := S1x1x1x1152x64) off ![1, 1, 1, W, 64] h).idx (ix5 0 0 0 n d) = ix5 0 0 0 ⟨f + n.val, hn⟩ d := by
  subst ho
  funext a
  apply Fin.ext
  rw [Rect.idx_unit_val]
  fin_cases a <;> simp

/-- The loaded keys at a grid point, at an element. -/
theorem blk1_at (c : Dev nD) (t : Fin cfg1.N) (W f : ℕ) (off : Fin 5 → ℕ) (ho : off = ![0, 0, 0, f, 0]) (n : Fin W) (d : Fin 64) (i0 i1 : Fin 2) (h)
    (hn : f + n.val < 1152) (h0 : i0.val = (grid1.coords t 0).val) (h1 : i1.val = (grid1.coords t 1).val) :
    View.ld (iblk1 V c 1 t) (Rect.unit off ![1, 1, 1, W, 64] h) (ix5 0 0 0 n d) = V c main_arg1 (ix5 i0 0 i1 ⟨f + n.val, hn⟩ d) := by
  obtain ⟨-, e1, -⟩ := index1 t
  rw [View.ld_apply, ld_idx W f off ho n d h hn]
  blk_ext [iblk1, e1]

/-- The loaded values at a grid point, at an element. -/
theorem blk2_at (c : Dev nD) (t : Fin cfg1.N) (W f : ℕ) (off : Fin 5 → ℕ) (ho : off = ![0, 0, 0, f, 0]) (n : Fin W) (d : Fin 64) (i0 i1 : Fin 2) (h)
    (hn : f + n.val < 1152) (h0 : i0.val = (grid1.coords t 0).val) (h1 : i1.val = (grid1.coords t 1).val) :
    View.ld (iblk1 V c 2 t) (Rect.unit off ![1, 1, 1, W, 64] h) (ix5 0 0 0 n d) = V c main_arg1 (ix5 i0 1 i1 ⟨f + n.val, hn⟩ d) := by
  obtain ⟨-, -, e2, -⟩ := index1 t
  rw [View.ld_apply, ld_idx W f off ho n d h hn]
  blk_ext [iblk1, e2]

/-- The table's block at a grid point, at an element. -/
theorem blk3_at (c : Dev nD) (t : Fin cfg1.N) (g : Fin 8) (r n : Fin 128) (i1 : Fin 2) (h1 : i1.val = (grid1.coords t 1).val) :
    iblk1 V c 3 t (ix4 0 g r n) = V c main_v76 (ix4 i1 g r n) := by
  obtain ⟨-, -, -, e3, -⟩ := index1 t
  blk_ext [iblk1, e3]

/-- The block of far biases at a grid point, at an element. -/
theorem blk4_at (c : Dev nD) (t : Fin cfg1.N) (r : Fin 1024) (i1 : Fin 2) (h1 : i1.val = (grid1.coords t 1).val) :
    iblk1 V c 4 t (ix3 0 r 0) = V c main_v85 (ix3 i1 r 0) := by
  obtain ⟨-, -, -, -, e4, -⟩ := index1 t
  blk_ext [iblk1, e4]

/-- The element of the kernel's result, from the blocks and loads at a grid point. -/
theorem att_part (c : Dev nD) (t : Fin cfg1.N) (W : ℕ) (hW : 120 + W ≤ 1152) (off : Fin 5 → ℕ) (ho : off = ![0, 0, 0, 8 * (grid1.coords t 2).val, 0]) (h h')
    (b k : Fin 2) (g : Fin 8) (r : Fin 128) (s : Fin 16384) (e : Fin 64)
    (h0 : b.val = (grid1.coords t 0).val) (h1 : k.val = (grid1.coords t 1).val) (h3 : s.val = (grid1.coords t 2).val * 128 + r.val) :
    att (W := W) (grid1.coords t 2).val (fun d => iblk1 V c 0 t (ix5 0 0 g r d))
        (fun n d => View.ld (iblk1 V c 1 t) (Rect.unit ![0, 0, 0, 120, 0] ![1, 1, 1, W, 64] h) (ix5 0 0 0 n d))
        (fun n => View.ld (iblk1 V c 2 t) (Rect.unit ![0, 0, 0, 120, 0] ![1, 1, 1, W, 64] h) (ix5 0 0 0 n e))
        (iblk1 V c 4 t (ix3 0 ⟨g.val * 128 + r.val, by omega⟩ 0))
        (fun n d => View.ld (iblk1 V c 1 t) (Rect.unit off ![1, 1, 1, 128, 64] h') (ix5 0 0 0 n d))
        (fun n => View.ld (iblk1 V c 2 t) (Rect.unit off ![1, 1, 1, 128, 64] h') (ix5 0 0 0 n e))
        (fun n => iblk1 V c 3 t (ix4 0 g r n))
      = part V W hW c b k g s e := by
  have hq : (grid1.coords t 2).val < 128 := (grid1.coords t 2).isLt
  have d1 : (grid1.coords t 2).val = s.val / 128 := by omega
  have d2 : r = ⟨s.val % 128, by omega⟩ := Fin.ext (show r.val = s.val % 128 by omega)
  unfold part
  rw [d1] at ho
  rw [d1]
  congr 1
  · funext d; exact blk0_at V c t g r d b k s h0 h1 h3
  · funext n d; exact blk1_at V c t W 120 _ rfl n d b k h _ h0 h1
  · funext n; exact blk2_at V c t W 120 _ rfl n e b k h _ h0 h1
  · rw [blk4_at V c t _ k h1]; congr 2; exact Fin.ext (show g.val * 128 + r.val = g.val * 128 + s.val % 128 by omega)
  · funext n d; exact blk1_at V c t 128 _ off ho n d b k h' _ h0 h1
  · funext n; exact blk2_at V c t 128 _ off ho n e b k h' _ h0 h1
  · funext n; rw [blk3_at V c t g r n k h1, d2]

/-- The kernel's word of the number of far keys. -/
theorem ix5_eta (j : S1x1x8x128x64.Idx) : j = ix5 0 0 (j 2) (j 3) (j 4) := by
  funext a
  match a with
  | ⟨0, _⟩ => exact Fin.ext (Nat.lt_one_iff.mp (j 0).isLt)
  | ⟨1, _⟩ => exact Fin.ext (Nat.lt_one_iff.mp (j 1).isLt)
  | ⟨2, _⟩ => rfl
  | ⟨3, _⟩ => rfl
  | ⟨4, _⟩ => rfl

set_option maxHeartbeats 1600000 in
/-- What a grid point leaves of the first result, at an element: `G` at the element's place. -/
theorem out_at (c : Dev nD) (t : Fin cfg1.N) (b k : Fin 2) (g : Fin 8) (r : Fin 128) (s : Fin 16384) (e : Fin 64)
    (h0 : b.val = (grid1.coords t 0).val) (h1 : k.val = (grid1.coords t 1).val) (h3 : s.val = (grid1.coords t 2).val * 128 + r.val) :
    (outsAt1 V c t.val t.isLt).1 (ix5 0 0 g r e) = G V c (ix5 b k g s e) := by
  have hq : (grid1.coords t 2).val < 128 := (grid1.coords t 2).isLt
  have hc := coord2 t
  have d1 : s.val / 128 = t.val % 128 := by omega
  have d1' : ((ix5 b k g s e : S2x2x8x16384x64.Idx) 3).val / 128 = t.val % 128 := d1
  unfold G
  rw [d1']
  by_cases c0 : t.val % 128 ≤ 47
  · rw [if_pos c0, outsAt1_A V c t c0 (by omega) (by omega) (by omega)]
    dsimp only
    frame_out
    refine (out256_at _ hq _ _ _ _ _ _ _ g r e).trans ?_
    exact att_part V c t 256 _ _ (k1_off1_eq _) _ _ b k g r s e h0 h1 h3
  rw [if_neg c0]
  by_cases c1 : t.val % 128 ≤ 79
  · rw [if_pos c1, outsAt1_B V c t c0 (by omega) (by omega) (by omega)]
    dsimp only
    frame_out
    refine (out512_at _ hq _ _ _ _ _ _ _ g r e).trans ?_
    exact att_part V c t 512 _ _ (k1_off3_eq _) _ _ b k g r s e h0 h1 h3
  rw [if_neg c1]
  by_cases c2 : t.val % 128 ≤ 111
  · rw [if_pos c2, outsAt1_C V c t c0 (by omega) (by omega) (by omega)]
    dsimp only
    frame_out
    refine (out768_at _ hq _ _ _ _ _ _ _ g r e).trans ?_
    exact att_part V c t 768 _ _ (k1_off5_eq _) _ _ b k g r s e h0 h1 h3
  rw [if_neg c2, outsAt1_D V c t c0 (by omega) (by omega) (by omega)]
  dsimp only
  frame_out
  refine (out1024_at _ hq _ _ _ _ _ _ _ g r e).trans ?_
  exact att_part V c t 1024 _ _ (k1_off7_eq _) _ _ b k g r s e h0 h1 h3

/-- The array the launch leaves is `G`. -/
theorem arr_eq (c : Dev nD) : (dat1 V c).arrAt 6 cfg1.N = G V c := by
  refine (dat1 V c).arrAt_eq_of_covers 6 _ ((cfg1.win 6).covers_of_indexMap_surj rfl (by decide) fun β => ?_) fun t hf y => ?_
  · have h0 : (β 0).val < 2 := lt_of_lt_of_eq (β 0).isLt (by decide : (cfg1.win 6).nblk 0 = 2)
    have h1 : (β 1).val < 2 := lt_of_lt_of_eq (β 1).isLt (by decide : (cfg1.win 6).nblk 1 = 2)
    have h2 : (β 2).val < 1 := lt_of_lt_of_eq (β 2).isLt (by decide : (cfg1.win 6).nblk 2 = 1)
    have h3 : (β 3).val < 128 := lt_of_lt_of_eq (β 3).isLt (by decide : (cfg1.win 6).nblk 3 = 128)
    have h4 : (β 4).val < 1 := lt_of_lt_of_eq (β 4).isLt (by decide : (cfg1.win 6).nblk 4 = 1)
    obtain ⟨t, ht⟩ := grid1.coords_surjective (fun | 0 => ⟨(β 0).val, h0⟩ | 1 => ⟨(β 1).val, h1⟩ | 2 => ⟨(β 3).val, h3⟩)
    have e4 : win1_6.indexMap (grid1.coords t) = _ := (index1 t).2.2.2.2.2
    refine ⟨grid1.coords t, fun a => ?_⟩
    rw [show (cfg1.win 6).indexMap (grid1.coords t) = _ from e4, ht]
    fin_cases a
    · rfl
    · rfl
    · exact (Nat.lt_one_iff.mp h2).symm
    · rfl
    · exact (Nat.lt_one_iff.mp h4).symm
  · obtain ⟨e0, e1, e2, e3, -, e4⟩ := index1 t
    blk_simp
    rw [after1_6]
    have y2 : (y 2).val < 8 := (y 2).isLt
    have y3 : (y 3).val < 128 := (y 3).isLt
    have a0 : ((((View.whole main_v105_0).slice (win1_6.rect t)).emb y) 0).val = (grid1.coords t 0).val := by
      have y0 : (y 0).val < 1 := (y 0).isLt
      blk_simp [e4]
    have a1 : ((((View.whole main_v105_0).slice (win1_6.rect t)).emb y) 1).val = (grid1.coords t 1).val := by
      have y0 : (y 1).val < 1 := (y 1).isLt
      blk_simp [e4]
    have a2 : ((((View.whole main_v105_0).slice (win1_6.rect t)).emb y) 2).val = (y 2).val := by
      blk_simp [e4]
    have a3 : ((((View.whole main_v105_0).slice (win1_6.rect t)).emb y) 3).val = (grid1.coords t 2).val * 128 + (y 3).val := by
      blk_simp [e4]
    have a4 : ((((View.whole main_v105_0).slice (win1_6.rect t)).emb y) 4).val = (y 4).val := by
      blk_simp [e4]
    generalize ((View.whole main_v105_0).slice (win1_6.rect t)).emb y = z at a0 a1 a2 a3 a4
    have hy := ix5_eta y
    have hz : z = ix5 (z 0) (z 1) (y 2) (z 3) (y 4) := by
      funext a
      match a with
      | ⟨0, _⟩ => rfl
      | ⟨1, _⟩ => rfl
      | ⟨2, _⟩ => exact Fin.ext a2
      | ⟨3, _⟩ => rfl
      | ⟨4, _⟩ => exact Fin.ext a4
    rw [hz]
    refine (congrArg _ hy).trans ?_
    exact out_at V c t (z 0) (z 1) (y 2) (y 3) (z 3) (y 4) a0 a1 a3

end Cert.CmpIdeal.Kernel

end
-- ==== Proof.Cmp.Host.lean ====
/- What the compressed-attention launch's operands hold, element by element, from the program's arguments. -/
module

public import proofs.«01_k».proof.Proof.Gen.CmpIdeal.Frame
public import proofs.«01_k».proof.Proof.Win.Bucket

@[expose] public section

set_option maxRecDepth 16384

noncomputable section

namespace Cert.CmpIdeal.Host

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Cert.CmpIdeal.Gen
open Cert.WinIdeal.Host (thr kb word wordOf eighth)

variable (m : (ℓ : Loc nD τ sig) → Buf (Elt Ideal) ℓ) (ρ : Dev nD → PrngReg)

/-- The queries argument. -/
def argQ (c : Dev nD) : S2x16384x1024.Idx → EReal := m ((c : Thread nD τ).loc main_arg0)
/-- The compressed keys and values argument. -/
def argK (c : Dev nD) : S2x2x2x1152x64.Idx → EReal := m ((c : Thread nD τ).loc main_arg1)
/-- The bias argument. -/
def argB (c : Dev nD) : S32x16.Idx → EReal := m ((c : Thread nD τ).loc main_arg2)

set_option maxHeartbeats 4000000 in
/-- The scaled queries, laid out by head group. -/
theorem q_at (c : Dev nD) (b k : Fin 2) (g : Fin 8) (s : Fin 16384) (d : Fin 64) :
    V6 m ρ c main_v104 (ix5 b k g s d) = argQ m c (ix3 b s ⟨(k.val * 8 + g.val) * 64 + d.val, by omega⟩) * ((1/8 : ℝ) : EReal) := by
  show W6 m ρ c (Proc.devRef .tc main_v104) (ix5 b k g s d) = _
  unfold W6
  unfold argQ
  rw [← W5_args m ρ c main_arg0 (by decide)]
  generalize W5 m ρ c = Wx
  after_reads_at
  rw [eighth]
  congr 2
  refine congrArg₂ (ix3 b) (Fin.ext ?_) (Fin.ext ?_)
  · show s.val / 128 * 128 + s.val % 128 = s.val
    omega
  · show k.val * 512 + g.val * 64 + d.val = (k.val * 8 + g.val) * 64 + d.val
    omega

/-- The compressed keys and values reach the launch as they were given. -/
theorem k_at (c : Dev nD) (i : S2x2x2x1152x64.Idx) : V6 m ρ c main_arg1 i = argK m c i :=
  congrFun (W6_args m ρ c main_arg1 (by decide)) i

/-- The bias of the last bucket, for every row of a head group. -/
theorem far_at (c : Dev nD) (k : Fin 2) (r : Fin 1024) :
    V6 m ρ c main_v85 (ix3 k r 0) = argB m c (ix2 31 ⟨k.val * 8 + r.val / 128, by omega⟩) := by
  show W6 m ρ c (Proc.devRef .tc main_v85) (ix3 k r 0) = _
  unfold W6
  unfold argB
  rw [← W5_args m ρ c main_arg2 (by decide)]
  generalize W5 m ρ c = Wx
  after_reads_at
  first
    | done
    | (congr 1; refine congrArg₂ ix2 (Fin.ext ?_) (Fin.ext ?_) <;> simp <;> omega)

/-- The compressed attention's part of the bias table. -/
theorem tab_at (c : Dev nD) (k : Fin 2) (g : Fin 8) (r : Fin 128) (col : Fin 128) :
    V6 m ρ c main_v76 (ix4 k g r col) = W5 m ρ c (Proc.devRef .tc main_v72) (ix3 ⟨k.val * 8 + g.val, by omega⟩ r ⟨640 + col.val, by omega⟩) := by
  show W6 m ρ c (Proc.devRef .tc main_v76) (ix4 k g r col) = _
  unfold W6
  generalize W5 m ρ c = Wx
  after_reads_at
  done

/-- The printed table of thresholds. -/
theorem lit0_at (x : Fin 15) : lit0 (S15.rowMajor (ix1 x)) = BitVec.ofNat 32 (thr x) := by
  have h : S15.rowMajor (ix1 x) = x := Fin.ext (Shape.rowMajor_val_one _)
  rw [h]
  fin_cases x <;> rfl

/-- The distance word of a row and a near column. -/
def dist (r col : ℕ) : BitVec 32 :=
  IntOp.subi (IntOp.addi (BitVec.ofNat 32 r) 1889#32) (IntOp.muli 16#32 (BitVec.ofNat 32 col))

/-- The host's bucket is the count of thresholds, at every distance of a near column. -/
theorem word_of_lt : ∀ d : Fin 2048, word (BitVec.ofNat 32 d.val) = BitVec.ofNat 32 (kb d.val) := by
  decide +kernel

/-- The bucket word of a row and a near column: the count where the distance is not negative, minus one elsewhere. -/
theorem word_dist (r col : ℕ) (hr : r < 128) (hc : col < 128) :
    word (dist r col) = if 16 * col ≤ r + 1889 then BitVec.ofNat 32 (kb (r + 1889 - 16 * col)) else 4294967295#32 := by
  have e : (dist r col).toInt = (r : ℤ) + 1889 - 16 * col := by
    unfold dist IntOp.subi IntOp.addi IntOp.muli
    simp only [BitVec.toInt_eq_toNat_cond, BitVec.toNat_sub, BitVec.toNat_add, BitVec.toNat_mul, BitVec.toNat_ofNat]
    omega
  by_cases h : 16 * col ≤ r + 1889
  · have e' : dist r col = BitVec.ofNat 32 (r + 1889 - 16 * col) := by
      refine BitVec.eq_of_toInt_eq (e.trans ?_)
      rw [BitVec.toInt_eq_toNat_cond, BitVec.toNat_ofNat]
      omega
    rw [if_pos h, e']
    exact word_of_lt ⟨r + 1889 - 16 * col, by omega⟩
  · rw [if_neg h]
    unfold word
    have c2 : IntOp.cmpi CmpIPredicate.sge (dist r col) 0#32 = 0#1 := by
      unfold IntOp.cmpi
      simp only [BitVec.sle, e]
      rw [decide_eq_false (by simp; omega)]; rfl
    rw [c2]; rfl

/-- The second part of the distances' row is the near columns' part. -/
theorem v56_at (V : Valuation τ sig (Elt Ideal)) (r : Fin 128) (col : Fin 128) (h) :
    StableHlo.upto hostOps0_2 V 48 (Proc.devRef .tc main_v56) (ix2 r ⟨640 + col.val, h⟩) = V (Proc.devRef .tc main_v17) (ix2 r col) := by
  rw [StableHlo.upto_last_write (i := 46) [main_v57] rfl rfl (by decide) V, StableHlo.nary_result]
  pointwise
  rw [StableHlo.upto_unwritten (hostOps0_2_W.take 46) rfl (by decide) V]

/-- The near columns' part of the distances. -/
theorem v17_at (Wx : Valuation τ sig (Elt Ideal)) (r : Fin 128) (col : Fin 128) :
    StableHlo.after hostOps0_1 (StableHlo.after hostOps0 Wx) (Proc.devRef .tc main_v17) (ix2 r col) = dist r.val col.val := by
  after_reads_at
  rfl

/-- The bucket word from the near columns' distances. -/
theorem v70_at (V : Valuation τ sig (Elt Ideal)) (r : Fin 128) (col : Fin 128) (h) :
    StableHlo.after hostOps0_2 V (Proc.devRef .tc main_v70) (ix2 r ⟨640 + col.val, h⟩) =
      IntOp.addi (IntOp.minsi (V (Proc.devRef .tc main_v17) (ix2 r col)) 16#32)
      (Finset.fold IntOp.addi (0#32) (fun x : Fin 15 => BitVec.setWidth 32 (IntOp.cmpi CmpIPredicate.sge (V (Proc.devRef .tc main_v17) (ix2 r col)) (V (Proc.devRef .tc main_c) (ix1 x)))) Finset.univ) := by
  after_reads_at
  simp only [dif_pos (show 640 + col.val < 2560 by omega)]
  rw [v56_at V r col]
  refine congrArg _ (Finset.fold_congr fun x _ => ?_)
  rw [v56_at V r col]

/-- Whether the near column's distance is not negative. -/
theorem v60_at (V : Valuation τ sig (Elt Ideal)) (r : Fin 128) (col : Fin 128) (h) :
    StableHlo.after hostOps0_2 V (Proc.devRef .tc main_v60) (ix2 r ⟨640 + col.val, h⟩) =
      IntOp.cmpi CmpIPredicate.sge (V (Proc.devRef .tc main_v17) (ix2 r col)) 0#32 := by
  after_reads_at
  simp only [dif_pos (show 640 + col.val < 2560 by omega)]
  rw [v56_at V r col]

/-- The word of a masked distance. -/
theorem c24_at (V : Valuation τ sig (Elt Ideal)) :
    StableHlo.after hostOps0_2 V (Proc.devRef .tc main_c_24) ix0 = 4294967295#32 := by
  after_reads_at

/-- The bucket table as a choice between the bucket and the masked word. -/
theorem v71_at (V : Valuation τ sig (Elt Ideal)) (j : S128x2816.Idx) :
    StableHlo.after hostOps0_3 V (Proc.devRef .tc main_v71) j =
      Scalar.select (V (Proc.devRef .tc main_v60) j) (V (Proc.devRef .tc main_v70) j) (V (Proc.devRef .tc main_c_24) ix0) := by
  after_reads_at
  rfl

/-- The thresholds as the first host operations leave them. -/
theorem c_at (Wx : Valuation τ sig (Elt Ideal)) (x : Fin 15) :
    StableHlo.after hostOps0_1 (StableHlo.after hostOps0 Wx) (Proc.devRef .tc main_c) (ix1 x) = BitVec.ofNat 32 (thr x) := by
  rw [← lit0_at]
  after_reads_at

/-- The bucket table from the distances and the thresholds that the earlier host operations leave. -/
theorem v71_wordOf (V : Valuation τ sig (Elt Ideal)) (r : Fin 128) (col : Fin 128) (h) :
    StableHlo.after hostOps0_3 (StableHlo.after hostOps0_2 V) (Proc.devRef .tc main_v71) (ix2 r ⟨640 + col.val, h⟩)
      = wordOf (V (Proc.devRef .tc main_v17) (ix2 r col)) (fun x => V (Proc.devRef .tc main_c) (ix1 x)) :=
  (v71_at (StableHlo.after hostOps0_2 V) (ix2 r ⟨640 + col.val, h⟩)).trans
    (congr (congrArg₂ Scalar.select (v60_at V r col h) (v70_at V r col h)) (c24_at V))

/-- The bucket table after the host operations, as a word of the row and the near column. -/
theorem v71_word (Wx : Valuation τ sig (Elt Ideal)) (r : Fin 128) (col : Fin 128) (h) :
    StableHlo.after hostOps0_3 (StableHlo.after hostOps0_2 (StableHlo.after hostOps0_1 (StableHlo.after hostOps0 Wx))) (Proc.devRef .tc main_v71) (ix2 r ⟨640 + col.val, h⟩)
      = word (dist r.val col.val) :=
  (v71_wordOf (StableHlo.after hostOps0_1 (StableHlo.after hostOps0 Wx)) r col h).trans
    (congrArg₂ wordOf (v17_at Wx r col) (funext fun x => c_at Wx x))

/-- The bucket table at a row and a near column. -/
theorem bk_at (c : Dev nD) (r : Fin 128) (col : Fin 128) (h) :
    W4 m ρ c (Proc.devRef .tc main_v71) (ix2 r ⟨640 + col.val, h⟩)
      = if 16 * col.val ≤ r.val + 1889 then BitVec.ofNat 32 (kb (r.val + 1889 - 16 * col.val)) else 4294967295#32 :=
  (v71_word (W0 m ρ c) r col h).trans (word_dist _ _ r.isLt col.isLt)

end Cert.CmpIdeal.Host

end
-- ==== Proof.Cmp.Table.lean ====
/- What the bias launch of the idealized kernel leaves in its table, element by element. -/
module

public import proofs.«01_k».proof.Proof.Cmp.Host
public import proofs.«01_k».proof.Proof.Win.Table
public import Idealize.ShloMosaic.Lib.Pipeline.ValueKit
public import Idealize.ShloMosaic.Lib.Pipeline.Covers

@[expose] public section

set_option maxRecDepth 16384

noncomputable section

namespace Cert.CmpIdeal.Table

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Cert.CmpIdeal.Gen
open Cert.WinIdeal.Table (pick pick_eq kb_lt)
open Cert.WinIdeal.Host (kb)

variable (V : (c : Dev nD) → (b : Ref sig .tc) → Buf (Elt Ideal) ((c : Thread nD τ).loc b))

/-- The blocks each window reads or writes at a grid point. -/
theorem index0 : ∀ t : Fin grid0.N,
    win0_0.index t = ![0, 0] ∧ win0_1.index t = ![0, 0] ∧ win0_2.index t = ![(grid0.coords t 0).val, 0, 0] := by
  decide +kernel

/-- The bias block at a grid point is the whole table of biases. -/
theorem blk0_at (c : Dev nD) (t : Fin cfg0.N) (j : S32x16.Idx) : iblk0 V c 0 t j = V c main_arg2 j := by
  obtain ⟨e0, -⟩ := index0 t
  blk_ext [iblk0, e0]

/-- The bucket block at a grid point is the whole table of buckets. -/
theorem blk1_at (c : Dev nD) (t : Fin cfg0.N) (j : S128x2816.Idx) : iblk0 V c 1 t j = V c main_v71 j := by
  obtain ⟨-, e1, -⟩ := index0 t
  blk_ext [iblk0, e1]

/-- A bias of the table by its numbers. -/
def rb (c : Dev nD) (h b : ℕ) : EReal := if hb : b < 32 ∧ h < 16 then V c main_arg2 (ix2 ⟨b, hb.1⟩ ⟨h, hb.2⟩) else 0

/-- A bias that the body loads at a grid point. -/
theorem blk0_rb (c : Dev nD) (t : Fin cfg0.N) (a b : ℕ) (ha : a < 32) (hb : b < 16) : iblk0 V c 0 t (ix2 ⟨a, ha⟩ ⟨b, hb⟩) = rb V c b a := by
  rw [blk0_at]; unfold rb; rw [dif_pos ⟨ha, hb⟩]

/-- One block of the table, at an element. -/
theorem out_at (c : Dev nD) (t : Fin cfg0.N) (y : S1x128x2816.Idx) :
    outsAt0 V c t y = pick (V c main_v71 (ix2 (y 1) (y 2))) (rb V c (grid0.coords t 0).val) 32 := by
  have hmask : (Named.named (F := Ideal) κ "mask" (φ := .f32) 0xF149F2CA#32) = (⊥ : EReal) := by
    first | rfl | simp [Named.named]
  have hi : (grid0.coords t 0).val < 16 := (grid0.coords t 0).isLt
  have hw : (Scalar.indexCast (BitVec.ofNat 32 (grid0.coords t 0).val)).toNat = (grid0.coords t 0).val := by
    unfold Scalar.indexCast
    simp only [BitVec.toNat_ofNat]
    omega
  unfold outsAt0
  frame_out
  unfold k0_pay1 k0_pay8 k0_pay7 k0_pay6 k0_pay5 k0_pay4 k0_pay3 k0_pay2
  pointwise
  simp only [blk1_at, blk0_rb, hmask]
  simp only [k0_off1, k0_off2, k0_off3, k0_off4, k0_off5, k0_off6, k0_off7, k0_off8, k0_off9, k0_off10, k0_off11, k0_off12, k0_off13, k0_off14, k0_off15, k0_off16, k0_off17, k0_off18, k0_off19, k0_off20, k0_off21, k0_off22, k0_off23, k0_off24, k0_off25, k0_off26, k0_off27, k0_off28, k0_off29, k0_off30, k0_off31, k0_off32]
  simp only [hw]
  rfl

/-- The table the launch leaves, from the biases and the buckets. -/
def T (c : Dev nD) : S16x128x2816.Idx → EReal := fun i =>
  pick (V c main_v71 (ix2 (i 1) (i 2))) (rb V c (i 0).val) 32

/-- The array the launch leaves is `T`. -/
theorem arr_eq (c : Dev nD) : (dat0 V c).arrAt 2 cfg0.N = T V c := by
  refine (dat0 V c).arrAt_eq_of_covers 2 _ ((cfg0.win 2).covers_of_indexMap_surj rfl (by decide) fun β => ?_) fun t hf y => ?_
  · have h0 : (β 0).val < 16 := lt_of_lt_of_eq (β 0).isLt (by decide : (cfg0.win 2).nblk 0 = 16)
    have h1 : (β 1).val < 1 := lt_of_lt_of_eq (β 1).isLt (by decide : (cfg0.win 2).nblk 1 = 1)
    have h2 : (β 2).val < 1 := lt_of_lt_of_eq (β 2).isLt (by decide : (cfg0.win 2).nblk 2 = 1)
    obtain ⟨t, ht⟩ := grid0.coords_surjective (fun | 0 => ⟨(β 0).val, h0⟩)
    have e2 : win0_2.indexMap (grid0.coords t) = _ := (index0 t).2.2
    refine ⟨grid0.coords t, fun a => ?_⟩
    rw [show (cfg0.win 2).indexMap (grid0.coords t) = _ from e2, ht]
    fin_cases a
    · rfl
    · exact (Nat.lt_one_iff.mp h1).symm
    · exact (Nat.lt_one_iff.mp h2).symm
  · obtain ⟨e0, e1, e2⟩ := index0 t
    blk_simp
    rw [after0_2]
    refine (out_at V c t _).trans ?_
    unfold T
    have a0 : ((((View.whole main_v72).slice (win0_2.rect t)).emb y) 0).val = (grid0.coords t 0).val := by
      have y0 : (y 0).val < 1 := (y 0).isLt
      blk_simp [e2]
    have a1 : (((View.whole main_v72).slice (win0_2.rect t)).emb y) 1 = y 1 := by
      apply Fin.ext
      blk_simp [e2]
    have a2 : (((View.whole main_v72).slice (win0_2.rect t)).emb y) 2 = y 2 := by
      apply Fin.ext
      blk_simp [e2]
    rw [a0, a1, a2]

variable (m : (ℓ : Loc nD τ sig) → Buf (Elt Ideal) ℓ) (ρ : Dev nD → PrngReg)

/-- The near columns' part of the table: the bias of the distance's bucket where the distance is not negative, minus infinity elsewhere. -/
theorem tab_at (c : Dev nD) (k : Fin 2) (g : Fin 8) (r : Fin 128) (col : Fin 128) :
    V6 m ρ c main_v76 (ix4 k g r col)
      = if 16 * col.val ≤ r.val + 1889 then
          Host.argB m c (ix2 ⟨kb (r.val + 1889 - 16 * col.val), kb_lt _⟩ ⟨k.val * 8 + g.val, by omega⟩) else ⊥ := by
  have hc : 640 + col.val < 2816 := by omega
  refine (Host.tab_at m ρ c k g r col).trans ?_
  refine (congrFun ((W5_arr m ρ c 2).trans (arr_eq (V4 m ρ) c)) _).trans ?_
  refine (pick_eq _ _ 32 (le_refl _)).trans ?_
  have hb : V4 m ρ c main_v71 (ix2 r ⟨640 + col.val, hc⟩) = _ := Host.bk_at m ρ c r col hc
  have harg : V4 m ρ c main_arg2 = Host.argB m c := W4_args m ρ c main_arg2 (by decide)
  have key : ∀ (w : BitVec 32), w = (if 16 * col.val ≤ r.val + 1889 then BitVec.ofNat 32 (kb (r.val + 1889 - 16 * col.val)) else 4294967295#32) →
      (if w.toNat < 32 then rb (V4 m ρ) c (k.val * 8 + g.val) w.toNat else ⊥)
        = if 16 * col.val ≤ r.val + 1889 then
          Host.argB m c (ix2 ⟨kb (r.val + 1889 - 16 * col.val), kb_lt _⟩ ⟨k.val * 8 + g.val, by omega⟩) else ⊥ := by
    intro w hw
    have hk := kb_lt (r.val + 1889 - 16 * col.val)
    by_cases h : 16 * col.val ≤ r.val + 1889
    · rw [if_pos h] at hw ⊢
      have hn : w.toNat = kb (r.val + 1889 - 16 * col.val) := by
        rw [hw, BitVec.toNat_ofNat, Nat.mod_eq_of_lt (by omega)]
      rw [hn, if_pos hk]
      unfold rb
      rw [dif_pos ⟨hk, by omega⟩, harg]
    · rw [if_neg h] at hw ⊢
      rw [hw]
      rfl
  exact key _ hb

end Cert.CmpIdeal.Table

end
-- ==== Proof.Cmp.Ref.lean ====
/- What the compressed attention's reference computes, element by element. -/
module

public import proofs.«01_k».proof.Proof.Gen.CmpRefIdeal.Run
public import Idealize.ShloMosaic.Lib.Pointwise
public import Idealize.ShloMosaic.Lib.ValueIdx
public import Idealize.ShloMosaic.Lib.Pipeline.ValueKit

@[expose] public section

set_option maxRecDepth 16384

noncomputable section

namespace Cert.CmpRefIdeal.Val

open Idealize.ShloMosaic Idealize.ShloMosaic.TcCoe Idealize.ShloMosaic.Tactic
open Idealize.SL Idealize.SL.RA Idealize.SL.BI Idealize.SL.Sem
open Cert.CmpRefIdeal.Gen Cert.CmpRefIdeal.Value

variable (m : (ℓ : Loc nD τ sig) → Buf (Elt Ideal) ℓ)

/-- The gather of the biases read at an element: the row is the bucket's word, read signed and held below thirty-two. -/
theorem gather_at (x : S32x2x8.Idx → EReal) (idx : IVec S16384x1023x1 32) (s : Fin 16384) (n : Fin 1023) (k : Fin 2) (g : Fin 8) :
    Host.gather gather_S32x2x8_S16384x1023x1_S16384x1023x2x8_23_0_n_n_0_2_128 x idx (ix4 s n k g)
      = x (ix3 ⟨min (idx (ix3 s n 0)).toInt.toNat 31, by omega⟩ k g) := by
  unfold Host.gather
  congr 1
  funext a
  refine Fin.ext ?_
  show GatherDims.start _ (ix4 s n k g) idx a + GatherDims.batchCoord _ (ix4 s n k g) a + GatherDims.offCoord _ (ix4 s n k g) a = _
  rw [GatherDims.batchCoord_eq_zero _ _ _ List.not_mem_nil]
  simp only [Nat.add_zero]
  fin_cases a
  · rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 3) ∈ gather_S32x2x8_S16384x1023x1_S16384x1023x2x8_23_0_n_n_0_2_128.startIndexMap from List.mem_singleton.mpr rfl)]
    have hsi : ∀ p, (gather_S32x2x8_S16384x1023x1_S16384x1023x2x8_23_0_n_n_0_2_128).siIdx (ix4 s n k g) ⟨0, p⟩ = ix3 s n 0 := by
      intro p
      funext b; refine Fin.ext ?_
      match b with
      | ⟨0, _⟩ => rfl
      | ⟨1, _⟩ => rfl
      | ⟨2, _⟩ => rfl
    exact congrArg (fun z => min (idx z).toInt.toNat 31) (hsi _)
  · unfold GatherDims.start GatherDims.offCoord
    rw [dif_neg (by decide), dif_pos (by decide)]
    exact Nat.zero_add _
  · unfold GatherDims.start GatherDims.offCoord
    rw [dif_neg (by decide), dif_pos (by decide)]
    exact Nat.zero_add _

/-- The word of minus infinity is the least value. -/
theorem ofBits_neg_inf : Ideal.ofBits FTy.f32 4286578688#32 = ⊥ := by
  first | rfl | decide | simp

/-- The distance of every query position from the last token of every compressed key. -/
def dV : IVec S16384x1023 32 :=
  subi (broadcastInDim S16384x1023 ![0, 1] bcast_S16384x1_S16384x1023_0_1 (broadcastInDim S16384x1 ![0] bcast_S16384_S16384x1_0 (iotaInDim S16384 32 0)))
    (broadcastInDim S16384x1023 ![0, 1] bcast_S1x1023_S16384x1023_0_1 (broadcastInDim S1x1023 ![1] bcast_S1023_S1x1023_1
      (subi (addi (muli (iotaInDim S1023 32 0) (broadcastInDim S1023 ![] bcast_S_S1023 (constantI S_ 32 16#32)))
        (broadcastInDim S1023 ![] bcast_S_S1023 (constantI S_ 32 32#32))) (broadcastInDim S1023 ![] bcast_S_S1023 (constantI S_ 32 1#32)))))

/-- A constant word at every pair of positions. -/
def cV (w : BitVec 32) : IVec S16384x1023 32 := broadcastInDim S16384x1023 ![] bcast_S_S16384x1023 (constantI S_ 32 w)

/-- A constant number at every pair of positions. -/
def fV (w : BitVec 32) : FVec Ideal S16384x1023 .f32 := broadcastInDim S16384x1023 ![] bcast_S_S16384x1023 (constant S_ .f32 w)

/-- The mask of the distances that are not negative. -/
def mV (d : IVec S16384x1023 32) : IVec S16384x1023 1 := cmpi .sge d (cV 0#32)

/-- The bucket of every distance that is not negative. -/
def bV (n : IVec S16384x1023 32) : IVec S16384x1023 32 :=
  select (cmpi .slt n (cV 16#32)) n
    (minsi (addi (cV 16#32) (fptosi 32 (mulf (Host.divf (Host.log (Host.divf (sitofp .f32 (maxsi n (cV 16#32))) (fV 0x41800000#32))) (fV 0x409B43D5#32)) (fV 0x41800000#32))))
      (cV 31#32))

/-- The row of the biases that is read at every pair of positions: a negative index counts from the end. -/
def wV (b : IVec S16384x1023 32) : IVec S16384x1023 32 := select (cmpi .slt b (cV 0#32)) (addi b (cV 32#32)) b

/-- The masked scores. -/
def sV (q : FVec Ideal S2x16384x1024 .f32) (kv : FVec Ideal S2x2x2x1152x64 .f32) (rb : FVec Ideal S32x16 .f32) (mk : IVec S16384x1023 1) (w : IVec S16384x1023 32) :
    FVec Ideal S2x2x8x16384x1023 .f32 :=
  select (broadcastInDim S2x2x8x16384x1023 ![3, 4] bcast_S16384x1023_S2x2x8x16384x1023_3_4 mk)
    (addf (mulf (transpose S2x2x8x16384x1023 [0, 1, 4, 3, 2]
            (Host.dotGeneral dot_S2x2x1023x64_S2x16384x2x8x64_S2x2x1023x16384x8_3_4_2_13_01_02 none
              (shapeCast S2x2x1023x64 (extractStridedSlice S2x1x2x1023x64 ![0, 0, 0, 120, 0] kv slices_S2x2x2x1152x64_S2x1x2x1023x64_0_0_0_120_0) shapeCasts_S2x1x2x1023x64_S2x2x1023x64)
              (shapeCast S2x16384x2x8x64 q shapeCasts_S2x16384x1024_S2x16384x2x8x64) : FVec Ideal S2x2x1023x16384x8 .f32)
            transposes_S2x2x1023x16384x8_S2x2x8x16384x1023_0_1_4_3_2)
          (broadcastInDim S2x2x8x16384x1023 ![] bcast_S_S2x2x8x16384x1023 (constant S_ .f32 0x3E000000#32)))
      (broadcastInDim S2x2x8x16384x1023 ![0, 1, 2, 3, 4] bcast_S1x2x8x16384x1023_S2x2x8x16384x1023_0_1_2_3_4
        (broadcastInDim S1x2x8x16384x1023 ![1, 2, 3, 4] bcast_S2x8x16384x1023_S1x2x8x16384x1023_1_2_3_4
          (transpose S2x8x16384x1023 [2, 3, 0, 1]
            (Host.gather gather_S32x2x8_S16384x1023x1_S16384x1023x2x8_23_0_n_n_0_2_128 (shapeCast S32x2x8 rb shapeCasts_S32x16_S32x2x8)
              (broadcastInDim S16384x1023x1 ![0, 1] bcast_S16384x1023_S16384x1023x1_0_1 w))
            transposes_S16384x1023x2x8_S2x8x16384x1023_2_3_0_1))))
    (broadcastInDim S2x2x8x16384x1023 ![] bcast_S_S2x2x8x16384x1023 (id (constant S_ .f32 0xFF800000#32)))

/-- The exponentials of the scores less their row's maximum. -/
def eV (S : FVec Ideal S2x2x8x16384x1023 .f32) : FVec Ideal S2x2x8x16384x1023 .f32 :=
  Host.exp (subf S (broadcastInDim S2x2x8x16384x1023 ![0, 1, 2, 3, 4] bcast_S2x2x8x16384x1_S2x2x8x16384x1023_0_1_2_3_4
    (broadcastInDim S2x2x8x16384x1 ![0, 1, 2, 3] bcast_S2x2x8x16384_S2x2x8x16384x1_0_1_2_3
      (maximumf (broadcastInDim S2x2x8x16384 ![] bcast_S_S2x2x8x16384 (constant S_ .f32 0xFF800000#32))
        (Host.reduce FloatOps.maximumf S (constant S_ .f32 0xFF800000#32) reducesTo_S2x2x8x16384x1023_S2x2x8x16384_d4 h_S_)))))

/-- The weighted sums of the values. -/
def oV (kv : FVec Ideal S2x2x2x1152x64 .f32) (mk : IVec S16384x1023 1) (E : FVec Ideal S2x2x8x16384x1023 .f32) : FVec Ideal S2x2x8x16384x64 .f32 :=
  Host.dotGeneral dot_S2x2x8x16384x1023_S2x2x1023x64_S2x2x8x16384x64_4_2_23_3_01_01 none
    (select (broadcastInDim S2x2x8x16384x1023 ![3, 4] bcast_S16384x1023_S2x2x8x16384x1023_3_4 mk)
      (Host.divf E (broadcastInDim S2x2x8x16384x1023 ![0, 1, 2, 3, 4] bcast_S2x2x8x16384x1_S2x2x8x16384x1023_0_1_2_3_4
        (broadcastInDim S2x2x8x16384x1 ![0, 1, 2, 3] bcast_S2x2x8x16384_S2x2x8x16384x1_0_1_2_3
          (Host.reduceAdd E (constant S_ .f32 0x00000000#32) reducesTo_S2x2x8x16384x1023_S2x2x8x16384_d4 h_S_))))
      (broadcastInDim S2x2x8x16384x1023 ![] bcast_S_S2x2x8x16384x1023 (id (constant S_ .f32 0x00000000#32))))
    (shapeCast S2x2x1023x64 (extractStridedSlice S2x1x2x1023x64 ![0, 1, 0, 120, 0] kv slices_S2x2x2x1152x64_S2x1x2x1023x64_0_1_0_120_0) shapeCasts_S2x1x2x1023x64_S2x2x1023x64)

/-- The reference's result is the composition of these steps. -/
theorem res_eq (c : Dev nD) :
    res_out0 (F := Ideal) m c
      = oV (m ((c.tc : Thread nD τ).loc main_arg1)) (mV dV)
          (eV (sV (m ((c.tc : Thread nD τ).loc main_arg0)) (m ((c.tc : Thread nD τ).loc main_arg1)) (m ((c.tc : Thread nD τ).loc main_arg2)) (mV dV)
            (wV (bV (maxsi dV (cV 0#32)))))) := by
  unfold res_out0 res_main_v69 oV eV sV wV bV mV dV cV fV
  rfl

end Cert.CmpRefIdeal.Val

end
-- ==== Proof.Cmp.RefAt.lean ====
/- The steps of the compressed attention's reference, element by element. -/
module

public import proofs.«01_k».proof.Proof.Cmp.Ref
public import proofs.«01_k».proof.Proof.Win.RefAt

@[expose] public section

set_option maxRecDepth 16384

noncomputable section

namespace Cert.CmpRefIdeal.Val

open Idealize.ShloMosaic Idealize.ShloMosaic.TcCoe Idealize.ShloMosaic.Tactic
open Idealize.SL Idealize.SL.RA Idealize.SL.BI Idealize.SL.Sem
open Cert.CmpRefIdeal.Gen Cert.CmpRefIdeal.Value
open Cert.WinRefIdeal.Val (bWord)

/-- The distance of a pair of positions. -/
theorem dV_at (s : Fin 16384) (n : Fin 1023) : dV (ix2 s n) = IntOp.subi (BitVec.ofNat 32 s.val) (IntOp.subi (IntOp.addi (IntOp.muli (BitVec.ofNat 32 n.val) 16#32) 32#32) 1#32) := by
  unfold dV
  pointwise

/-- The mask at a pair of positions, from the distance's word. -/
theorem mV_at (d : IVec S16384x1023 32) (s : Fin 16384) (n : Fin 1023) :
    mV d (ix2 s n) = IntOp.cmpi .sge (d (ix2 s n)) 0#32 := by
  unfold mV cV
  pointwise

/-- The bucket at a pair of positions, from the distance's word. -/
theorem bV_at (d : IVec S16384x1023 32) (s : Fin 16384) (n : Fin 1023) : bV d (ix2 s n) = bWord (d (ix2 s n)) := by
  unfold bV cV fV bWord
  pointwise
  rfl

/-- The row of the biases at a pair of positions, from the bucket's word. -/
theorem wV_at (b : IVec S16384x1023 32) (s : Fin 16384) (n : Fin 1023) :
    wV b (ix2 s n) = Scalar.select (IntOp.cmpi .slt (b (ix2 s n)) 0#32) (IntOp.addi (b (ix2 s n)) 32#32) (b (ix2 s n)) := by
  unfold wV cV
  pointwise

/-- The distance held at zero from below, at a pair of positions. -/
theorem maxV_at (d : IVec S16384x1023 32) (s : Fin 16384) (n : Fin 1023) : maxsi d (cV 0#32) (ix2 s n) = IntOp.maxsi (d (ix2 s n)) 0#32 := by
  unfold cV
  pointwise

/-- A masked score, from the mask's bit and the row of the biases. -/
theorem sV_at (q : FVec Ideal S2x16384x1024 .f32) (kv : FVec Ideal S2x2x2x1152x64 .f32) (rb : FVec Ideal S32x16 .f32) (mk : IVec S16384x1023 1) (w : IVec S16384x1023 32)
    (b k : Fin 2) (g : Fin 8) (s : Fin 16384) (n : Fin 1023) :
    sV q kv rb mk w (ix5 b k g s n)
      = Scalar.select (mk (ix2 s n))
          ((∑ x : Fin 64, kv (ix5 b 0 k ⟨120 + n.val, by omega⟩ x) * q (ix3 b s ⟨k.val * 512 + g.val * 64 + x.val, by omega⟩))
              * Ideal.ofBits FTy.f32 1040187392#32
            + rb (ix2 ⟨min (w (ix2 s n)).toInt.toNat 31, by omega⟩ ⟨k.val * 8 + g.val, by omega⟩)) (⊥ : EReal) := by
  unfold sV
  pointwise
  simp only [gather_at]
  pointwise
  exact congrArg (Scalar.select _ _) ofBits_neg_inf

/-- The largest score of a row. -/
theorem max_at (S : FVec Ideal S2x2x8x16384x1023 .f32) (b k : Fin 2) (g : Fin 8) (s : Fin 16384) :
    Host.reduce FloatOps.maximumf S (constant S_ .f32 0xFF800000#32) reducesTo_S2x2x8x16384x1023_S2x2x8x16384_d4 h_S_ (ix4 b k g s)
      = Finset.univ.fold max (⊥ : EReal) fun n : Fin 1023 => S (ix5 b k g s n) := by
  have h : S2x2x8x16384x1023.Reduces [4] S2x2x8x16384 := by decide
  refine (Host.reduce_eq_fold_single FloatOps.maximumf S _ reducesTo_S2x2x8x16384x1023_S2x2x8x16384_d4 h h_S_ (ix4 b k g s)).trans ?_
  have e : (S ∘ h.lift (ix4 b k g s) : Fin 1023 → EReal) = fun n => S (ix5 b k g s n) := by
    funext n
    refine congrArg S ?_
    funext a
    match a with
    | ⟨0, _⟩ => rfl
    | ⟨1, _⟩ => rfl
    | ⟨2, _⟩ => rfl
    | ⟨3, _⟩ => rfl
    | ⟨4, _⟩ => rfl
  exact (congrArg₂ (fun z (f : Fin 1023 → EReal) => Finset.fold (max : EReal → EReal → EReal) z f Finset.univ) ofBits_neg_inf e)

/-- The exponentials at an element, the row's maximum given. -/
theorem eV_red (S : FVec Ideal S2x2x8x16384x1023 .f32) (R : FVec Ideal S2x2x8x16384 .f32) (b k : Fin 2) (g : Fin 8) (s : Fin 16384) (n : Fin 1023) :
  (Host.exp (subf S (broadcastInDim S2x2x8x16384x1023 ![0, 1, 2, 3, 4] bcast_S2x2x8x16384x1_S2x2x8x16384x1023_0_1_2_3_4
    (broadcastInDim S2x2x8x16384x1 ![0, 1, 2, 3] bcast_S2x2x8x16384_S2x2x8x16384x1_0_1_2_3
      (maximumf (broadcastInDim S2x2x8x16384 ![] bcast_S_S2x2x8x16384 (constant S_ .f32 0xFF800000#32)) R))))
    : FVec Ideal S2x2x8x16384x1023 .f32) (ix5 b k g s n)
     = Ideal.exp (S (ix5 b k g s n) - max ⊥ (R (ix4 b k g s))) := by
  pointwise
  rw [ofBits_neg_inf]

/-- The exponential of a score less its row's maximum. -/
theorem eV_at (S : FVec Ideal S2x2x8x16384x1023 .f32) (b k : Fin 2) (g : Fin 8) (s : Fin 16384) (n : Fin 1023) :
    eV S (ix5 b k g s n) = Ideal.exp (S (ix5 b k g s n) - Finset.univ.fold max (⊥ : EReal) fun n : Fin 1023 => S (ix5 b k g s n)) := by
  unfold eV
  rw [eV_red, max_at, max_eq_right bot_le]

/-- An element of the result, from the mask and the exponentials. -/
theorem oV_at (kv : FVec Ideal S2x2x2x1152x64 .f32) (mk : IVec S16384x1023 1) (E : FVec Ideal S2x2x8x16384x1023 .f32)
    (b k : Fin 2) (g : Fin 8) (s : Fin 16384) (e : Fin 64) :
    oV kv mk E (ix5 b k g s e)
      = ∑ n : Fin 1023, (Scalar.select (mk (ix2 s n)) (Ideal.div (E (ix5 b k g s n)) (∑ x : Fin 1023, E (ix5 b k g s x))) (0 : EReal) : EReal)
          * kv (ix5 b 1 k ⟨120 + n.val, by omega⟩ e) := by
  have key : ∀ z : EReal, (id (constant (F := Ideal) S_ .f32 0#32) : FVec Ideal S_ .f32) ix0 = z → oV kv mk E (ix5 b k g s e)
      = ∑ n : Fin 1023, (Scalar.select (mk (ix2 s n)) (Ideal.div (E (ix5 b k g s n)) (∑ x : Fin 1023, E (ix5 b k g s x))) z : EReal)
          * kv (ix5 b 1 k ⟨120 + n.val, by omega⟩ e) := by
    intro z hz
    subst hz
    unfold oV
    pointwise
  refine key 0 ?_
  show Ideal.ofBits FTy.f32 0#32 = 0
  simp [Ideal.ofBits, Ideal.ieee]

end Cert.CmpRefIdeal.Val

end
-- ==== Proof.Cmp.BucketR.lean ====
/- The reference's words of the compressed attention: the mask, and the bucket of any distance. -/
module

public import proofs.«01_k».proof.Proof.Cmp.RefAt
public import proofs.«01_k».proof.Proof.Win.BucketR

@[expose] public section

set_option maxRecDepth 16384

noncomputable section

namespace Cert.CmpRefIdeal.Bucket

open Idealize.ShloMosaic Idealize.ShloMosaic.TcCoe Idealize.ShloMosaic.Tactic
open Cert.CmpRefIdeal.Gen Cert.CmpRefIdeal.Val
open Cert.WinIdeal.Host (kb thr)
open Cert.WinRefIdeal.Val (bWord)
open Cert.WinRefIdeal.Bucket (kap ofBits_kap ofBits_16 log_two_gt log_two_lt cnt quot_bounds bWord_eq)

/-- Every threshold is below 1513 or equal to it, so the bucket there and beyond is the last. -/
theorem kb_last (d : ℕ) (h : 1513 ≤ d) : kb d = 31 := by
  have ht : ∀ x : Fin 15, thr x ≤ 1513 := by decide +kernel
  unfold kb
  rw [Finset.filter_true_of_mem fun x _ => (ht x).trans h, Nat.min_eq_right (by omega)]
  rfl

/-- The logarithm's quotient of a large distance lies past the last threshold, and is small. -/
theorem quot_large (d : ℕ) (h : 2048 ≤ d) (h' : d < 16384) :
    (15 : ℝ) ≤ Real.log (d / 16) * kap⁻¹ * 16 ∧ Real.log (d / 16) * kap⁻¹ * 16 < 25 := by
  have hk : 0 < kap := by unfold kap; norm_num
  have hd : (0 : ℝ) < d := by exact_mod_cast (by omega : 0 < d)
  have l1 := log_two_gt
  have l2 := log_two_lt
  have e7 : Real.log (2 ^ 7) = 7 * Real.log 2 := by rw [Real.log_pow]; norm_num
  have e10 : Real.log (2 ^ 10) = 10 * Real.log 2 := by rw [Real.log_pow]; norm_num
  have lo : Real.log (2 ^ 7) ≤ Real.log (d / 16) := by
    refine Real.log_le_log (by norm_num) ?_
    rw [le_div_iff₀ (by norm_num)]
    have : (2048 : ℝ) ≤ d := by exact_mod_cast h
    linarith
  have hi : Real.log (d / 16) ≤ Real.log (2 ^ 10) := by
    refine Real.log_le_log (by positivity) ?_
    rw [div_le_iff₀ (by norm_num)]
    have : (d : ℝ) ≤ 16384 := by exact_mod_cast h'.le
    linarith
  have e : Real.log (d / 16) * kap⁻¹ * 16 = Real.log (d / 16) * 16 / kap := by field_simp
  rw [e, le_div_iff₀ hk, div_lt_iff₀ hk]
  rw [e7] at lo
  rw [e10] at hi
  unfold kap
  constructor <;> linarith

/-- The converted quotient of a large distance, as a count past the last threshold. -/
theorem conv_large (d : ℕ) (h : 2048 ≤ d) (h' : d < 16384) :
    ∃ j : Fin 10, Ideal.fptosi 32 (Ideal.div (Ideal.log (Ideal.div (((d : ℤ) : ℝ) : EReal) (Ideal.ofBits .f32 0x41800000#32))) (Ideal.ofBits .f32 0x409B43D5#32)
      * Ideal.ofBits .f32 0x41800000#32) = BitVec.ofNat 32 (15 + j.val) := by
  obtain ⟨b1, b2⟩ := quot_large d h h'
  have hk : kap ≠ 0 := by unfold kap; norm_num
  have hd : (0 : ℝ) < d := by exact_mod_cast (by omega : 0 < d)
  have hdiv : ∀ x y : ℝ, y ≠ 0 → Ideal.div (x : EReal) (y : EReal) = ((x * y⁻¹ : ℝ) : EReal) := fun x y hy => by
    unfold Ideal.div
    rw [if_neg (by simpa using hy), EReal.coe_mul, EReal.coe_inv]
  have hlog : Ideal.log ((d * 16⁻¹ : ℝ) : EReal) = ((Real.log (d / 16) : ℝ) : EReal) := by
    have : ¬ ((d : ℝ) * 16⁻¹ ≤ 0) := by
      rw [not_le]; positivity
    rw [← div_eq_mul_inv] at this ⊢
    first | exact if_neg this | (simp [Ideal.log, this])
  rw [ofBits_16, ofBits_kap, Int.cast_natCast, hdiv _ _ (by norm_num), hlog, hdiv _ _ hk, ← EReal.coe_mul]
  have f1 : (15 : ℤ) ≤ ⌊Real.log (d / 16) * kap⁻¹ * 16⌋ := Int.le_floor.mpr (by exact_mod_cast b1)
  have f2 : ⌊Real.log (d / 16) * kap⁻¹ * 16⌋ < (25 : ℤ) := Int.floor_lt.mpr (by exact_mod_cast b2)
  have h0 : 0 ≤ Real.log (d / 16) * kap⁻¹ * 16 := le_trans (by norm_num) b1
  have ht : Ideal.toIntClamped (-(2 ^ (32 - 1) : ℕ)) ((2 ^ (32 - 1) : ℕ) - 1) ((Real.log (d / 16) * kap⁻¹ * 16 : ℝ) : EReal) = ⌊Real.log (d / 16) * kap⁻¹ * 16⌋ := by
    show max _ (min _ (if 0 ≤ Real.log (d / 16) * kap⁻¹ * 16 then ⌊Real.log (d / 16) * kap⁻¹ * 16⌋ else _)) = _
    rw [if_pos h0]
    omega
  unfold Ideal.fptosi
  rw [ht]
  generalize ⌊Real.log (d / 16) * kap⁻¹ * 16⌋ = z at f1 f2
  obtain ⟨j, rfl⟩ : ∃ j : ℕ, z = ((15 + j : ℕ) : ℤ) := ⟨(z - 15).toNat, by omega⟩
  exact ⟨⟨j, by omega⟩, BitVec.ofInt_natCast ..⟩

/-- The reference's bucket of every distance of the sequence is the one counted by thresholds. -/
theorem bWord_all (d : ℕ) (h : d < 16384) : bWord (BitVec.ofNat 32 d) = BitVec.ofNat 32 (kb d) := by
  by_cases hs : d < 2048
  · exact bWord_eq d hs
  have hi : (BitVec.ofNat 32 d).toInt = d := by
    simp only [BitVec.toInt_eq_toNat_cond, BitVec.toNat_ofNat]; omega
  have h1 : IntOp.cmpi .slt (BitVec.ofNat 32 d) 16#32 = 0#1 := by
    unfold IntOp.cmpi
    simp only [BitVec.slt, hi]
    rw [decide_eq_false (by simpa using (by omega : ¬ (d : ℤ) < 16))]; rfl
  have h2 : (IntOp.maxsi (BitVec.ofNat 32 d) 16#32).toInt = (d : ℤ) := by
    unfold IntOp.maxsi
    simp only [BitVec.sle, BitVec.slt, hi]
    split
    · rename_i hh; simp at hh; first | exact hi | omega
    · rename_i hh; simp at hh; first | exact hi | omega
  obtain ⟨j, hj⟩ := conv_large d (by omega) h
  unfold bWord
  rw [h1, h2, hj, kb_last d (by omega)]
  show IntOp.minsi (IntOp.addi 16#32 (BitVec.ofNat 32 (15 + j.val))) 31#32 = _
  have : ∀ j : Fin 10, IntOp.minsi (IntOp.addi 16#32 (BitVec.ofNat 32 (15 + j.val))) 31#32 = BitVec.ofNat 32 31 := by decide +kernel
  exact this j

/-- The distance word of a query and a compressed key, as a whole number. -/
theorem dist_toInt (s : Fin 16384) (n : Fin 1023) :
    (IntOp.subi (BitVec.ofNat 32 s.val) (IntOp.subi (IntOp.addi (IntOp.muli (BitVec.ofNat 32 n.val) 16#32) 32#32) 1#32)).toInt
      = (s.val : ℤ) - (16 * n.val + 31) := by
  unfold IntOp.subi IntOp.addi IntOp.muli
  rw [BitVec.toInt_eq_toNat_cond]
  simp only [BitVec.toNat_sub, BitVec.toNat_add, BitVec.toNat_mul, BitVec.toNat_ofNat]
  omega

/-- The mask: the compressed key's last token is not after the query. -/
theorem mask_eq (s : Fin 16384) (n : Fin 1023) : mV dV (ix2 s n) = if 16 * n.val + 31 ≤ s.val then 1#1 else 0#1 := by
  rw [mV_at, dV_at]
  unfold IntOp.cmpi
  simp only [BitVec.sle, dist_toInt]
  have z : (0#32 : BitVec 32).toInt = 0 := rfl
  rw [z]
  by_cases h1 : 16 * n.val + 31 ≤ s.val
  · rw [if_pos h1, decide_eq_true (by omega)]; rfl
  · rw [if_neg h1, decide_eq_false (by omega)]; rfl

/-- The row of the biases of a visible pair. -/
theorem row_eq (s : Fin 16384) (n : Fin 1023) (h : 16 * n.val + 31 ≤ s.val) (hk : kb (s.val - (16 * n.val + 31)) < 32) :
    min (wV (bV (maxsi dV (cV 0#32))) (ix2 s n)).toInt.toNat 31 = kb (s.val - (16 * n.val + 31)) := by
  have e : IntOp.maxsi (IntOp.subi (BitVec.ofNat 32 s.val) (IntOp.subi (IntOp.addi (IntOp.muli (BitVec.ofNat 32 n.val) 16#32) 32#32) 1#32)) 0#32
      = BitVec.ofNat 32 (s.val - (16 * n.val + 31)) := by
    have hx : IntOp.subi (BitVec.ofNat 32 s.val) (IntOp.subi (IntOp.addi (IntOp.muli (BitVec.ofNat 32 n.val) 16#32) 32#32) 1#32)
        = BitVec.ofNat 32 (s.val - (16 * n.val + 31)) := by
      refine BitVec.eq_of_toInt_eq ((dist_toInt s n).trans ?_)
      rw [BitVec.toInt_eq_toNat_cond, BitVec.toNat_ofNat]
      omega
    rw [hx]
    unfold IntOp.maxsi
    have hi : (BitVec.ofNat 32 (s.val - (16 * n.val + 31))).toInt = ((s.val - (16 * n.val + 31) : ℕ) : ℤ) := by
      rw [BitVec.toInt_eq_toNat_cond, BitVec.toNat_ofNat]
      omega
    have z : (0#32 : BitVec 32).toInt = 0 := rfl
    simp only [BitVec.sle, BitVec.slt, hi, z]
    split
    · rename_i hh
      first
        | rfl
        | (simp at hh; have h0 : s.val - (16 * n.val + 31) = 0 := by omega
           rw [h0])
    · rename_i hh
      first
        | rfl
        | (simp at hh; have h0 : s.val - (16 * n.val + 31) = 0 := by omega
           rw [h0])
  rw [wV_at, bV_at, maxV_at, dV_at, e, bWord_all _ (by omega)]
  have : ∀ j : Fin 32, min (Scalar.select (IntOp.cmpi .slt (BitVec.ofNat 32 j.val) 0#32) (IntOp.addi (BitVec.ofNat 32 j.val) 32#32) (BitVec.ofNat 32 j.val)).toInt.toNat 31 = j.val := by
    decide +kernel
  exact this ⟨_, hk⟩

end Cert.CmpRefIdeal.Bucket

end
-- ==== Proof.Cmp.Math.lean ====
/- The softmax over far and near keys is the softmax over all the keys with the others masked. -/
module

public import proofs.«01_k».proof.Proof.Cmp.Pay
public import proofs.«01_k».proof.Proof.Win.Math

@[expose] public section

set_option maxRecDepth 16384

noncomputable section

namespace Cert.CmpIdeal.Math

open Idealize.ShloMosaic Cert.CmpIdeal.Pay

/-- A sum over columns is a sum over keys, where the columns that hold a key correspond to the keys that are seen. -/
theorem move {C N : Type} [Fintype C] [Fintype N] (ok : C → Prop) (win : N → Prop) [DecidablePred ok] [DecidablePred win] (i : C → N)
    (hi : ∀ c, ok c → win (i c)) (hinj : ∀ c c', ok c → ok c' → i c = i c' → c = c') (hsurj : ∀ n, win n → ∃ c, ok c ∧ i c = n)
    (f : C → EReal) (g : N → EReal) (hf : ∀ c, ¬ ok c → f c = 0) (hg : ∀ n, ¬ win n → g n = 0) (hfg : ∀ c, ok c → f c = g (i c)) :
    ∑ c, f c = ∑ n, g n := by
  have e1 : ∑ c, f c = ∑ c ∈ Finset.univ.filter ok, f c :=
    (Finset.sum_filter_of_ne fun c _ hne => by by_contra h; exact hne (hf c h)).symm
  have e2 : ∑ n, g n = ∑ n ∈ Finset.univ.filter win, g n :=
    (Finset.sum_filter_of_ne fun n _ hne => by by_contra h; exact hne (hg n h)).symm
  rw [e1, e2]
  refine Finset.sum_nbij i ?_ ?_ ?_ ?_
  · intro c hc; simp only [Finset.mem_filter, Finset.mem_univ, true_and] at hc ⊢; exact hi c hc
  · intro c hc c' hc' e; simp only [Finset.coe_filter, Finset.mem_univ, true_and, Set.mem_setOf_eq] at hc hc'; exact hinj c c' hc hc' e
  · intro n hn; simp only [Finset.coe_filter, Finset.mem_univ, true_and, Set.mem_setOf_eq] at hn
    obtain ⟨c, hc, e⟩ := hsurj n hn
    exact ⟨c, by simpa using hc, e⟩
  · intro c hc; simp only [Finset.mem_filter, Finset.mem_univ, true_and] at hc; exact hfg c hc

/-- The kernel's weighted sum over far and near keys is the masked softmax's over all the keys. -/
theorem comb_eq {W : ℕ} {N : Type} [Fintype N] (k : Fin W → BitVec 1) (s v : Fin W → EReal) (k' : Fin 128 → BitVec 1) (t v' : Fin 128 → EReal)
    (R vR : N → EReal) (ok : Fin W ⊕ Fin 128 → Prop) (win : N → Prop) [DecidablePred ok] [DecidablePred win] (i : Fin W ⊕ Fin 128 → N)
    (hk : ∀ n, k n = if ok (.inl n) then 1#1 else 0#1) (hk' : ∀ n, k' n = if ok (.inr n) then 1#1 else 0#1)
    (hK : ∀ c, ¬ ok c → Sum.elim s t c = ⊥) (hR : ∀ n, ¬ win n → R n = ⊥)
    (hi : ∀ c, ok c → win (i c)) (hinj : ∀ c c', ok c → ok c' → i c = i c' → c = c') (hsurj : ∀ n, win n → ∃ c, ok c ∧ i c = n)
    (hs : ∀ c, ok c → Sum.elim s t c = R (i c)) (hv : ∀ c, ok c → Sum.elim v v' c = vR (i c)) :
    comb k s v k' t v'
      = ∑ n, (if win n then Ideal.div (Ideal.exp (R n - Finset.univ.fold max ⊥ R)) (∑ n, Ideal.exp (R n - Finset.univ.fold max ⊥ R)) else 0) * vR n := by
  have hM : mx s t = Finset.univ.fold max ⊥ R := by
    have up : ∀ c, Sum.elim s t c ≤ Finset.univ.fold max ⊥ R := fun c => by
      by_cases h : ok c
      · rw [hs c h, Finset.le_fold_max]; exact Or.inr ⟨i c, Finset.mem_univ _, le_refl _⟩
      · rw [hK c h]; exact bot_le
    have dn : ∀ c, Sum.elim s t c ≤ mx s t := fun c => by
      unfold mx
      match c with
      | .inl n => exact le_max_of_le_left (by rw [Finset.le_fold_max]; exact Or.inr ⟨n, Finset.mem_univ _, le_refl _⟩)
      | .inr n => exact le_max_of_le_right (by rw [Finset.le_fold_max]; exact Or.inr ⟨n, Finset.mem_univ _, le_refl _⟩)
    refine le_antisymm (max_le ?_ ?_) ?_
    · rw [Finset.fold_max_le]; exact ⟨bot_le, fun n _ => up (.inl n)⟩
    · rw [Finset.fold_max_le]; exact ⟨bot_le, fun n _ => up (.inr n)⟩
    · rw [Finset.fold_max_le]
      refine ⟨bot_le, fun n _ => ?_⟩
      by_cases h : win n
      · obtain ⟨c, hc, rfl⟩ := hsurj n h
        rw [← hs c hc]; exact dn c
      · rw [hR n h]; exact bot_le
  have z : ∀ M : EReal, Ideal.exp (⊥ - M) = 0 := fun M => by
    rw [sub_eq_add_neg, EReal.bot_add]; simp
  have hD : den s t = ∑ n, Ideal.exp (R n - Finset.univ.fold max ⊥ R) := by
    unfold den
    rw [hM]
    generalize Finset.univ.fold max ⊥ R = M
    refine Eq.trans (Fintype.sum_sum_type fun c => Ideal.exp (Sum.elim s t c - M)).symm ?_
    exact move ok win i hi hinj hsurj _ _ (fun c h => by rw [hK c h, z]) (fun n h => by rw [hR n h, z]) fun c h => by rw [hs c h]
  unfold comb
  rw [hD, hM]
  generalize ∑ n, Ideal.exp (R n - Finset.univ.fold max ⊥ R) = l
  generalize Finset.univ.fold max ⊥ R = M
  refine Eq.trans (b := ∑ c : Fin W ⊕ Fin 128, if ok c then Ideal.div (Ideal.exp (Sum.elim s t c - M)) l * Sum.elim v v' c else 0) ?_ ?_
  · rw [Fintype.sum_sum_type]
    refine congrArg₂ (· + ·) (Finset.sum_congr rfl fun n _ => ?_) (Finset.sum_congr rfl fun n _ => ?_)
    · rw [hk]
      by_cases h : ok (.inl n)
      · rw [if_pos h, if_pos h]; rfl
      · rw [if_neg h, if_neg h]; rfl
    · rw [hk']
      by_cases h : ok (.inr n)
      · rw [if_pos h, if_pos h]; rfl
      · rw [if_neg h, if_neg h]; rfl
  · refine move ok win i hi hinj hsurj _ _ (fun c h => if_neg h) (fun n h => by rw [if_neg h, zero_mul]) fun c h => ?_
    rw [if_pos h, if_pos (hi c h), hs c h, hv c h]

end Cert.CmpIdeal.Math

end
-- ==== Proof.Cmp.Alg.lean ====
/- The compressed attention's kernel and its reference agree, element by element, where the biases are real numbers. -/
module

public import proofs.«01_k».proof.Proof.Cmp.Run
public import proofs.«01_k».proof.Proof.Cmp.Kernel
public import proofs.«01_k».proof.Proof.Cmp.Table
public import proofs.«01_k».proof.Proof.Cmp.BucketR
public import proofs.«01_k».proof.Proof.Cmp.Math

@[expose] public section

set_option maxRecDepth 16384

noncomputable section

namespace Cert.CmpIdeal.Alg

open Idealize.ShloMosaic Idealize.ShloMosaic.TcCoe Idealize.ShloMosaic.Tactic
open Cert.CmpIdeal.Gen Cert.WinMath
open Cert.WinIdeal.Host (kb)
open Cert.CmpIdeal.Host (argQ argK argB)
open Cert.WinIdeal.Table (kb_lt)
open Cert.CmpRefIdeal.Val (sV eV oV mV dV wV bV cV)
open Cert.CmpIdeal.Pay (att sF sN fbit nbit)
open Cert.CmpIdeal.Math (comb_eq)

abbrev Q := FVec Ideal S2x16384x1024 .f32
abbrev KV := FVec Ideal S2x2x2x1152x64 .f32
abbrev RB := FVec Ideal S32x16 .f32

/-- A compressed key that a query sees: the key's last token is not after the query. -/
def win (s : Fin 16384) (n : Fin 1023) : Prop := 16 * n.val + 31 ≤ s.val

instance (s : Fin 16384) : DecidablePred (win s) := fun n => inferInstanceAs (Decidable (_ ≤ _))

/-- A masked score of the reference. -/
def score (q : Q) (kv : KV) (rb : RB) (b k : Fin 2) (g : Fin 8) (s : Fin 16384) (n : Fin 1023) : EReal :=
  if win s n then
    (∑ x : Fin 64, kv (ix5 b 0 k ⟨120 + n.val, by omega⟩ x) * q (ix3 b s ⟨k.val * 512 + g.val * 64 + x.val, by omega⟩)) * ((1 / 8 : ℝ) : EReal)
      + rb (ix2 ⟨kb (s.val - (16 * n.val + 31)), kb_lt _⟩ ⟨k.val * 8 + g.val, by omega⟩)
  else ⊥

/-- A selection by the bit one. -/
theorem select_one (x y : EReal) : Scalar.select 1#1 x y = x := rfl

/-- A selection by the bit zero. -/
theorem select_zero (x y : EReal) : Scalar.select 0#1 x y = y := rfl

/-- The reference's masked scores. -/
theorem sV_eq (q : Q) (kv : KV) (rb : RB) (b k : Fin 2) (g : Fin 8) (s : Fin 16384) (n : Fin 1023) :
    sV q kv rb (mV dV) (wV (bV (maxsi dV (cV 0#32)))) (ix5 b k g s n) = score q kv rb b k g s n := by
  rw [Cert.CmpRefIdeal.Val.sV_at, Cert.CmpRefIdeal.Bucket.mask_eq, Cert.WinIdeal.Host.eighth]
  unfold score
  by_cases h : 16 * n.val + 31 ≤ s.val
  · rw [if_pos h, if_pos (show win s n from h)]
    refine (select_one _ _).trans ?_
    refine congrArg (_ + ·) (congrArg (fun z => rb (ix2 z _)) (Fin.ext ?_))
    exact Cert.CmpRefIdeal.Bucket.row_eq s n h (kb_lt _)
  · rw [if_neg h, if_neg (show ¬ win s n from h)]
    exact select_zero _ _

/-- The reference's result: the softmax of the masked scores, weighting the values. -/
theorem oV_eq (q : Q) (kv : KV) (rb : RB) (b k : Fin 2) (g : Fin 8) (s : Fin 16384) (e : Fin 64) :
    oV kv (mV dV) (eV (sV q kv rb (mV dV) (wV (bV (maxsi dV (cV 0#32)))))) (ix5 b k g s e)
      = ∑ n, (if win s n then Ideal.div (Ideal.exp (score q kv rb b k g s n - Finset.univ.fold max ⊥ (score q kv rb b k g s)))
            (∑ n, Ideal.exp (score q kv rb b k g s n - Finset.univ.fold max ⊥ (score q kv rb b k g s))) else 0)
          * kv (ix5 b 1 k ⟨120 + n.val, by omega⟩ e) := by
  have hf : (fun n : Fin 1023 => sV q kv rb (mV dV) (wV (bV (maxsi dV (cV 0#32)))) (ix5 b k g s n)) = score q kv rb b k g s :=
    funext fun n => sV_eq q kv rb b k g s n
  have he : ∀ n, eV (sV q kv rb (mV dV) (wV (bV (maxsi dV (cV 0#32))))) (ix5 b k g s n)
      = Ideal.exp (score q kv rb b k g s n - Finset.univ.fold max ⊥ (score q kv rb b k g s)) := fun n => by
    rw [Cert.CmpRefIdeal.Val.eV_at, hf, sV_eq]
  rw [Cert.CmpRefIdeal.Val.oV_at]
  simp only [he]
  refine Finset.sum_congr rfl fun n _ => ?_
  rw [Cert.CmpRefIdeal.Bucket.mask_eq]
  by_cases h : 16 * n.val + 31 ≤ s.val
  · rw [if_pos h, if_pos (show win s n from h), select_one]
  · rw [if_neg h, if_neg (show ¬ win s n from h), select_zero]

/-- The column holds a key that the query sees. -/
def ok {W : ℕ} (s : Fin 16384) : Fin W ⊕ Fin 128 → Prop
  | .inl n => n.val + 120 < 8 * (s.val / 128)
  | .inr c => 120 ≤ 8 * (s.val / 128) + c.val ∧ 16 * c.val ≤ s.val % 128 + 1889

instance {W : ℕ} (s : Fin 16384) : DecidablePred (ok (W := W) s) := fun c =>
  match c with
  | .inl n => inferInstanceAs (Decidable (n.val + 120 < 8 * (s.val / 128)))
  | .inr c => inferInstanceAs (Decidable (120 ≤ 8 * (s.val / 128) + c.val ∧ 16 * c.val ≤ s.val % 128 + 1889))

/-- The number of a column's key. -/
def num {W : ℕ} (s : Fin 16384) : Fin W ⊕ Fin 128 → ℕ
  | .inl n => n.val
  | .inr c => 8 * (s.val / 128) + c.val - 120

/-- The key of a column. -/
def key {W : ℕ} (s : Fin 16384) (c : Fin W ⊕ Fin 128) : Fin 1023 := ⟨min (num s c) 1022, by omega⟩

/-- A column that holds a key that is seen has its number below 1023. -/
theorem key_val {W : ℕ} (s : Fin 16384) (c : Fin W ⊕ Fin 128) (h : ok s c) : (key s c).val = num s c := by
  unfold key
  match c with
  | .inl n => unfold ok at h; unfold num; simp only at h ⊢; omega
  | .inr c => unfold ok at h; unfold num; simp only at h ⊢; omega

/-- A column's key is seen. -/
theorem key_win {W : ℕ} (s : Fin 16384) (c : Fin W ⊕ Fin 128) (h : ok s c) : win s (key s c) := by
  unfold win
  rw [key_val s c h]
  match c with
  | .inl n => unfold ok at h; unfold num; simp only at h ⊢; omega
  | .inr c => unfold ok at h; unfold num; simp only at h ⊢; omega

/-- Two columns that hold a key that is seen hold different ones. -/
theorem key_inj {W : ℕ} (s : Fin 16384) (c c' : Fin W ⊕ Fin 128) (h : ok s c) (h' : ok s c') (e : key s c = key s c') : c = c' := by
  have e' := congrArg Fin.val e
  rw [key_val s c h, key_val s c' h'] at e'
  match c, c' with
  | .inl n, .inl n' => unfold num at e'; exact congrArg _ (Fin.ext e')
  | .inl n, .inr c' => unfold num at e'; unfold ok at h h'; simp only at h h' e'; omega
  | .inr c, .inl n' => unfold num at e'; unfold ok at h h'; simp only at h h' e'; omega
  | .inr c, .inr c' => unfold num at e'; unfold ok at h h'; simp only at h h' e'; exact congrArg _ (Fin.ext (by omega))

/-- Every key that is seen is held by a column. -/
theorem key_surj {W : ℕ} (s : Fin 16384) (hW : 8 * (s.val / 128) ≤ W + 120) (n : Fin 1023) (h : win s n) : ∃ c : Fin W ⊕ Fin 128, ok s c ∧ key s c = n := by
  unfold win at h
  by_cases hn : n.val + 120 < 8 * (s.val / 128)
  · refine ⟨.inl ⟨n.val, by omega⟩, hn, Fin.ext ?_⟩
    exact (key_val s _ hn)
  · have ho : ok (W := W) s (.inr ⟨n.val + 120 - 8 * (s.val / 128), by omega⟩) := by
      unfold ok; simp only; omega
    refine ⟨_, ho, Fin.ext ?_⟩
    refine (key_val s _ ho).trans ?_
    unfold num; simp only; omega

/-- A score of the kernel, with the query already scaled, is the reference's. -/
theorem dot_eq (q : Q) (kv : KV) (b k : Fin 2) (g : Fin 8) (s : Fin 16384) (n : Fin 1023) (q' kk : Fin 64 → EReal)
    (eq : ∀ d, q' d = q (ix3 b s ⟨(k.val * 8 + g.val) * 64 + d.val, by omega⟩) * ((1 / 8 : ℝ) : EReal))
    (ek : ∀ d, kk d = kv (ix5 b 0 k ⟨120 + n.val, by omega⟩ d)) :
    ∑ d, q' d * kk d
      = (∑ x : Fin 64, kv (ix5 b 0 k ⟨120 + n.val, by omega⟩ x) * q (ix3 b s ⟨k.val * 512 + g.val * 64 + x.val, by omega⟩)) * ((1 / 8 : ℝ) : EReal) := by
  rw [sum_mul_real _ _ _ (by norm_num)]
  refine Finset.sum_congr rfl fun d _ => ?_
  rw [eq, ek, mul_right_comm, mul_comm (q _)]
  refine congrArg (· * _) (congrArg (_ * ·) (congrArg (fun z => q (ix3 b s z)) (Fin.ext ?_)))
  simp only; omega

/-- The kernel's attention over its columns is the reference's over the keys. -/
theorem att_eq {W : ℕ} (q : Q) (kv : KV) (rb : RB) (b k : Fin 2) (g : Fin 8) (s : Fin 16384) (e : Fin 64) (hb : ∀ i, IsReal (rb i))
    (hW : 8 * (s.val / 128) ≤ W + 120)
    (q' : Fin 64 → EReal) (kF : Fin W → Fin 64 → EReal) (vF : Fin W → EReal) (f : EReal) (kN : Fin 128 → Fin 64 → EReal) (vN tb : Fin 128 → EReal)
    (eq : ∀ d, q' d = q (ix3 b s ⟨(k.val * 8 + g.val) * 64 + d.val, by omega⟩) * ((1 / 8 : ℝ) : EReal))
    (ekF : ∀ (n : Fin W) (h : 120 + n.val < 1152) d, kF n d = kv (ix5 b 0 k ⟨120 + n.val, h⟩ d))
    (evF : ∀ (n : Fin W) (h : 120 + n.val < 1152), vF n = kv (ix5 b 1 k ⟨120 + n.val, h⟩ e))
    (ef : f = rb (ix2 31 ⟨k.val * 8 + g.val, by omega⟩))
    (ekN : ∀ n d, kN n d = kv (ix5 b 0 k ⟨8 * (s.val / 128) + n.val, by omega⟩ d))
    (evN : ∀ n, vN n = kv (ix5 b 1 k ⟨8 * (s.val / 128) + n.val, by omega⟩ e))
    (et : ∀ c, tb c = if 16 * c.val ≤ s.val % 128 + 1889 then
        rb (ix2 ⟨kb (s.val % 128 + 1889 - 16 * c.val), kb_lt _⟩ ⟨k.val * 8 + g.val, by omega⟩) else ⊥) :
    att (s.val / 128) q' kF vF f kN vN tb
      = oV kv (mV dV) (eV (sV q kv rb (mV dV) (wV (bV (maxsi dV (cV 0#32)))))) (ix5 b k g s e) := by
  have tpos : ∀ c : Fin 128, ⊥ < tb c ↔ 16 * c.val ≤ s.val % 128 + 1889 := fun c => by
    rw [et]
    by_cases h : 16 * c.val ≤ s.val % 128 + 1889
    · rw [if_pos h]
      obtain ⟨r, hr⟩ := hb (ix2 ⟨kb (s.val % 128 + 1889 - 16 * c.val), kb_lt _⟩ ⟨k.val * 8 + g.val, by omega⟩)
      rw [hr]; exact ⟨fun _ => h, fun _ => EReal.bot_lt_coe r⟩
    · rw [if_neg h]; exact ⟨fun h' => absurd h' (lt_irrefl _), fun h' => absurd h' h⟩
  have hfb : ∀ n : Fin W, fbit (s.val / 128) n.val = if ok (W := W) s (.inl n) then 1#1 else 0#1 := fun n => rfl
  have hnb : ∀ n : Fin 128, nbit (s.val / 128) tb n = if ok (W := W) s (.inr n) then 1#1 else 0#1 := fun n => by
    unfold nbit
    by_cases h : ok (W := W) s (.inr n)
    · rw [if_pos h, if_pos ⟨h.1, (tpos n).mpr h.2⟩]
    · rw [if_neg h, if_neg (fun h' => h ⟨h'.1, (tpos n).mp h'.2⟩)]
  rw [oV_eq]
  unfold att
  refine comb_eq _ (sF (s.val / 128) q' kF f) vF _ (sN (s.val / 128) q' kN tb) vN (score q kv rb b k g s) (fun n => kv (ix5 b 1 k ⟨120 + n.val, by omega⟩ e))
    (ok s) (win s) (key s) hfb hnb ?_ ?_ (key_win s) (key_inj s) (key_surj s hW) ?_ ?_
  · intro c h
    match c with
    | .inl n => show sF _ _ _ _ _ = _; unfold sF; rw [hfb, if_neg h]; rfl
    | .inr n => show sN _ _ _ _ _ = _; unfold sN; rw [hnb, if_neg h]; rfl
  · intro n h
    unfold score
    rw [if_neg h]
  · intro c h
    have hw := key_win s c h
    have hv := key_val s c h
    match c with
    | .inl n =>
      show sF _ _ _ _ _ = _
      unfold sF score
      rw [hfb, if_pos h, if_pos hw]
      refine (select_one _ _).trans ?_
      have h' : n.val + 120 < 8 * (s.val / 128) := h
      have hv' : (key s (Sum.inl n : Fin W ⊕ Fin 128)).val = n.val := hv
      rw [dot_eq q kv b k g s (key s (.inl n)) q' (kF n) eq fun d => ?_, ef]
      · refine congrArg (_ + ·) (congrArg (fun z => rb (ix2 z _)) (Fin.ext ?_))
        show 31 = kb (s.val - (16 * (key s (Sum.inl n : Fin W ⊕ Fin 128)).val + 31))
        rw [hv', Cert.CmpRefIdeal.Bucket.kb_last _ (by omega)]
      · rw [ekF n (by omega) d]
        exact congrArg (fun z => kv (ix5 b 0 k z d)) (Fin.ext (by simp only [hv']))
    | .inr n =>
      show sN _ _ _ _ _ = _
      unfold sN score
      rw [hnb, if_pos h, if_pos hw]
      refine (select_one _ _).trans ?_
      have h' : 120 ≤ 8 * (s.val / 128) + n.val ∧ 16 * n.val ≤ s.val % 128 + 1889 := h
      have hv' : (key s (Sum.inr n : Fin W ⊕ Fin 128)).val = 8 * (s.val / 128) + n.val - 120 := hv
      rw [dot_eq q kv b k g s (key s (Sum.inr n : Fin W ⊕ Fin 128)) q' (kN n) eq fun d => ?_, et, if_pos h'.2]
      · refine congrArg (_ + ·) (congrArg (fun z => rb (ix2 z _)) (Fin.ext ?_))
        show kb _ = kb (s.val - (16 * (key s (Sum.inr n : Fin W ⊕ Fin 128)).val + 31))
        rw [hv']
        exact congrArg kb (by omega)
      · rw [ekN n d]
        exact congrArg (fun z => kv (ix5 b 0 k z d)) (Fin.ext (by simp only [hv']; omega))
  · intro c h
    have hv := key_val s c h
    match c with
    | .inl n =>
      have h' : n.val + 120 < 8 * (s.val / 128) := h
      have hv' : (key s (Sum.inl n : Fin W ⊕ Fin 128)).val = n.val := hv
      refine (evF n (by omega)).trans ?_
      exact congrArg (fun z => kv (ix5 b 1 k z e)) (Fin.ext (by simp only [hv']))
    | .inr n =>
      have h' : 120 ≤ 8 * (s.val / 128) + n.val ∧ 16 * n.val ≤ s.val % 128 + 1889 := h
      have hv' : (key s (Sum.inr n : Fin W ⊕ Fin 128)).val = 8 * (s.val / 128) + n.val - 120 := hv
      refine (evN n).trans ?_
      exact congrArg (fun z => kv (ix5 b 1 k z e)) (Fin.ext (by simp only [hv']; omega))

variable (m : (ℓ : Loc nD τ sig) → Buf (Elt Ideal) ℓ) (ρ : Dev nD → PrngReg)

/-- The kernel's attention with a given number of far keys is the reference's. -/
theorem part_eq (W : ℕ) (hW1 : 120 + W ≤ 1152) (c : Dev nD) (hb : ∀ i, IsReal (argB m c i)) (b k : Fin 2) (g : Fin 8) (s : Fin 16384) (e : Fin 64)
    (hW : 8 * (s.val / 128) ≤ W + 120) :
    Kernel.part (V6 m ρ) W hW1 c b k g s e
      = oV (argK m c) (mV dV) (eV (sV (argQ m c) (argK m c) (argB m c) (mV dV) (wV (bV (maxsi dV (cV 0#32)))))) (ix5 b k g s e) := by
  unfold Kernel.part
  refine att_eq (argQ m c) (argK m c) (argB m c) b k g s e hb hW _ _ _ _ _ _ _ ?_ ?_ ?_ ?_ ?_ ?_ ?_
  · exact fun d => Host.q_at m ρ c b k g s d
  · exact fun n h d => Host.k_at m ρ c _
  · exact fun n h => Host.k_at m ρ c _
  · refine (Host.far_at m ρ c k _).trans ?_
    refine congrArg (fun z => argB m c (ix2 31 z)) (Fin.ext ?_)
    simp only; omega
  · exact fun n d => Host.k_at m ρ c _
  · exact fun n => Host.k_at m ρ c _
  · exact fun n => Table.tab_at m ρ c k g ⟨s.val % 128, by omega⟩ n

/-- The kernel's result is the reference's, of the same arguments. -/
theorem result_eq (c : Dev nD) (hb : ∀ i, IsReal (argB m c i)) :
    Gen.W7 m ρ c (Proc.devRef .tc main_v105_0)
      = (oV (argK m c) (mV dV) (eV (sV (argQ m c) (argK m c) (argB m c) (mV dV) (wV (bV (maxsi dV (cV 0#32)))))) : S2x2x8x16384x64.Idx → EReal) := by
  refine ((W7_arr m ρ c 6).trans (Kernel.arr_eq (V6 m ρ) c)).trans ?_
  funext i
  have hi : i = ix5 (i 0) (i 1) (i 2) (i 3) (i 4) := by
    funext a
    match a with
    | ⟨0, _⟩ => rfl
    | ⟨1, _⟩ => rfl
    | ⟨2, _⟩ => rfl
    | ⟨3, _⟩ => rfl
    | ⟨4, _⟩ => rfl
  generalize h0 : i 0 = b at hi
  generalize h1 : i 1 = k at hi
  generalize h2 : i 2 = g at hi
  generalize h3 : i 3 = s at hi
  generalize h4 : i 4 = e at hi
  subst hi
  have hs : s.val < 16384 := s.isLt
  show (if s.val / 128 ≤ 47 then Kernel.part (V6 m ρ) 256 _ c b k g s e else if s.val / 128 ≤ 79 then Kernel.part (V6 m ρ) 512 _ c b k g s e
    else if s.val / 128 ≤ 111 then Kernel.part (V6 m ρ) 768 _ c b k g s e else Kernel.part (V6 m ρ) 1024 _ c b k g s e) = _
  by_cases c0 : s.val / 128 ≤ 47
  · rw [if_pos c0]; exact part_eq m ρ 256 _ c hb b k g s e (by omega)
  rw [if_neg c0]
  by_cases c1 : s.val / 128 ≤ 79
  · rw [if_pos c1]; exact part_eq m ρ 512 _ c hb b k g s e (by omega)
  rw [if_neg c1]
  by_cases c2 : s.val / 128 ≤ 111
  · rw [if_pos c2]; exact part_eq m ρ 768 _ c hb b k g s e (by omega)
  rw [if_neg c2]; exact part_eq m ρ 1024 _ c hb b k g s e (by omega)

end Cert.CmpIdeal.Alg

end
-- ==== Proof.Cmp.Pre.lean ====
/- The compressed attention's precondition, read back: the biases are real numbers. -/
module

public import proofs.«01_k».proof.Pre_finite_biases
public import proofs.«01_k».proof.Proof.Win.Pre

@[expose] public section

set_option maxRecDepth 16384

noncomputable section

namespace Cert.CmpPre

open Idealize.ShloMosaic Idealize.ShloMosaic.TcCoe Idealize.ShloMosaic.Tactic
open Cert.Pre_finite_biases Cert.WinMath

/-- The shape facts of the precondition's operations. -/
instance facts : Cert.Pre_finite_biases.Facts where
  bcast_S_S32x16 := by decide
  reducesTo_S32x16_S_d0_1 := by decide
  h_S_ := by decide

instance : Subsingleton S_.Idx := ⟨fun i j => funext fun a => a.elim0⟩

/-- What the precondition says of the biases. -/
theorem of_fn (q : FVec Ideal S2x16384x1024 .f32) (kv : FVec Ideal S2x2x2x1152x64 .f32) (rb : FVec Ideal S32x16 .f32) (w : FVec Ideal S1152x256 .f32)
    (h : Cert.Pre_finite_biases.fn (F := Ideal) q kv rb w = fun _ => 1#1) : ∀ i, IsReal (rb i) := fun i =>
  Cert.WinPre.isReal_of_test _ (Host.reduce_andi_all _ _ _ _ _ (congrFun h ix0) i)

end Cert.CmpPre

end
-- ==== Proof.Cmp.Claims.lean ====
/- The compressed attention's claims. -/
module

public import proofs.«01_k».proof.Defs
public import proofs.«01_k».proof.Proof.Gen.Cmp.Frame
public import proofs.«01_k».proof.Proof.Cmp.Alg
public import proofs.«01_k».proof.Proof.Cmp.Pre
public import Idealize.ShloMosaic.Lib.Quiescent

@[expose] public section

set_option maxRecDepth 16384

noncomputable section

namespace Cert.CmpClaims

open Idealize.ShloMosaic Idealize.ShloMosaic.TcCoe Idealize.SL.Sem

/-- The reference runs, keeps its arguments, and ends with its counters at zero. -/
theorem frame_ref (m : (ℓ : Loc CmpRefIdeal.nD CmpRefIdeal.τ CmpRefIdeal.sig) → Buf (Elt Ideal) ℓ) (g : Dev CmpRefIdeal.nD → PrngReg) :
    θ_run (CmpRefIdeal.defs (F := Ideal)) (onTc (τ := CmpRefIdeal.τ) (CmpRefIdeal.main (F := Ideal))) ⟨m, fun _ => 0, g⟩ (fun r => (∀ c : Dev CmpRefIdeal.nD,
      r.2.mem ((c.tc : Thread CmpRefIdeal.nD CmpRefIdeal.τ).loc CmpRefIdeal.main_arg0) = m ((c.tc : Thread CmpRefIdeal.nD CmpRefIdeal.τ).loc CmpRefIdeal.main_arg0)
      ∧ r.2.mem ((c.tc : Thread CmpRefIdeal.nD CmpRefIdeal.τ).loc CmpRefIdeal.main_arg1) = m ((c.tc : Thread CmpRefIdeal.nD CmpRefIdeal.τ).loc CmpRefIdeal.main_arg1)
      ∧ r.2.mem ((c.tc : Thread CmpRefIdeal.nD CmpRefIdeal.τ).loc CmpRefIdeal.main_arg2) = m ((c.tc : Thread CmpRefIdeal.nD CmpRefIdeal.τ).loc CmpRefIdeal.main_arg2)
      ∧ r.2.mem ((c.tc : Thread CmpRefIdeal.nD CmpRefIdeal.τ).loc CmpRefIdeal.main_arg3) = m ((c.tc : Thread CmpRefIdeal.nD CmpRefIdeal.τ).loc CmpRefIdeal.main_arg3))
      ∧ r.2.sem = fun _ => 0) :=
  (θ_run _ _ _).mono (fun r h => ⟨fun c => (h c).2, sem_eq_zero_of_no_sems (by decide) _⟩) (Cert.CmpRefIdeal.Value.run (F := Ideal) m g)

/-- The mask's constant and half the mask's constant stand for minus infinity. -/
theorem preserves : Cert.preserves_Cmp_CmpIdeal :=
  ⟨IdealRules.named_const.statement _ _ _ _ _ (by first | rfl | decide | simp [Cert.CmpIdeal.κ]),
    IdealRules.named_const.statement _ _ _ _ _ (by first | rfl | decide | simp [Cert.CmpIdeal.κ])⟩

/-- The kernel and the reference end with equal results. -/
theorem algebraic : Cert.algebraic_CmpIdeal_CmpRefIdeal_pre_finite_biases
    (hCmpIdeal := Cert.CmpIdeal.Gen.facts) (hCmpRefIdeal := Cert.CmpRefIdeal.Gen.facts) (hPre_finite_biases := Cert.CmpPre.facts) := by
  intro m g m' g' hp ha
  refine ⟨fun c => Cert.CmpIdeal.Gen.W7 m g c (Proc.devRef .tc Cert.CmpIdeal.main_v105_0), Cert.CmpIdeal.Run.run (F := Ideal) m g, ?_⟩
  refine (θ_run _ _ _).mono (fun r h c => ⟨(h c).1.trans ?_, (h c).2⟩) (Cert.CmpRefIdeal.Value.run (F := Ideal) m' g')
  have hb := Cert.CmpPre.of_fn _ _ _ _ (hp c)
  obtain ⟨a0, a1, a2, -⟩ := ha c
  refine (Cert.CmpRefIdeal.Val.res_eq m' c).trans ?_
  rw [a0, a1, a2]
  exact (Cert.CmpIdeal.Alg.result_eq m g c hb).symm

end Cert.CmpClaims

end
-- ==== Proof.Final.Kernel.lean ====
/- What the last residual's launch leaves in its result's array, element by element. -/
module

public import proofs.«01_k».proof.Proof.Gen.FinalIdeal.Value
public import Idealize.ShloMosaic.Lib.Pointwise
public import Idealize.ShloMosaic.Lib.Pipeline.ValueKit
public import Idealize.ShloMosaic.Lib.Pipeline.Covers
public import Idealize.ShloMosaic.Lib.StableHlo.ReadAt
public import Idealize.ShloMosaic.Lib.Tactic.WordOmega

@[expose] public section

set_option maxRecDepth 16384

noncomputable section

namespace Cert.FinalMath

open Idealize.ShloMosaic

/-- A row's channel after the residual. -/
def res (x y g : Fin 2048 → EReal) (k : Fin 2048) : EReal := x k + g k * y k

/-- A channel of a row divided by the row's root mean square, and weighted. -/
def out (h w : Fin 2048 → EReal) (k : Fin 2048) : EReal :=
  h k * Ideal.rsqrt (Ideal.div (∑ i, h i * h i) (Ideal.ofBits FTy.f32 1157627904#32) + Ideal.ofBits FTy.f32 897988541#32) * w k

end Cert.FinalMath

namespace Cert.FinalIdeal.Kernel

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Cert.FinalIdeal.Gen

/-- The kernel's result of one block at an element. -/
theorem pay_at (v0 : Vec Ideal S1x512x2048 .f32) (v2 : Vec Ideal S1x1x2048 .f32) (v4 : Vec Ideal S2048x512 .f32) (v19 : Vec Ideal S1x2048 .f32) (j : S1x512x2048.Idx) :
    k0_pay1 (F := Ideal) v0 v2 v4 v19 j
      = FinalMath.out (FinalMath.res (fun k => v0 (ix3 0 (j 1) k)) (fun k => v4 (ix2 k (j 1))) (fun k => v2 (ix3 0 0 k))) (fun k => v19 (ix2 0 k)) (j 2) := by
  have e : v0 j = v0 (ix3 0 (j 1) (j 2)) := congrArg v0 (by
    have h0 : (j 0).val < 1 := (j 0).isLt
    funext a
    fin_cases a
    · exact Fin.ext (Nat.lt_one_iff.mp h0)
    · rfl
    · rfl)
  unfold k0_pay1 FinalMath.out FinalMath.res
  pointwise
  rw [e]

variable (m : (ℓ : Loc nD τ sig) → Buf (Elt Ideal) ℓ)

/-- The norm's weights as the launch finds them. -/
theorem nw_at (c : Dev nD) (k : Fin 2048) : V m c main_v0 (ix2 0 k) = (m ((c : Thread nD τ).loc main_arg3) : S2048.Idx → EReal) (ix1 k) := by
  unfold V
  after_reads_at

/-- The blocks each window reads or writes at a grid point. -/
theorem index0 : ∀ t : Fin grid0.N,
    win0_0.index t = ![(grid0.coords t 0).val, (grid0.coords t 1).val, 0]
    ∧ win0_1.index t = ![0, (grid0.coords t 0).val * 32 + (grid0.coords t 1).val]
    ∧ win0_2.index t = ![(grid0.coords t 0).val, 0, 0]
    ∧ win0_3.index t = ![0, 0]
    ∧ win0_4.index t = ![(grid0.coords t 0).val, (grid0.coords t 1).val, 0] := by
  decide +kernel

/-- The column of the feed-forward array at a token of a batch. -/
def col (b : Fin 2) (s : Fin 16384) : Fin 32768 := ⟨b.val * 16384 + s.val, by omega⟩

/-- The launch's result at an index, from the arrays it reads. -/
def G (c : Dev nD) : S2x16384x2048.Idx → EReal := fun i =>
  FinalMath.out (FinalMath.res (fun k => V m c main_arg0 (ix3 (i 0) (i 1) k)) (fun k => V m c main_arg1 (ix2 k (col (i 0) (i 1)))) (fun k => V m c main_arg2 (ix3 (i 0) 0 k)))
    (fun k => V m c main_v0 (ix2 0 k)) (i 2)

/-- A block of the rows, at an element. -/
theorem blk0_at (c : Dev nD) (t : Fin cfg0.N) (r : Fin 512) (k : Fin 2048) (b : Fin 2) (s : Fin 16384)
    (h0 : b.val = (grid0.coords t 0).val) (h1 : s.val = (grid0.coords t 1).val * 512 + r.val) :
    iblk m c 0 t (ix3 0 r k) = V m c main_arg0 (ix3 b s k) := by
  obtain ⟨e0, e1, e2, e3, e4⟩ := index0 t
  blk_ext [iblk, e0]

/-- A block of the feed-forward array, at an element. -/
theorem blk1_at (c : Dev nD) (t : Fin cfg0.N) (k : Fin 2048) (r : Fin 512) (b : Fin 2) (s : Fin 16384)
    (h0 : b.val = (grid0.coords t 0).val) (h1 : s.val = (grid0.coords t 1).val * 512 + r.val) :
    iblk m c 1 t (ix2 k r) = V m c main_arg1 (ix2 k (col b s)) := by
  obtain ⟨e0, e1, e2, e3, e4⟩ := index0 t
  unfold col
  blk_ext [iblk, e1]

/-- A block of the gates, at an element. -/
theorem blk2_at (c : Dev nD) (t : Fin cfg0.N) (k : Fin 2048) (b : Fin 2) (h0 : b.val = (grid0.coords t 0).val) :
    iblk m c 2 t (ix3 0 0 k) = V m c main_arg2 (ix3 b 0 k) := by
  obtain ⟨e0, e1, e2, e3, e4⟩ := index0 t
  blk_ext [iblk, e2]

/-- The norm's weights in a block, at an element. -/
theorem blk3_at (c : Dev nD) (t : Fin cfg0.N) (k : Fin 2048) : iblk m c 3 t (ix2 0 k) = V m c main_v0 (ix2 0 k) := by
  obtain ⟨e0, e1, e2, e3, e4⟩ := index0 t
  blk_ext [iblk, e3]

/-- The array the launch leaves is `G`. -/
theorem arr_eq (c : Dev nD) : (dats m 0 c).arrAt 4 cfg0.N = G m c := by
  refine (dats m 0 c).arrAt_eq_of_covers 4 _ ((cfg0.win 4).covers_of_indexMap_surj rfl (by decide) fun β => ?_) fun t hf y => ?_
  · have h0 : (β 0).val < 2 := lt_of_lt_of_eq (β 0).isLt (by decide : (cfg0.win 4).nblk 0 = 2)
    have h1 : (β 1).val < 32 := lt_of_lt_of_eq (β 1).isLt (by decide : (cfg0.win 4).nblk 1 = 32)
    have h2 : (β 2).val < 1 := lt_of_lt_of_eq (β 2).isLt (by decide : (cfg0.win 4).nblk 2 = 1)
    obtain ⟨t, ht⟩ := grid0.coords_surjective (fun | 0 => ⟨(β 0).val, h0⟩ | 1 => ⟨(β 1).val, h1⟩)
    have e4 : win0_4.indexMap (grid0.coords t) = _ := (index0 t).2.2.2.2
    refine ⟨grid0.coords t, fun a => ?_⟩
    rw [show (cfg0.win 4).indexMap (grid0.coords t) = _ from e4, ht]
    fin_cases a
    · rfl
    · rfl
    · show 0 = (β 2).val
      omega
  · obtain ⟨e0, e1, e2, e3, e4⟩ := index0 t
    blk_simp
    rw [after0_4]
    unfold out0_4
    frame_out
    have y0 : (y 0).val < 1 := (y 0).isLt
    have y1 : (y 1).val < 512 := (y 1).isLt
    have y2 : (y 2).val < 2048 := (y 2).isLt
    have hb : (grid0.coords t 0).val < 2 := (grid0.coords t 0).isLt
    have hi : (grid0.coords t 1).val < 32 := (grid0.coords t 1).isLt
    have a0 : ((((View.whole main_v1).slice (win0_4.rect t)).emb y) 0).val = (grid0.coords t 0).val := by
      blk_simp [e4]
    have a1 : ((((View.whole main_v1).slice (win0_4.rect t)).emb y) 1).val = (grid0.coords t 1).val * 512 + (y 1).val := by
      blk_simp [e4]
    have a2 : ((((View.whole main_v1).slice (win0_4.rect t)).emb y) 2).val = (y 2).val := by
      blk_simp [e4]
    refine (pay_at _ _ _ _ y).trans ?_
    unfold G
    generalize ((View.whole main_v1).slice (win0_4.rect t)).emb y = J at a0 a1 a2 ⊢
    have c0 : (fun k : Fin 2048 => iblk m c 0 t (ix3 0 (y 1) k)) = fun k => V m c main_arg0 (ix3 (J 0) (J 1) k) := funext fun k => blk0_at m c t _ k _ _ a0 a1
    have c1 : (fun k : Fin 2048 => iblk m c 1 t (ix2 k (y 1))) = fun k => V m c main_arg1 (ix2 k (col (J 0) (J 1))) := funext fun k => blk1_at m c t k _ _ _ a0 a1
    have c2 : (fun k : Fin 2048 => iblk m c 2 t (ix3 0 0 k)) = fun k => V m c main_arg2 (ix3 (J 0) 0 k) := funext fun k => blk2_at m c t k _ a0
    have c3 : (fun k : Fin 2048 => iblk m c 3 t (ix2 0 k)) = fun k => V m c main_v0 (ix2 0 k) := funext fun k => blk3_at m c t k
    have c4 : (y 2 : Fin 2048) = J 2 := Fin.ext a2.symm
    exact congr (congr (congrArg FinalMath.out (congr (congr (congrArg FinalMath.res c0) c1) c2)) c3) c4

end Cert.FinalIdeal.Kernel

end
-- ==== Proof.Final.Ref.lean ====
/- The reference's last residual and norm, element by element. -/
module

public import proofs.«01_k».proof.Proof.Gen.FinalRefIdeal
public import proofs.«01_k».proof.Proof.Gen.FinalRefIdeal.Run
public import proofs.«01_k».proof.Proof.Final.Kernel
public import Idealize.ShloMosaic.Lib.Pointwise

@[expose] public section

set_option maxRecDepth 16384

noncomputable section

namespace Cert.FinalRefIdeal.Value

open Cert.FinalRefIdeal Cert.FinalRefIdeal.Gen Idealize.ShloMosaic Idealize.ShloMosaic.TcCoe

/-- The stream after the residual. -/
def hV (x : FVec Ideal S2x16384x2048 .f32) (y : FVec Ideal S2048x32768 .f32) (g : FVec Ideal S2x1x2048 .f32) : FVec Ideal S2x16384x2048 .f32 :=
  addf x (mulf (broadcastInDim S2x16384x2048 ![0, 1, 2] bcast_S2x1x2048_S2x16384x2048_0_1_2 g) (shapeCast _ (transpose S32768x2048 [1, 0] y transposes_S2048x32768_S32768x2048_1_0) shapeCasts_S32768x2048_S2x16384x2048))

/-- The factor each row is multiplied by. -/
def rV (h : FVec Ideal S2x16384x2048 .f32) : FVec Ideal S2x16384x1 .f32 :=
  Host.rsqrt (addf (Host.divf (broadcastInDim S2x16384x1 ![0, 1] bcast_S2x16384_S2x16384x1_0_1 (Host.reduceAdd (mulf h h) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))

/-- The stream normalised and weighted. -/
def oV (h : FVec Ideal S2x16384x2048 .f32) (w : FVec Ideal S2048 .f32) : FVec Ideal S2x16384x2048 .f32 :=
  mulf (mulf h (broadcastInDim S2x16384x2048 ![0, 1, 2] bcast_S2x16384x1_S2x16384x2048_0_1_2 (rV h))) (broadcastInDim S2x16384x2048 ![0, 1, 2] bcast_S1x1x2048_S2x16384x2048_0_1_2 (broadcastInDim S1x1x2048 ![2] bcast_S2048_S1x1x2048_2 w))

/-- The stream after the residual, at an element. -/
theorem hV_at (x : FVec Ideal S2x16384x2048 .f32) (y : FVec Ideal S2048x32768 .f32) (g : FVec Ideal S2x1x2048 .f32) (b : Fin 2) (s : Fin 16384) (k : Fin 2048) :
    hV x y g (ix3 b s k) = FinalMath.res (fun k => x (ix3 b s k)) (fun k => y (ix2 k (FinalIdeal.Kernel.col b s))) (fun k => g (ix3 b 0 k)) k := by
  unfold hV FinalMath.res FinalIdeal.Kernel.col
  pointwise

/-- The factor of a row. -/
theorem rV_at (h : FVec Ideal S2x16384x2048 .f32) (b : Fin 2) (s : Fin 16384) : rV h (ix3 b s 0) =
    Ideal.rsqrt (Ideal.div (∑ i : Fin 2048, h (ix3 b s i) * h (ix3 b s i)) (Ideal.ofBits FTy.f32 1157627904#32) + Ideal.ofBits FTy.f32 897988541#32) := by
  unfold rV
  pointwise

/-- The normalised stream at an element. -/
theorem oV_at (h : FVec Ideal S2x16384x2048 .f32) (w : FVec Ideal S2048 .f32) (b : Fin 2) (s : Fin 16384) (k : Fin 2048) :
    oV h w (ix3 b s k) = FinalMath.out (fun k => h (ix3 b s k)) (fun k => w (ix1 k)) k := by
  unfold oV FinalMath.out
  pointwise
  rw [rV_at]

end Cert.FinalRefIdeal.Value

end
-- ==== Proof.Final.Claims.lean ====
/- The claims of the last residual and norm: its reference's frame, and its equality with its reference. -/
module

public import proofs.«01_k».proof.Defs
public import proofs.«01_k».proof.Proof.Gen.Final.Frame
public import proofs.«01_k».proof.Proof.Final.Kernel
public import proofs.«01_k».proof.Proof.Final.Ref
public import Idealize.ShloMosaic.Lib.Quiescent

@[expose] public section

set_option maxRecDepth 16384

noncomputable section

namespace Cert.FinalClaims

open Idealize.ShloMosaic Idealize.ShloMosaic.TcCoe Idealize.SL.Sem

/-- The reference runs, keeps its arguments, and ends with its counters at zero. -/
theorem frame_ref : Cert.quiescent_FinalRefIdeal (hFinalRefIdeal := Cert.FinalRefIdeal.Gen.facts) := fun m g _ =>
  (θ_run _ _ _).mono (fun r h => ⟨fun c => (h c).2, sem_eq_zero_of_no_sems (by decide) _⟩) (Cert.FinalRefIdeal.Value.run (F := Ideal) m g)

section
open Cert.FinalIdeal Cert.FinalIdeal.Gen
variable (m : (ℓ : Loc nD τ sig) → Buf (Elt Ideal) ℓ)

/-- The array the launch leaves is the reference's function of the program's arguments. -/
theorem result_eq (c : Dev nD) :
    (dats m 0 c).arrAt 4 cfg0.N
      = Cert.FinalRefIdeal.Value.oV (Cert.FinalRefIdeal.Value.hV (m ((c.tc : Thread nD τ).loc main_arg0)) (m ((c.tc : Thread nD τ).loc main_arg1)) (m ((c.tc : Thread nD τ).loc main_arg2)))
          (m ((c.tc : Thread nD τ).loc main_arg3)) := by
  refine (Cert.FinalIdeal.Kernel.arr_eq m c).trans (funext fun (i : S2x16384x2048.Idx) => ?_)
  obtain ⟨b, t, j, rfl⟩ : ∃ (b : Fin 2) (t : Fin 16384) (j : Fin 2048), i = ix3 b t j := ⟨i 0, i 1, i 2, by funext a; fin_cases a <;> rfl⟩
  refine Eq.trans ?_ (Cert.FinalRefIdeal.Value.oV_at _ _ b t j).symm
  unfold Cert.FinalIdeal.Kernel.G
  have hn : (fun k : Fin 2048 => (V m c main_v0 (ix2 0 k) : EReal)) = fun k => (m ((c.tc : Thread nD τ).loc main_arg3) : S2048.Idx → EReal) (ix1 k) :=
    funext fun k => Cert.FinalIdeal.Kernel.nw_at m c k
  rw [hn, V_main_arg0, V_main_arg1, V_main_arg2]
  simp only [Cert.FinalRefIdeal.Value.hV_at]
  rfl
end

/-- The kernel and the reference end with equal results. -/
theorem algebraic : Cert.algebraic_FinalIdeal_FinalRefIdeal
    (hFinalIdeal := Cert.FinalIdeal.Gen.facts) (hFinalRefIdeal := Cert.FinalRefIdeal.Gen.facts) := by
  intro m g m' g' hp ha
  refine ⟨fun c => (Cert.FinalIdeal.Gen.dats m 0 c).arrAt 4 Cert.FinalIdeal.cfg0.N, Cert.FinalIdeal.Value.run_blocks (F := Ideal) m g, ?_⟩
  refine (θ_run _ _ _).mono (fun r h c => ⟨(h c).1.trans ?_, (h c).2⟩) (Cert.FinalRefIdeal.Value.run (F := Ideal) m' g')
  obtain ⟨a0, a1, a2, a3⟩ := ha c
  rw [a0, a1, a2, a3]
  exact (result_eq m c).symm

end Cert.FinalClaims

end
-- ==== Proof.lean ====
/- The proof of the certificate's claim. -/
module

public import proofs.«01_k».proof.Defs
public import proofs.«01_k».proof.Proof.Win.Claims
public import proofs.«01_k».proof.Proof.Mix.Claims
public import proofs.«01_k».proof.Proof.Proj.Claims
public import proofs.«01_k».proof.Proof.Query.Claims
public import proofs.«01_k».proof.Proof.Cmp.Claims
public import proofs.«01_k».proof.Proof.Final.Claims
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Win.Gen.facts, Cert.WinIdeal.Gen.facts, Cert.WinRefIdeal.Gen.facts, Cert.Proj.Gen.facts, Cert.ProjIdeal.Gen.facts, Cert.ProjRefIdeal.Gen.facts,
    Cert.Query.Gen.facts, Cert.QueryIdeal.Gen.facts, Cert.QueryRefIdeal.Gen.facts, Cert.Mix.Gen.facts, Cert.MixIdeal.Gen.facts, Cert.MixRefIdeal.Gen.facts,
    Cert.Final.Gen.facts, Cert.FinalIdeal.Gen.facts, Cert.FinalRefIdeal.Gen.facts,
    Cert.Cmp.Gen.facts, Cert.CmpIdeal.Gen.facts, Cert.CmpRefIdeal.Gen.facts,
    Cert.Pre_finite_scores.Gen.facts, Cert.CmpPre.facts,
    fun m g _ => Cert.Win.Gen.frame m g, fun m g _ => Cert.WinIdeal.Gen.frame m g, fun m g _ => Cert.WinIdeal.Gen.frame m g,
    fun m g _ => Cert.WinClaims.frame_ref m g, fun m g _ => Cert.WinClaims.frame_ref m g,
    Cert.ProjClaims.frame, Cert.ProjClaims.frame_ideal, Cert.ProjClaims.frame_ref,
    Cert.QueryClaims.frame, Cert.QueryClaims.frame_ideal, Cert.QueryClaims.frame_ref,
    fun m g _ => Cert.Mix.Gen.frame m g, fun m g _ => Cert.MixIdeal.Gen.frame m g, Cert.MixClaims.frame_ref,
    fun m g _ => Cert.Final.Gen.frame m g, fun m g _ => Cert.FinalIdeal.Gen.frame m g, Cert.FinalClaims.frame_ref,
    fun m g _ => Cert.Cmp.Gen.frame m g, fun m g _ => Cert.CmpIdeal.Gen.frame m g, fun m g _ => Cert.CmpIdeal.Gen.frame m g,
    fun m g _ => Cert.CmpClaims.frame_ref m g, fun m g _ => Cert.CmpClaims.frame_ref m g,
    Cert.WinClaims.preserves, Cert.WinClaims.algebraic, trivial, Cert.ProjClaims.algebraic,
    trivial, Cert.QueryClaims.algebraic, trivial, Cert.MixClaims.algebraic,
    trivial, Cert.FinalClaims.algebraic,
    Cert.CmpClaims.preserves, Cert.CmpClaims.algebraic⟩

end Cert.Proof

end
